-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 8192, 8, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x512 : Shape := ⟨2, ![768, 512]⟩
abbrev S2x8192x8x64 : Shape := ⟨4, ![2, 8192, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_

variable [Facts]

def fn {F : FTy → Type} [FloatOps F] (main_arg0 : FVec F S2x512x768 .f32) (main_arg1 : FVec F S768x512 .f32) (main_arg2 : FVec F S2x8192x8x64 .f32) (main_arg3 : FVec F S2x8192x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x8192x8x64 .f32 := Host.absf main_arg2
  let main_cst_2 : FVec F S_ .f32 := constant S_ .f32 0x7F800000#32
  let main_v10 : FVec F S2x8192x8x64 .f32 := broadcastInDim S2x8192x8x64 ![] bcast_S_S2x8192x8x64 main_cst_2
  let main_v11 : IVec S2x8192x8x64 1 := cmpf .olt main_v9 main_v10
  let main_c_3 : IVec S_ 1 := constantI S_ 1 1#1
  let main_v12 : IVec S_ 1 := (fun x v => Host.reduce IntOp.andi x v reducesTo_S2x8192x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S16x512x64 : Shape := ⟨3, ![16, 512, 64]⟩
abbrev S512x16 : Shape := ⟨2, ![512, 16]⟩
abbrev S4x68x32x64 : Shape := ⟨4, ![4, 68, 32, 64]⟩
abbrev S68x32x64 : Shape := ⟨3, ![68, 32, 64]⟩
abbrev S4x17x32x64 : Shape := ⟨4, ![4, 17, 32, 64]⟩
abbrev S16x32x64 : Shape := ⟨3, ![16, 32, 64]⟩
abbrev S4x16x32x64 : Shape := ⟨4, ![4, 16, 32, 64]⟩
abbrev S64x32x64 : Shape := ⟨3, ![64, 32, 64]⟩
abbrev S4x64x32x64 : Shape := ⟨4, ![4, 64, 32, 64]⟩
abbrev S4 : Shape := ⟨1, ![4]⟩
abbrev S_ : Shape := ⟨0, ![]⟩
abbrev S512x512 : Shape := ⟨2, ![512, 512]⟩
abbrev S1x512x768 : Shape := ⟨3, ![1, 512, 768]⟩
abbrev S1x512x8x64 : Shape := ⟨4, ![1, 512, 8, 64]⟩
abbrev S512x8x64 : Shape := ⟨3, ![512, 8, 64]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1x16x32x64 : Shape := ⟨4, ![1, 16, 32, 64]⟩
abbrev S32x16 : Shape := ⟨2, ![32, 16]⟩
abbrev S1x1x32x16 : Shape := ⟨4, ![1, 1, 32, 16]⟩
abbrev S1 : Shape := ⟨1, ![1]⟩
abbrev S1x68x32x64 : Shape := ⟨4, ![1, 68, 32, 64]⟩
abbrev S1x32x16 : Shape := ⟨3, ![1, 32, 16]⟩
abbrev S17x32x64 : Shape := ⟨3, ![17, 32, 64]⟩
abbrev S1x17x32x64 : Shape := ⟨4, ![1, 17, 32, 64]⟩
abbrev S1x32x64 : Shape := ⟨3, ![1, 32, 64]⟩
abbrev S32x64 : Shape := ⟨2, ![32, 64]⟩
abbrev S1x32x1 : Shape := ⟨3, ![1, 32, 1]⟩
abbrev S32x1 : Shape := ⟨2, ![32, 1]⟩
abbrev S1x64x32x64 : Shape := ⟨4, ![1, 64, 32, 64]⟩
abbrev S64x768 : Shape := ⟨2, ![64, 768]⟩

abbrev nBuf : Space → Nat
  | .hbm => 6
  | .vmem => 18
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S16x512x64, .f32⟩
  | .local _ .vmem, ⟨7, _⟩ => ⟨S512x16, .f32⟩
  | .local _ .vmem, ⟨8, _⟩ => ⟨S4x68x32x64, .bf16⟩
  | .local _ .vmem, ⟨9, _⟩ => ⟨S4x68x32x64, .bf16⟩
  | .local _ .vmem, ⟨10, _⟩ => ⟨S68x32x64, .f32⟩
  | .local _ .vmem, ⟨11, _⟩ => ⟨S4x17x32x64, .bf16⟩
  | .local _ .vmem, ⟨12, _⟩ => ⟨S4x17x32x64, .bf16⟩
  | .local _ .vmem, ⟨13, _⟩ => ⟨S16x32x64, .bf16⟩
  | .local _ .vmem, ⟨14, _⟩ => ⟨S4x16x32x64, .bf16⟩
  | .local _ .vmem, ⟨15, _⟩ => ⟨S64x32x64, .bf16⟩
  | .local _ .vmem, ⟨16, _⟩ => ⟨S4x64x32x64, .bf16⟩
  | .local _ .vmem, ⟨17, _⟩ => ⟨S16x512x64, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v31 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v32 : BitVec 32 := Scalar.addi v29 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_22 : BitVec 32 := 1#32
  let v46 : BitVec 32 := Scalar.addi v19 c1_i32_22
  let c4_i32_23 : BitVec 32 := 4#32
  let c0_i32_24 : BitVec 32 := 0#32
  let v47 : BitVec 1 := Scalar.cmpi .eq c4_i32_23 c0_i32_24
  let c1_i32_25 : BitVec 32 := 1#32
  let v48 : BitVec 32 := Scalar.select v47 c1_i32_25 c4_i32_23
  let v49 : BitVec 32 := Scalar.remsi v46 v48
  let c0_i32_27 : BitVec 32 := 0#32
  let v51 : BitVec 1 := Scalar.cmpi .slt v49 c0_i32_27
  let c0_i32_28 : BitVec 32 := 0#32
  let v52 : BitVec 1 := Scalar.cmpi .slt v48 c0_i32_28
  let v53 : BitVec 1 := Scalar.xori v51 v52
  let c0_i32_26 : BitVec 32 := 0#32
  let v50 : BitVec 1 := Scalar.cmpi .ne v49 c0_i32_26
  let v54 : BitVec 1 := Scalar.andi v53 v50
  let v55 : BitVec 32 := Scalar.addi v49 v48
  let v56 : BitVec 32 := Scalar.select v54 v55 v49
  let c4_i32_29 : BitVec 32 := 4#32
  let v57 : BitVec 32 := Scalar.muli v56 c4_i32_29
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_31 : BitVec 32 := 1#32
  let v59 : BitVec 32 := Scalar.muli v58 c1_i32_31
  let v60 : BitVec 32 := Scalar.addi c0_i32_32 v59
  v60.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_33 : BitVec 32 := 4#32
  let v61 : BitVec 32 := Scalar.muli v19 c4_i32_33
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v62 : BitVec 32 := Scalar.addi v29 c2_i32
  let c4_i32_34 : BitVec 32 := 4#32
  let c0_i32_35 : BitVec 32 := 0#32
  let v63 : BitVec 1 := Scalar.cmpi .eq c4_i32_34 c0_i32_35
  let c1_i32_36 : BitVec 32 := 1#32
  let v64 : BitVec 32 := Scalar.select v63 c1_i32_36 c4_i32_34
  let v65 : BitVec 32 := Scalar.remsi v62 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let v73 : BitVec 32 := Scalar.addi v61 v72
  let c1_i32_41 : BitVec 32 := 1#32
  let v74 : BitVec 32 := Scalar.muli v73 c1_i32_41
  let v75 : BitVec 32 := Scalar.addi c0_i32_42 v74
  v75.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_43 : BitVec 32 := 2#32
  let v76 : BitVec 32 := Scalar.addi v19 c2_i32_43
  let c4_i32_44 : BitVec 32 := 4#32
  let c0_i32_45 : BitVec 32 := 0#32
  let v77 : BitVec 1 := Scalar.cmpi .eq c4_i32_44 c0_i32_45
  let c1_i32_46 : BitVec 32 := 1#32
  let v78 : BitVec 32 := Scalar.select v77 c1_i32_46 c4_i32_44
  let v79 : BitVec 32 := Scalar.remsi v76 v78
  let c0_i32_48 : BitVec 32 := 0#32
  let v81 : BitVec 1 := Scalar.cmpi .slt v79 c0_i32_48
  let c0_i32_49 : BitVec 32 := 0#32
  let v82 : BitVec 1 := Scalar.cmpi .slt v78 c0_i32_49
  let v83 : BitVec 1 := Scalar.xori v81 v82
  let c0_i32_47 : BitVec 32 := 0#32
  let v80 : BitVec 1 := Scalar.cmpi .ne v79 c0_i32_47
  let v84 : BitVec 1 := Scalar.andi v83 v80
  let v85 : BitVec 32 := Scalar.addi v79 v78
  let v86 : BitVec 32 := Scalar.select v84 v85 v79
  let c4_i32_50 : BitVec 32 := 4#32
  let v87 : BitVec 32 := Scalar.muli v86 c4_i32_50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_52 : BitVec 32 := 1#32
  let v89 : BitVec 32 := Scalar.muli v88 c1_i32_52
  let v90 : BitVec 32 := Scalar.addi c0_i32_53 v89
  v90.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_54 : BitVec 32 := 4#32
  let v91 : BitVec 32 := Scalar.muli v19 c4_i32_54
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v92 : BitVec 32 := Scalar.addi v29 c3_i32
  let c4_i32_55 : BitVec 32 := 4#32
  let c0_i32_56 : BitVec 32 := 0#32
  let v93 : BitVec 1 := Scalar.cmpi .eq c4_i32_55 c0_i32_56
  let c1_i32_57 : BitVec 32 := 1#32
  let v94 : BitVec 32 := Scalar.select v93 c1_i32_57 c4_i32_55
  let v95 : BitVec 32 := Scalar.remsi v92 v94
  let c0_i32_59 : BitVec 32 := 0#32
  let v97 : BitVec 1 := Scalar.cmpi .slt v95 c0_i32_59
  let c0_i32_60 : BitVec 32 := 0#32
  let v98 : BitVec 1 := Scalar.cmpi .slt v94 c0_i32_60
  let v99 : BitVec 1 := Scalar.xori v97 v98
  let c0_i32_58 : BitVec 32 := 0#32
  let v96 : BitVec 1 := Scalar.cmpi .ne v95 c0_i32_58
  let v100 : BitVec 1 := Scalar.andi v99 v96
  let v101 : BitVec 32 := Scalar.addi v95 v94
  let v102 : BitVec 32 := Scalar.select v100 v101 v95
  let v103 : BitVec 32 := Scalar.addi v91 v102
  let c1_i32_62 : BitVec 32 := 1#32
  let v104 : BitVec 32 := Scalar.muli v103 c1_i32_62
  let v105 : BitVec 32 := Scalar.addi c0_i32_63 v104
  v105.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_64 : BitVec 32 := 3#32
  let v106 : BitVec 32 := Scalar.addi v19 c3_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c4_i32_71 : BitVec 32 := 4#32
  let v117 : BitVec 32 := Scalar.muli v116 c4_i32_71
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi v117 v29
  let c1_i32_73 : BitVec 32 := 1#32
  let v119 : BitVec 32 := Scalar.muli v118 c1_i32_73
  let v120 : BitVec 32 := Scalar.addi c0_i32_74 v119
  v120.toNat
def k0_off1 (d0 : Dev nD) (c0_i32_276 : BitVec 32) (c1_i32_269 : BitVec 32) : Fin 3 → Nat :=
  let c0_277 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v537 : BitVec 32 := Scalar.addi v29 c1_i32_269
  let c4_i32_270 : BitVec 32 := 4#32
  let c0_i32_271 : BitVec 32 := 0#32
  let v538 : BitVec 1 := Scalar.cmpi .eq c4_i32_270 c0_i32_271
  let c1_i32_272 : BitVec 32 := 1#32
  let v539 : BitVec 32 := Scalar.select v538 c1_i32_272 c4_i32_270
  let v540 : BitVec 32 := Scalar.remsi v537 v539
  let c0_i32_274 : BitVec 32 := 0#32
  let v542 : BitVec 1 := Scalar.cmpi .slt v540 c0_i32_274
  let c0_i32_275 : BitVec 32 := 0#32
  let v543 : BitVec 1 := Scalar.cmpi .slt v539 c0_i32_275
  let v544 : BitVec 1 := Scalar.xori v542 v543
  let c0_i32_273 : BitVec 32 := 0#32
  let v541 : BitVec 1 := Scalar.cmpi .ne v540 c0_i32_273
  let v545 : BitVec 1 := Scalar.andi v544 v541
  let v546 : BitVec 32 := Scalar.addi v540 v539
  let v547 : BitVec 32 := Scalar.select v545 v546 v540
  let v548 : BitVec 32 := Scalar.addi c0_i32_276 v547
  let c32_i32 : BitVec 32 := 32#32
  let v549 : BitVec 32 := Scalar.muli v548 c32_i32
  let v550 : Index := Scalar.indexCast v549
  let c0_278 : Index := 0#32
  ![0, v550.toNat, 0]
def k0_off2 (d0 : Dev nD) (c0_i32_276 : BitVec 32) (c1_i32_269 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v537 : BitVec 32 := Scalar.addi v29 c1_i32_269
  let c4_i32_270 : BitVec 32 := 4#32
  let c0_i32_271 : BitVec 32 := 0#32
  let v538 : BitVec 1 := Scalar.cmpi .eq c4_i32_270 c0_i32_271
  let c1_i32_272 : BitVec 32 := 1#32
  let v539 : BitVec 32 := Scalar.select v538 c1_i32_272 c4_i32_270
  let v540 : BitVec 32 := Scalar.remsi v537 v539
  let c0_i32_274 : BitVec 32 := 0#32
  let v542 : BitVec 1 := Scalar.cmpi .slt v540 c0_i32_274
  let c0_i32_275 : BitVec 32 := 0#32
  let v543 : BitVec 1 := Scalar.cmpi .slt v539 c0_i32_275
  let v544 : BitVec 1 := Scalar.xori v542 v543
  let c0_i32_273 : BitVec 32 := 0#32
  let v541 : BitVec 1 := Scalar.cmpi .ne v540 c0_i32_273
  let v545 : BitVec 1 := Scalar.andi v544 v541
  let v546 : BitVec 32 := Scalar.addi v540 v539
  let v547 : BitVec 32 := Scalar.select v545 v546 v540
  let v548 : BitVec 32 := Scalar.addi c0_i32_276 v547
  let c32_i32_283 : BitVec 32 := 32#32
  let v556 : BitVec 32 := Scalar.muli v548 c32_i32_283
  let v557 : Index := Scalar.indexCast v556
  let c0_284 : Index := 0#32
  ![v557.toNat, 0]
def k0_dev7 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_448 : BitVec 32 := 4#32
  let v750 : BitVec 32 := Scalar.muli v19 c4_i32_448
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_449 : BitVec 32 := 1#32
  let v751 : BitVec 32 := Scalar.addi v29 c1_i32_449
  let c4_i32_450 : BitVec 32 := 4#32
  let c0_i32_451 : BitVec 32 := 0#32
  let v752 : BitVec 1 := Scalar.cmpi .eq c4_i32_450 c0_i32_451
  let c1_i32_452 : BitVec 32 := 1#32
  let v753 : BitVec 32 := Scalar.select v752 c1_i32_452 c4_i32_450
  let v754 : BitVec 32 := Scalar.remsi v751 v753
  let c0_i32_454 : BitVec 32 := 0#32
  let v756 : BitVec 1 := Scalar.cmpi .slt v754 c0_i32_454
  let c0_i32_455 : BitVec 32 := 0#32
  let v757 : BitVec 1 := Scalar.cmpi .slt v753 c0_i32_455
  let v758 : BitVec 1 := Scalar.xori v756 v757
  let c0_i32_453 : BitVec 32 := 0#32
  let v755 : BitVec 1 := Scalar.cmpi .ne v754 c0_i32_453
  let v759 : BitVec 1 := Scalar.andi v758 v755
  let v760 : BitVec 32 := Scalar.addi v754 v753
  let v761 : BitVec 32 := Scalar.select v759 v760 v754
  let v762 : BitVec 32 := Scalar.addi v750 v761
  let c1_i32_460 : BitVec 32 := 1#32
  let v763 : BitVec 32 := Scalar.muli v762 c1_i32_460
  let v764 : BitVec 32 := Scalar.addi c0_i32_461 v763
  v764.toNat
def k0_dev8 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_468 : BitVec 32 := 4#32
  let v773 : BitVec 32 := Scalar.muli v19 c4_i32_468
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_469 : BitVec 32 := 2#32
  let v774 : BitVec 32 := Scalar.addi v29 c2_i32_469
  let c4_i32_470 : BitVec 32 := 4#32
  let c0_i32_471 : BitVec 32 := 0#32
  let v775 : BitVec 1 := Scalar.cmpi .eq c4_i32_470 c0_i32_471
  let c1_i32_472 : BitVec 32 := 1#32
  let v776 : BitVec 32 := Scalar.select v775 c1_i32_472 c4_i32_470
  let v777 : BitVec 32 := Scalar.remsi v774 v776
  let c0_i32_474 : BitVec 32 := 0#32
  let v779 : BitVec 1 := Scalar.cmpi .slt v777 c0_i32_474
  let c0_i32_475 : BitVec 32 := 0#32
  let v780 : BitVec 1 := Scalar.cmpi .slt v776 c0_i32_475
  let v781 : BitVec 1 := Scalar.xori v779 v780
  let c0_i32_473 : BitVec 32 := 0#32
  let v778 : BitVec 1 := Scalar.cmpi .ne v777 c0_i32_473
  let v782 : BitVec 1 := Scalar.andi v781 v778
  let v783 : BitVec 32 := Scalar.addi v777 v776
  let v784 : BitVec 32 := Scalar.select v782 v783 v777
  let v785 : BitVec 32 := Scalar.addi v773 v784
  let c1_i32_480 : BitVec 32 := 1#32
  let v786 : BitVec 32 := Scalar.muli v785 c1_i32_480
  let v787 : BitVec 32 := Scalar.addi c0_i32_481 v786
  v787.toNat
def k0_dev9 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_488 : BitVec 32 := 4#32
  let v796 : BitVec 32 := Scalar.muli v19 c4_i32_488
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_489 : BitVec 32 := 3#32
  let v797 : BitVec 32 := Scalar.addi v29 c3_i32_489
  let c4_i32_490 : BitVec 32 := 4#32
  let c0_i32_491 : BitVec 32 := 0#32
  let v798 : BitVec 1 := Scalar.cmpi .eq c4_i32_490 c0_i32_491
  let c1_i32_492 : BitVec 32 := 1#32
  let v799 : BitVec 32 := Scalar.select v798 c1_i32_492 c4_i32_490
  let v800 : BitVec 32 := Scalar.remsi v797 v799
  let c0_i32_494 : BitVec 32 := 0#32
  let v802 : BitVec 1 := Scalar.cmpi .slt v800 c0_i32_494
  let c0_i32_495 : BitVec 32 := 0#32
  let v803 : BitVec 1 := Scalar.cmpi .slt v799 c0_i32_495
  let v804 : BitVec 1 := Scalar.xori v802 v803
  let c0_i32_493 : BitVec 32 := 0#32
  let v801 : BitVec 1 := Scalar.cmpi .ne v800 c0_i32_493
  let v805 : BitVec 1 := Scalar.andi v804 v801
  let v806 : BitVec 32 := Scalar.addi v800 v799
  let v807 : BitVec 32 := Scalar.select v805 v806 v800
  let v808 : BitVec 32 := Scalar.addi v796 v807
  let c1_i32_500 : BitVec 32 := 1#32
  let v809 : BitVec 32 := Scalar.muli v808 c1_i32_500
  let v810 : BitVec 32 := Scalar.addi c0_i32_501 v809
  v810.toNat
def k0_off3 (d0 : Dev nD) (c0_i32_508 : BitVec 32) : Fin 3 → Nat :=
  let c0_510 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v819 : BitVec 32 := Scalar.addi c0_i32_508 v29
  let c32_i32_509 : BitVec 32 := 32#32
  let v820 : BitVec 32 := Scalar.muli v819 c32_i32_509
  let v821 : Index := Scalar.indexCast v820
  let c0_511 : Index := 0#32
  ![0, v821.toNat, 0]
def k0_off4 (d0 : Dev nD) (c0_i32_508 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v819 : BitVec 32 := Scalar.addi c0_i32_508 v29
  let c32_i32_515 : BitVec 32 := 32#32
  let v826 : BitVec 32 := Scalar.muli v819 c32_i32_515
  let v827 : Index := Scalar.indexCast v826
  let c0_516 : Index := 0#32
  ![v827.toNat, 0]
def k0_off5 (d0 : Dev nD) (c1_i32_622 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v919 : BitVec 32 := Scalar.addi v19 c1_i32_622
  let c4_i32_623 : BitVec 32 := 4#32
  let c0_i32_624 : BitVec 32 := 0#32
  let v920 : BitVec 1 := Scalar.cmpi .eq c4_i32_623 c0_i32_624
  let c1_i32_625 : BitVec 32 := 1#32
  let v921 : BitVec 32 := Scalar.select v920 c1_i32_625 c4_i32_623
  let v922 : BitVec 32 := Scalar.remsi v919 v921
  let c0_i32_627 : BitVec 32 := 0#32
  let v924 : BitVec 1 := Scalar.cmpi .slt v922 c0_i32_627
  let c0_i32_628 : BitVec 32 := 0#32
  let v925 : BitVec 1 := Scalar.cmpi .slt v921 c0_i32_628
  let v926 : BitVec 1 := Scalar.xori v924 v925
  let c0_i32_626 : BitVec 32 := 0#32
  let v923 : BitVec 1 := Scalar.cmpi .ne v922 c0_i32_626
  let v927 : BitVec 1 := Scalar.andi v926 v923
  let v928 : BitVec 32 := Scalar.addi v922 v921
  let v929 : BitVec 32 := Scalar.select v927 v928 v922
  let c17_i32 : BitVec 32 := 17#32
  let v930 : BitVec 32 := Scalar.muli v929 c17_i32
  let v931 : Index := Scalar.indexCast v930
  let c0_629 : Index := 0#32
  let c0_630 : Index := 0#32
  ![v931.toNat, 0, 0]
def k0_dev10 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_663 : BitVec 32 := 1#32
  let v973 : BitVec 32 := Scalar.addi v19 c1_i32_663
  let c4_i32_664 : BitVec 32 := 4#32
  let c0_i32_665 : BitVec 32 := 0#32
  let v974 : BitVec 1 := Scalar.cmpi .eq c4_i32_664 c0_i32_665
  let c1_i32_666 : BitVec 32 := 1#32
  let v975 : BitVec 32 := Scalar.select v974 c1_i32_666 c4_i32_664
  let v976 : BitVec 32 := Scalar.remsi v973 v975
  let c0_i32_668 : BitVec 32 := 0#32
  let v978 : BitVec 1 := Scalar.cmpi .slt v976 c0_i32_668
  let c0_i32_669 : BitVec 32 := 0#32
  let v979 : BitVec 1 := Scalar.cmpi .slt v975 c0_i32_669
  let v980 : BitVec 1 := Scalar.xori v978 v979
  let c0_i32_667 : BitVec 32 := 0#32
  let v977 : BitVec 1 := Scalar.cmpi .ne v976 c0_i32_667
  let v981 : BitVec 1 := Scalar.andi v980 v977
  let v982 : BitVec 32 := Scalar.addi v976 v975
  let v983 : BitVec 32 := Scalar.select v981 v982 v976
  let c4_i32_670 : BitVec 32 := 4#32
  let v984 : BitVec 32 := Scalar.muli v983 c4_i32_670
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v985 : BitVec 32 := Scalar.addi v984 v29
  let c1_i32_675 : BitVec 32 := 1#32
  let v986 : BitVec 32 := Scalar.muli v985 c1_i32_675
  let v987 : BitVec 32 := Scalar.addi c0_i32_676 v986
  v987.toNat
def k0_dev11 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_683 : BitVec 32 := 2#32
  let v996 : BitVec 32 := Scalar.addi v19 c2_i32_683
  let c4_i32_684 : BitVec 32 := 4#32
  let c0_i32_685 : BitVec 32 := 0#32
  let v997 : BitVec 1 := Scalar.cmpi .eq c4_i32_684 c0_i32_685
  let c1_i32_686 : BitVec 32 := 1#32
  let v998 : BitVec 32 := Scalar.select v997 c1_i32_686 c4_i32_684
  let v999 : BitVec 32 := Scalar.remsi v996 v998
  let c0_i32_688 : BitVec 32 := 0#32
  let v1001 : BitVec 1 := Scalar.cmpi .slt v999 c0_i32_688
  let c0_i32_689 : BitVec 32 := 0#32
  let v1002 : BitVec 1 := Scalar.cmpi .slt v998 c0_i32_689
  let v1003 : BitVec 1 := Scalar.xori v1001 v1002
  let c0_i32_687 : BitVec 32 := 0#32
  let v1000 : BitVec 1 := Scalar.cmpi .ne v999 c0_i32_687
  let v1004 : BitVec 1 := Scalar.andi v1003 v1000
  let v1005 : BitVec 32 := Scalar.addi v999 v998
  let v1006 : BitVec 32 := Scalar.select v1004 v1005 v999
  let c4_i32_690 : BitVec 32 := 4#32
  let v1007 : BitVec 32 := Scalar.muli v1006 c4_i32_690
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1008 : BitVec 32 := Scalar.addi v1007 v29
  let c1_i32_695 : BitVec 32 := 1#32
  let v1009 : BitVec 32 := Scalar.muli v1008 c1_i32_695
  let v1010 : BitVec 32 := Scalar.addi c0_i32_696 v1009
  v1010.toNat
def k0_dev12 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_703 : BitVec 32 := 3#32
  let v1019 : BitVec 32 := Scalar.addi v19 c3_i32_703
  let c4_i32_704 : BitVec 32 := 4#32
  let c0_i32_705 : BitVec 32 := 0#32
  let v1020 : BitVec 1 := Scalar.cmpi .eq c4_i32_704 c0_i32_705
  let c1_i32_706 : BitVec 32 := 1#32
  let v1021 : BitVec 32 := Scalar.select v1020 c1_i32_706 c4_i32_704
  let v1022 : BitVec 32 := Scalar.remsi v1019 v1021
  let c0_i32_708 : BitVec 32 := 0#32
  let v1024 : BitVec 1 := Scalar.cmpi .slt v1022 c0_i32_708
  let c0_i32_709 : BitVec 32 := 0#32
  let v1025 : BitVec 1 := Scalar.cmpi .slt v1021 c0_i32_709
  let v1026 : BitVec 1 := Scalar.xori v1024 v1025
  let c0_i32_707 : BitVec 32 := 0#32
  let v1023 : BitVec 1 := Scalar.cmpi .ne v1022 c0_i32_707
  let v1027 : BitVec 1 := Scalar.andi v1026 v1023
  let v1028 : BitVec 32 := Scalar.addi v1022 v1021
  let v1029 : BitVec 32 := Scalar.select v1027 v1028 v1022
  let c4_i32_710 : BitVec 32 := 4#32
  let v1030 : BitVec 32 := Scalar.muli v1029 c4_i32_710
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1031 : BitVec 32 := Scalar.addi v1030 v29
  let c1_i32_715 : BitVec 32 := 1#32
  let v1032 : BitVec 32 := Scalar.muli v1031 c1_i32_715
  let v1033 : BitVec 32 := Scalar.addi c0_i32_716 v1032
  v1033.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c17_i32_723 : BitVec 32 := 17#32
  let v1042 : BitVec 32 := Scalar.muli v19 c17_i32_723
  let v1043 : Index := Scalar.indexCast v1042
  let c0_724 : Index := 0#32
  let c0_725 : Index := 0#32
  ![v1043.toNat, 0, 0]
def k0_dev13 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_822 : BitVec 32 := 1#32
  let v1241 : BitVec 32 := Scalar.addi v19 c1_i32_822
  let c4_i32_823 : BitVec 32 := 4#32
  let c0_i32_824 : BitVec 32 := 0#32
  let v1242 : BitVec 1 := Scalar.cmpi .eq c4_i32_823 c0_i32_824
  let c1_i32_825 : BitVec 32 := 1#32
  let v1243 : BitVec 32 := Scalar.select v1242 c1_i32_825 c4_i32_823
  let v1244 : BitVec 32 := Scalar.remsi v1241 v1243
  let c0_i32_827 : BitVec 32 := 0#32
  let v1246 : BitVec 1 := Scalar.cmpi .slt v1244 c0_i32_827
  let c0_i32_828 : BitVec 32 := 0#32
  let v1247 : BitVec 1 := Scalar.cmpi .slt v1243 c0_i32_828
  let v1248 : BitVec 1 := Scalar.xori v1246 v1247
  let c0_i32_826 : BitVec 32 := 0#32
  let v1245 : BitVec 1 := Scalar.cmpi .ne v1244 c0_i32_826
  let v1249 : BitVec 1 := Scalar.andi v1248 v1245
  let v1250 : BitVec 32 := Scalar.addi v1244 v1243
  let v1251 : BitVec 32 := Scalar.select v1249 v1250 v1244
  let c4_i32_829 : BitVec 32 := 4#32
  let v1252 : BitVec 32 := Scalar.muli v1251 c4_i32_829
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1253 : BitVec 32 := Scalar.addi v1252 v29
  let c1_i32_833 : BitVec 32 := 1#32
  let v1254 : BitVec 32 := Scalar.muli v1253 c1_i32_833
  let v1255 : BitVec 32 := Scalar.addi c0_i32_834 v1254
  v1255.toNat
def k0_dev14 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_838 : BitVec 32 := 2#32
  let v1262 : BitVec 32 := Scalar.addi v19 c2_i32_838
  let c4_i32_839 : BitVec 32 := 4#32
  let c0_i32_840 : BitVec 32 := 0#32
  let v1263 : BitVec 1 := Scalar.cmpi .eq c4_i32_839 c0_i32_840
  let c1_i32_841 : BitVec 32 := 1#32
  let v1264 : BitVec 32 := Scalar.select v1263 c1_i32_841 c4_i32_839
  let v1265 : BitVec 32 := Scalar.remsi v1262 v1264
  let c0_i32_843 : BitVec 32 := 0#32
  let v1267 : BitVec 1 := Scalar.cmpi .slt v1265 c0_i32_843
  let c0_i32_844 : BitVec 32 := 0#32
  let v1268 : BitVec 1 := Scalar.cmpi .slt v1264 c0_i32_844
  let v1269 : BitVec 1 := Scalar.xori v1267 v1268
  let c0_i32_842 : BitVec 32 := 0#32
  let v1266 : BitVec 1 := Scalar.cmpi .ne v1265 c0_i32_842
  let v1270 : BitVec 1 := Scalar.andi v1269 v1266
  let v1271 : BitVec 32 := Scalar.addi v1265 v1264
  let v1272 : BitVec 32 := Scalar.select v1270 v1271 v1265
  let c4_i32_845 : BitVec 32 := 4#32
  let v1273 : BitVec 32 := Scalar.muli v1272 c4_i32_845
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1274 : BitVec 32 := Scalar.addi v1273 v29
  let c1_i32_849 : BitVec 32 := 1#32
  let v1275 : BitVec 32 := Scalar.muli v1274 c1_i32_849
  let v1276 : BitVec 32 := Scalar.addi c0_i32_850 v1275
  v1276.toNat
def k0_dev15 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_854 : BitVec 32 := 3#32
  let v1283 : BitVec 32 := Scalar.addi v19 c3_i32_854
  let c4_i32_855 : BitVec 32 := 4#32
  let c0_i32_856 : BitVec 32 := 0#32
  let v1284 : BitVec 1 := Scalar.cmpi .eq c4_i32_855 c0_i32_856
  let c1_i32_857 : BitVec 32 := 1#32
  let v1285 : BitVec 32 := Scalar.select v1284 c1_i32_857 c4_i32_855
  let v1286 : BitVec 32 := Scalar.remsi v1283 v1285
  let c0_i32_859 : BitVec 32 := 0#32
  let v1288 : BitVec 1 := Scalar.cmpi .slt v1286 c0_i32_859
  let c0_i32_860 : BitVec 32 := 0#32
  let v1289 : BitVec 1 := Scalar.cmpi .slt v1285 c0_i32_860
  let v1290 : BitVec 1 := Scalar.xori v1288 v1289
  let c0_i32_858 : BitVec 32 := 0#32
  let v1287 : BitVec 1 := Scalar.cmpi .ne v1286 c0_i32_858
  let v1291 : BitVec 1 := Scalar.andi v1290 v1287
  let v1292 : BitVec 32 := Scalar.addi v1286 v1285
  let v1293 : BitVec 32 := Scalar.select v1291 v1292 v1286
  let c4_i32_861 : BitVec 32 := 4#32
  let v1294 : BitVec 32 := Scalar.muli v1293 c4_i32_861
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1295 : BitVec 32 := Scalar.addi v1294 v29
  let c1_i32_865 : BitVec 32 := 1#32
  let v1296 : BitVec 32 := Scalar.muli v1295 c1_i32_865
  let v1297 : BitVec 32 := Scalar.addi c0_i32_866 v1296
  v1297.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c16_i32_873 : BitVec 32 := 16#32
  let v1305 : BitVec 32 := Scalar.muli v19 c16_i32_873
  let v1306 : Index := Scalar.indexCast v1305
  let c0_874 : Index := 0#32
  let c0_875 : Index := 0#32
  ![v1306.toNat, 0, 0]
def k0_off8 (d0 : Dev nD) : Fin 3 → Nat :=
  let c0_880 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_879 : BitVec 32 := 32#32
  let v1311 : BitVec 32 := Scalar.muli v2 c32_i32_879
  let v1312 : Index := Scalar.indexCast v1311
  let c0_881 : Index := 0#32
  ![0, v1312.toNat, 0]
def k0_off9 (d0 : Dev nD) (c1_i32_890 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1322 : BitVec 32 := Scalar.subi v19 c1_i32_890
  let c4_i32_891 : BitVec 32 := 4#32
  let c0_i32_892 : BitVec 32 := 0#32
  let v1323 : BitVec 1 := Scalar.cmpi .eq c4_i32_891 c0_i32_892
  let c1_i32_893 : BitVec 32 := 1#32
  let v1324 : BitVec 32 := Scalar.select v1323 c1_i32_893 c4_i32_891
  let v1325 : BitVec 32 := Scalar.remsi v1322 v1324
  let c0_i32_895 : BitVec 32 := 0#32
  let v1327 : BitVec 1 := Scalar.cmpi .slt v1325 c0_i32_895
  let c0_i32_896 : BitVec 32 := 0#32
  let v1328 : BitVec 1 := Scalar.cmpi .slt v1324 c0_i32_896
  let v1329 : BitVec 1 := Scalar.xori v1327 v1328
  let c0_i32_894 : BitVec 32 := 0#32
  let v1326 : BitVec 1 := Scalar.cmpi .ne v1325 c0_i32_894
  let v1330 : BitVec 1 := Scalar.andi v1329 v1326
  let v1331 : BitVec 32 := Scalar.addi v1325 v1324
  let v1332 : BitVec 32 := Scalar.select v1330 v1331 v1325
  let c16_i32_901 : BitVec 32 := 16#32
  let v1335 : BitVec 32 := Scalar.muli v1332 c16_i32_901
  let v1336 : Index := Scalar.indexCast v1335
  let c0_902 : Index := 0#32
  let c0_903 : Index := 0#32
  ![v1336.toNat, 0, 0]
def k0_off10 (d0 : Dev nD) (c1_i32_890 : BitVec 32) : Fin 3 → Nat :=
  let c0_910 : Index := 0#32
  let c4_i32_908 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1322 : BitVec 32 := Scalar.subi v19 c1_i32_890
  let c4_i32_891 : BitVec 32 := 4#32
  let c0_i32_892 : BitVec 32 := 0#32
  let v1323 : BitVec 1 := Scalar.cmpi .eq c4_i32_891 c0_i32_892
  let c1_i32_893 : BitVec 32 := 1#32
  let v1324 : BitVec 32 := Scalar.select v1323 c1_i32_893 c4_i32_891
  let v1325 : BitVec 32 := Scalar.remsi v1322 v1324
  let c0_i32_895 : BitVec 32 := 0#32
  let v1327 : BitVec 1 := Scalar.cmpi .slt v1325 c0_i32_895
  let c0_i32_896 : BitVec 32 := 0#32
  let v1328 : BitVec 1 := Scalar.cmpi .slt v1324 c0_i32_896
  let v1329 : BitVec 1 := Scalar.xori v1327 v1328
  let c0_i32_894 : BitVec 32 := 0#32
  let v1326 : BitVec 1 := Scalar.cmpi .ne v1325 c0_i32_894
  let v1330 : BitVec 1 := Scalar.andi v1329 v1326
  let v1331 : BitVec 32 := Scalar.addi v1325 v1324
  let v1332 : BitVec 32 := Scalar.select v1330 v1331 v1325
  let v1342 : BitVec 32 := Scalar.muli c4_i32_908 v1332
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1343 : BitVec 32 := Scalar.addi v1342 v29
  let c32_i32_909 : BitVec 32 := 32#32
  let v1344 : BitVec 32 := Scalar.muli v1343 c32_i32_909
  let v1345 : Index := Scalar.indexCast v1344
  let c0_911 : Index := 0#32
  ![0, v1345.toNat, 0]
def k0_dev16 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_972 : BitVec 32 := 4#32
  let v1415 : BitVec 32 := Scalar.muli v19 c4_i32_972
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_973 : BitVec 32 := 1#32
  let v1416 : BitVec 32 := Scalar.addi v29 c1_i32_973
  let c4_i32_974 : BitVec 32 := 4#32
  let c0_i32_975 : BitVec 32 := 0#32
  let v1417 : BitVec 1 := Scalar.cmpi .eq c4_i32_974 c0_i32_975
  let c1_i32_976 : BitVec 32 := 1#32
  let v1418 : BitVec 32 := Scalar.select v1417 c1_i32_976 c4_i32_974
  let v1419 : BitVec 32 := Scalar.remsi v1416 v1418
  let c0_i32_978 : BitVec 32 := 0#32
  let v1421 : BitVec 1 := Scalar.cmpi .slt v1419 c0_i32_978
  let c0_i32_979 : BitVec 32 := 0#32
  let v1422 : BitVec 1 := Scalar.cmpi .slt v1418 c0_i32_979
  let v1423 : BitVec 1 := Scalar.xori v1421 v1422
  let c0_i32_977 : BitVec 32 := 0#32
  let v1420 : BitVec 1 := Scalar.cmpi .ne v1419 c0_i32_977
  let v1424 : BitVec 1 := Scalar.andi v1423 v1420
  let v1425 : BitVec 32 := Scalar.addi v1419 v1418
  let v1426 : BitVec 32 := Scalar.select v1424 v1425 v1419
  let v1427 : BitVec 32 := Scalar.addi v1415 v1426
  let c1_i32_983 : BitVec 32 := 1#32
  let v1428 : BitVec 32 := Scalar.muli v1427 c1_i32_983
  let v1429 : BitVec 32 := Scalar.addi c0_i32_984 v1428
  v1429.toNat
def k0_dev17 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_988 : BitVec 32 := 4#32
  let v1436 : BitVec 32 := Scalar.muli v19 c4_i32_988
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_989 : BitVec 32 := 2#32
  let v1437 : BitVec 32 := Scalar.addi v29 c2_i32_989
  let c4_i32_990 : BitVec 32 := 4#32
  let c0_i32_991 : BitVec 32 := 0#32
  let v1438 : BitVec 1 := Scalar.cmpi .eq c4_i32_990 c0_i32_991
  let c1_i32_992 : BitVec 32 := 1#32
  let v1439 : BitVec 32 := Scalar.select v1438 c1_i32_992 c4_i32_990
  let v1440 : BitVec 32 := Scalar.remsi v1437 v1439
  let c0_i32_994 : BitVec 32 := 0#32
  let v1442 : BitVec 1 := Scalar.cmpi .slt v1440 c0_i32_994
  let c0_i32_995 : BitVec 32 := 0#32
  let v1443 : BitVec 1 := Scalar.cmpi .slt v1439 c0_i32_995
  let v1444 : BitVec 1 := Scalar.xori v1442 v1443
  let c0_i32_993 : BitVec 32 := 0#32
  let v1441 : BitVec 1 := Scalar.cmpi .ne v1440 c0_i32_993
  let v1445 : BitVec 1 := Scalar.andi v1444 v1441
  let v1446 : BitVec 32 := Scalar.addi v1440 v1439
  let v1447 : BitVec 32 := Scalar.select v1445 v1446 v1440
  let v1448 : BitVec 32 := Scalar.addi v1436 v1447
  let c1_i32_999 : BitVec 32 := 1#32
  let v1449 : BitVec 32 := Scalar.muli v1448 c1_i32_999
  let v1450 : BitVec 32 := Scalar.addi c0_i32_1000 v1449
  v1450.toNat
def k0_dev18 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1004 : BitVec 32 := 4#32
  let v1457 : BitVec 32 := Scalar.muli v19 c4_i32_1004
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1005 : BitVec 32 := 3#32
  let v1458 : BitVec 32 := Scalar.addi v29 c3_i32_1005
  let c4_i32_1006 : BitVec 32 := 4#32
  let c0_i32_1007 : BitVec 32 := 0#32
  let v1459 : BitVec 1 := Scalar.cmpi .eq c4_i32_1006 c0_i32_1007
  let c1_i32_1008 : BitVec 32 := 1#32
  let v1460 : BitVec 32 := Scalar.select v1459 c1_i32_1008 c4_i32_1006
  let v1461 : BitVec 32 := Scalar.remsi v1458 v1460
  let c0_i32_1010 : BitVec 32 := 0#32
  let v1463 : BitVec 1 := Scalar.cmpi .slt v1461 c0_i32_1010
  let c0_i32_1011 : BitVec 32 := 0#32
  let v1464 : BitVec 1 := Scalar.cmpi .slt v1460 c0_i32_1011
  let v1465 : BitVec 1 := Scalar.xori v1463 v1464
  let c0_i32_1009 : BitVec 32 := 0#32
  let v1462 : BitVec 1 := Scalar.cmpi .ne v1461 c0_i32_1009
  let v1466 : BitVec 1 := Scalar.andi v1465 v1462
  let v1467 : BitVec 32 := Scalar.addi v1461 v1460
  let v1468 : BitVec 32 := Scalar.select v1466 v1467 v1461
  let v1469 : BitVec 32 := Scalar.addi v1457 v1468
  let c1_i32_1015 : BitVec 32 := 1#32
  let v1470 : BitVec 32 := Scalar.muli v1469 c1_i32_1015
  let v1471 : BitVec 32 := Scalar.addi c0_i32_1016 v1470
  v1471.toNat
def k0_off11 (d0 : Dev nD) (c0_i32_1039 : BitVec 32) (c1_i32_1028 : BitVec 32) : Fin 3 → Nat :=
  let c0_1041 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1484 : BitVec 32 := Scalar.subi v29 c1_i32_1028
  let c4_i32_1029 : BitVec 32 := 4#32
  let c0_i32_1030 : BitVec 32 := 0#32
  let v1485 : BitVec 1 := Scalar.cmpi .eq c4_i32_1029 c0_i32_1030
  let c1_i32_1031 : BitVec 32 := 1#32
  let v1486 : BitVec 32 := Scalar.select v1485 c1_i32_1031 c4_i32_1029
  let v1487 : BitVec 32 := Scalar.remsi v1484 v1486
  let c0_i32_1033 : BitVec 32 := 0#32
  let v1489 : BitVec 1 := Scalar.cmpi .slt v1487 c0_i32_1033
  let c0_i32_1034 : BitVec 32 := 0#32
  let v1490 : BitVec 1 := Scalar.cmpi .slt v1486 c0_i32_1034
  let v1491 : BitVec 1 := Scalar.xori v1489 v1490
  let c0_i32_1032 : BitVec 32 := 0#32
  let v1488 : BitVec 1 := Scalar.cmpi .ne v1487 c0_i32_1032
  let v1492 : BitVec 1 := Scalar.andi v1491 v1488
  let v1493 : BitVec 32 := Scalar.addi v1487 v1486
  let v1494 : BitVec 32 := Scalar.select v1492 v1493 v1487
  let v1497 : BitVec 32 := Scalar.addi c0_i32_1039 v1494
  let c32_i32_1040 : BitVec 32 := 32#32
  let v1498 : BitVec 32 := Scalar.muli v1497 c32_i32_1040
  let v1499 : Index := Scalar.indexCast v1498
  let c0_1042 : Index := 0#32
  ![0, v1499.toNat, 0]
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x8192x8x64 : Shape := ⟨4, ![2, 8192, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S8192 : Shape := ⟨1, ![8192]⟩
abbrev S1x8192 : Shape := ⟨2, ![1, 8192]⟩
abbrev S512x8192 : Shape := ⟨2, ![512, 8192]⟩
abbrev S2x8x512x8192 : Shape := ⟨4, ![2, 8, 512, 8192]⟩
abbrev S1x1x512x8192 : Shape := ⟨4, ![1, 1, 512, 8192]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x512, .f32⟩
  | 2 => ⟨S2x8192x8x64, .f32⟩
  | 3 => ⟨S2x8192x8x64, .f32⟩
  | 4 => ⟨S512x768, .f32⟩
  | 5 => ⟨S2x512x512, .f32⟩
  | 6 => ⟨S2x512x8x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S512x8192, .i32⟩
  | 48 => ⟨S512x8192, .i32⟩
  | 49 => ⟨S512x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x8192, .i32⟩
  | 95 => ⟨S512x8192, .i32⟩
  | 96 => ⟨S512x8192, .i1⟩
  | 97 => ⟨S512x8192, .i1⟩
  | 98 => ⟨S2x8x512x8192, .f32⟩
  | 99 => ⟨S_, .f32⟩
  | 100 => ⟨S2x8x512x8192, .f32⟩
  | 101 => ⟨S2x8x512x8192, .f32⟩
  | 102 => ⟨S1x1x512x8192, .i1⟩
  | 103 => ⟨S_, .f32⟩
  | 104 => ⟨S_, .f32⟩
  | 105 => ⟨S2x8x512x8192, .i1⟩
  | 106 => ⟨S2x8x512x8192, .f32⟩
  | 107 => ⟨S2x8x512x8192, .f32⟩
  | 108 => ⟨S_, .f32⟩
  | 109 => ⟨S2x8x512, .f32⟩
  | 110 => ⟨S2x8x512x1, .f32⟩
  | 111 => ⟨S2x8x512x8192, .f32⟩
  | 112 => ⟨S2x8x512x8192, .f32⟩
  | 113 => ⟨S2x8x512x8192, .f32⟩
  | 114 => ⟨S_, .i1⟩
  | 115 => ⟨S512, .i1⟩
  | 116 => ⟨S1x1x512x1, .i1⟩
  | 117 => ⟨S_, .f32⟩
  | 118 => ⟨S2x8x512, .f32⟩
  | 119 => ⟨S2x8x512x1, .f32⟩
  | 120 => ⟨S_, .f32⟩
  | 121 => ⟨S_, .f32⟩
  | 122 => ⟨S2x8x512x1, .i1⟩
  | 123 => ⟨S2x8x512x1, .f32⟩
  | 124 => ⟨S2x8x512x1, .f32⟩
  | 125 => ⟨S2x8x512x8192, .f32⟩
  | 126 => ⟨S2x8x512x8192, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x8x512x8192, .i1⟩
  | 3 => ⟨S2x8x512x8192, .f32⟩
  | 4 => ⟨S2x8x512x8192, .f32⟩
  | 5 => ⟨S2x8x64x512, .f32⟩
  | 6 => ⟨S2x512x8x64, .f32⟩
  | 7 => ⟨S2x512x512, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Mesh.lean ====
/- The mesh of sixteen devices as four rows of four, the kernel's peers on it, and the closed forms of the printed device
   numbers and offsets. Device `c` stands in row `c / 4`, column `c % 4`. -/
module

public import proofs.«01_k».proof.Proof.Gen.KernelIdeal

@[expose] public section

noncomputable section

namespace Cert.KProof

open Cert.KernelIdeal Cert.KernelIdeal.Gen
open Idealize.ShloMosaic
open Idealize.ShloMosaic.TcCoe

/-- The device `m` places further along `c`'s row. -/
def rowPeer (m : Fin 4) (c : Dev nD) : Dev nD := ⟨4 * (c.val / 4) + (c.val % 4 + m.val) % 4, by have h : c.val < 16 := c.isLt; show _ < 16; omega⟩
/-- The device `m` places further along `c`'s column. -/
def colPeer (m : Fin 4) (c : Dev nD) : Dev nD := ⟨4 * ((c.val / 4 + m.val) % 4) + c.val % 4, by have h : c.val < 16 := c.isLt; show _ < 16; omega⟩

/-- The step back: `m + opp m = 0` modulo four. -/
def opp (m : Fin 4) : Fin 4 := ⟨(4 - m.val) % 4, Nat.mod_lt _ (by decide)⟩

/-- The opposite distance, twice. -/
theorem opp_opp (m : Fin 4) : opp (opp m) = m := by revert m; decide
/-- There and back along a row, -/
theorem rowPeer_opp (m : Fin 4) (c : Dev nD) : rowPeer (opp m) (rowPeer m c) = c := by revert m c; decide +kernel
/-- and along a column; -/
theorem colPeer_opp (m : Fin 4) (c : Dev nD) : colPeer (opp m) (colPeer m c) = c := by revert m c; decide +kernel
/-- back and there along a row, -/
theorem rowPeer_opp' (m : Fin 4) (c : Dev nD) : rowPeer m (rowPeer (opp m) c) = c := by revert m c; decide +kernel
/-- and along a column. -/
theorem colPeer_opp' (m : Fin 4) (c : Dev nD) : colPeer m (colPeer (opp m) c) = c := by revert m c; decide +kernel

/-- The peer of a transfer of stage `s` through slot `m`: stages 0 and 3 run along the row, stages 1 and 2 along the column. -/
def peer (s m : Fin 4) (c : Dev nD) : Dev nD := if s = 0 ∨ s = 3 then rowPeer m c else colPeer m c

/-- There and back in any phase, -/
theorem peer_opp (s m : Fin 4) (c : Dev nD) : peer s (opp m) (peer s m c) = c := by
  unfold peer; split
  · exact rowPeer_opp m c
  · exact colPeer_opp m c
/-- and back and there. -/
theorem peer_opp' (s m : Fin 4) (c : Dev nD) : peer s m (peer s (opp m) c) = c := by
  unfold peer; split
  · exact rowPeer_opp' m c
  · exact colPeer_opp' m c

/-- The device the `i`-th barrier signal goes to: the row and column peers at distance one, two and three in turn. -/
def sigTo (i : Fin 6) (c : Dev nD) : Dev nD :=
  peer (if i.val % 2 = 0 then 0 else 1) ⟨(i.val / 2 + 1) % 4, Nat.mod_lt _ (by decide)⟩ c
/-- The device the `i`-th barrier signal comes from. -/
def sigFrom (i : Fin 6) (c : Dev nD) : Dev nD :=
  peer (if i.val % 2 = 0 then 0 else 1) (opp ⟨(i.val / 2 + 1) % 4, Nat.mod_lt _ (by decide)⟩) c

/-- Who signals and who is signalled are inverse, -/
theorem sigFrom_sigTo (i : Fin 6) (c : Dev nD) : sigFrom i (sigTo i c) = c := peer_opp _ _ _
/-- either way. -/
theorem sigTo_sigFrom (i : Fin 6) (c : Dev nD) : sigTo i (sigFrom i c) = c := peer_opp' _ _ _

/-- The device that the kernel's device expression 1 names. -/
theorem dev1_eq (c : Dev nD) : (⟨k0_dev1 c, k0_dev1_lt c⟩ : Dev nD) = sigTo 0 c := by revert c; decide +kernel
/-- The device that the kernel's device expression 2 names. -/
theorem dev2_eq (c : Dev nD) : (⟨k0_dev2 c, k0_dev2_lt c⟩ : Dev nD) = sigTo 1 c := by revert c; decide +kernel
/-- The device that the kernel's device expression 3 names. -/
theorem dev3_eq (c : Dev nD) : (⟨k0_dev3 c, k0_dev3_lt c⟩ : Dev nD) = sigTo 2 c := by revert c; decide +kernel
/-- The device that the kernel's device expression 4 names. -/
theorem dev4_eq (c : Dev nD) : (⟨k0_dev4 c, k0_dev4_lt c⟩ : Dev nD) = sigTo 3 c := by revert c; decide +kernel
/-- The device that the kernel's device expression 5 names. -/
theorem dev5_eq (c : Dev nD) : (⟨k0_dev5 c, k0_dev5_lt c⟩ : Dev nD) = sigTo 4 c := by revert c; decide +kernel
/-- The device that the kernel's device expression 6 names. -/
theorem dev6_eq (c : Dev nD) : (⟨k0_dev6 c, k0_dev6_lt c⟩ : Dev nD) = sigTo 5 c := by revert c; decide +kernel
/-- The device that the kernel's device expression 7 names. -/
theorem dev7_eq (c : Dev nD) : (⟨k0_dev7 c, k0_dev7_lt c⟩ : Dev nD) = peer 0 1 c := by revert c; decide +kernel
/-- The device that the kernel's device expression 8 names. -/
theorem dev8_eq (c : Dev nD) : (⟨k0_dev8 c, k0_dev8_lt c⟩ : Dev nD) = peer 0 2 c := by revert c; decide +kernel
/-- The device that the kernel's device expression 9 names. -/
theorem dev9_eq (c : Dev nD) : (⟨k0_dev9 c, k0_dev9_lt c⟩ : Dev nD) = peer 0 3 c := by revert c; decide +kernel
/-- The device that the kernel's device expression 10 names. -/
theorem dev10_eq (c : Dev nD) : (⟨k0_dev10 c, k0_dev10_lt c⟩ : Dev nD) = peer 1 1 c := by revert c; decide +kernel
/-- The device that the kernel's device expression 11 names. -/
theorem dev11_eq (c : Dev nD) : (⟨k0_dev11 c, k0_dev11_lt c⟩ : Dev nD) = peer 1 2 c := by revert c; decide +kernel
/-- The device that the kernel's device expression 12 names. -/
theorem dev12_eq (c : Dev nD) : (⟨k0_dev12 c, k0_dev12_lt c⟩ : Dev nD) = peer 1 3 c := by revert c; decide +kernel
/-- The device that the kernel's device expression 13 names. -/
theorem dev13_eq (c : Dev nD) : (⟨k0_dev13 c, k0_dev13_lt c⟩ : Dev nD) = peer 2 1 c := by revert c; decide +kernel
/-- The device that the kernel's device expression 14 names. -/
theorem dev14_eq (c : Dev nD) : (⟨k0_dev14 c, k0_dev14_lt c⟩ : Dev nD) = peer 2 2 c := by revert c; decide +kernel
/-- The device that the kernel's device expression 15 names. -/
theorem dev15_eq (c : Dev nD) : (⟨k0_dev15 c, k0_dev15_lt c⟩ : Dev nD) = peer 2 3 c := by revert c; decide +kernel
/-- The device that the kernel's device expression 16 names. -/
theorem dev16_eq (c : Dev nD) : (⟨k0_dev16 c, k0_dev16_lt c⟩ : Dev nD) = peer 3 1 c := by revert c; decide +kernel
/-- The device that the kernel's device expression 17 names. -/
theorem dev17_eq (c : Dev nD) : (⟨k0_dev17 c, k0_dev17_lt c⟩ : Dev nD) = peer 3 2 c := by revert c; decide +kernel
/-- The device that the kernel's device expression 18 names. -/
theorem dev18_eq (c : Dev nD) : (⟨k0_dev18 c, k0_dev18_lt c⟩ : Dev nD) = peer 3 3 c := by revert c; decide +kernel

/-! ## Offsets -/

/-- The first row of query block `4 q + (column + m) mod 4`. -/
def rowOff (c : Dev nD) (q m : Fin 4) : Nat := 32 * (4 * q.val + (c.val % 4 + m.val) % 4)

/-- The place that the kernel's offset expression 1 names. -/
theorem off1_eq (c : Dev nD) (q m : Fin 4) (hm : m ≠ 0) :
    k0_off1 c (BitVec.ofNat 32 (4 * q.val)) (BitVec.ofNat 32 m.val) = ![0, rowOff c q m, 0] := by revert c q m; decide +kernel
/-- The place that the kernel's offset expression 2 names. -/
theorem off2_eq (c : Dev nD) (q m : Fin 4) (hm : m ≠ 0) :
    k0_off2 c (BitVec.ofNat 32 (4 * q.val)) (BitVec.ofNat 32 m.val) = ![rowOff c q m, 0] := by revert c q m; decide +kernel
/-- The place that the kernel's offset expression 3 names. -/
theorem off3_eq (c : Dev nD) (q : Fin 4) : k0_off3 c (BitVec.ofNat 32 (4 * q.val)) = ![0, rowOff c q 0, 0] := by revert c q; decide +kernel
/-- The place that the kernel's offset expression 4 names. -/
theorem off4_eq (c : Dev nD) (q : Fin 4) : k0_off4 c (BitVec.ofNat 32 (4 * q.val)) = ![rowOff c q 0, 0] := by revert c q; decide +kernel
/-- The place that the kernel's offset expression 5 names. -/
theorem off5_eq (c : Dev nD) (m : Fin 4) (hm : m ≠ 0) : k0_off5 c (BitVec.ofNat 32 m.val) = ![17 * ((c.val / 4 + m.val) % 4), 0, 0] := by
  revert c m; decide +kernel
/-- The place that the kernel's offset expression 6 names. -/
theorem off6_eq (c : Dev nD) : k0_off6 c = ![17 * (c.val / 4), 0, 0] := by revert c; decide +kernel
/-- The place that the kernel's offset expression 7 names. -/
theorem off7_eq (c : Dev nD) : k0_off7 c = ![16 * (c.val / 4), 0, 0] := by revert c; decide +kernel
/-- The place that the kernel's offset expression 8 names. -/
theorem off8_eq (c : Dev nD) : k0_off8 c = ![0, 32 * c.val, 0] := by revert c; decide +kernel
/-- The place that the kernel's offset expression 9 names. -/
theorem off9_eq (c : Dev nD) (m : Fin 4) (hm : m ≠ 0) :
    k0_off9 c (BitVec.ofNat 32 m.val) = ![16 * ((colPeer (opp m) c).val / 4), 0, 0] := by revert c m; decide +kernel
/-- The place that the kernel's offset expression 10 names. -/
theorem off10_eq (c : Dev nD) (m : Fin 4) (hm : m ≠ 0) :
    k0_off10 c (BitVec.ofNat 32 m.val) = ![0, 32 * (colPeer (opp m) c).val, 0] := by revert c m; decide +kernel
/-- The place that the kernel's offset expression 11 names. -/
theorem off11_eq (c : Dev nD) (q m : Fin 4) (hm : m ≠ 0) :
    k0_off11 c (BitVec.ofNat 32 (4 * q.val)) (BitVec.ofNat 32 m.val) = ![0, 32 * (4 * q.val + (rowPeer (opp m) c).val % 4), 0] := by
  revert c q m; decide +kernel

end Cert.KProof

end
-- ==== Proof.Spec.lean ====
/- What each buffer of the kernel holds, as functions of every device's five arguments: the masked weights of the local
   key block, the partial sums `O` and `S` of the sixteen (batch, head) pairs, the packed slots of the row reduction, the
   row sums, the packed slots of the column reduction, the full sums, the context block, the context of a column, the
   whole context and the output. The functions are stated over any float values. -/
module

public import proofs.«01_k».proof.Proof.Mesh
public import proofs.«01_k».proof.Proof.Gen.KernelIdeal.Skeleton
public import Idealize.ShloMosaic.Lib.Tactic
public import Idealize.ShloMosaic.Lib.ValueIdx
public import Idealize.ShloMosaic.Lib.Pipeline.FrameBody
public import Idealize.ShloMosaic.Lib.Pipeline.Value

@[expose] public section

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-- One device's five arguments. -/
structure Ins (F : FTy → Type) [FloatOps F] where
  x : Vec F S2x512x768 .f32
  wq : Vec F S768x512 .f32
  k : Vec F S2x512x8x64 .f32
  v : Vec F S2x512x8x64 .f32
  wo : Vec F S512x768 .f32

/-- A batch of the input is inside it, -/
theorem inbX (b : Fin 2) : ∀ a, (![b.val, 0, 0] : Fin 3 → Nat) a + S1x512x768.size a ≤ S2x512x768.size a := by revert b; decide
/-- as is one of the keys or the values, -/
theorem inbKV (b : Fin 2) : ∀ a, (![b.val, 0, 0, 0] : Fin 4 → Nat) a + S1x512x8x64.size a ≤ S2x512x8x64.size a := by revert b; decide
/-- and a row of the context. -/
theorem inbC (g : Fin 16) : ∀ a, (![g.val, 0, 0] : Fin 3 → Nat) a + S1x512x64.size a ≤ S16x512x64.size a := by revert g; decide

/-- Batch `b` of the activations, with its unit axis. -/
def xRow (I : Ins F) (b : Fin 2) : Vec F S1x512x768 .f32 := View.ld I.x (Rect.unit (s := S2x512x768) ![b.val, 0, 0] S1x512x768.size (inbX b))
/-- Batch `b` of a key or value block, with its unit axis. -/
def kvRow (X : Vec F S2x512x8x64 .f32) (b : Fin 2) : Vec F S1x512x8x64 .f32 :=
  View.ld X (Rect.unit (s := S2x512x8x64) ![b.val, 0, 0, 0] S1x512x8x64.size (inbKV b))
/-- The query projection, as loaded. -/
def wqAll (I : Ins F) : Vec F S768x512 .f32 := View.ld I.wq (Rect.unit (s := S768x512) ![0, 0] S768x512.size inb_S768x512_S768x512_0_0)
/-- The output projection, as loaded. -/
def woAll (wo : Vec F S512x768 .f32) : Vec F S512x768 .f32 := View.ld wo (Rect.unit (s := S512x768) ![0, 0] S512x768.size inb_S512x768_S512x768_0_0)

/-- The block mask: query and key positions whose blocks of 64 agree modulo four. -/
def maskV : IVec S512x512 1 := k0_pay6 (k0_pay4 k0_pay1 k0_pay2 k0_pay3) (k0_pay5 (iota .tc S512x512 32 [1] iota_S512x512_d1_w32)) 4#32

/-- The projected queries of batch `b`, -/
def qB (I : Ins F) (b : Fin 2) : FVec F S512x512 .bf16 := k0_pay8 (wqAll I) (xRow I b)
/-- its keys -/
def kB (I : Ins F) (b : Fin 2) : FVec F S512x512 .bf16 := k0_pay9 (kvRow I.k b)
/-- and its values, the heads side by side. -/
def vB (I : Ins F) (b : Fin 2) : FVec F S512x512 .bf16 := k0_pay10 (kvRow I.v b)

/-- A head's columns are inside the columns. -/
theorem slices_head (h : Fin 8) : S512x512.Slices ![0, 64 * h.val] S512x64 := by revert h; decide

/-- Head `h`'s sixty-four columns. -/
def headCols {φ : FTy} (h : Fin 8) (M : FVec F S512x512 φ) : FVec F S512x64 φ := extractStridedSlice S512x64 ![0, 64 * h.val] M (slices_head h)

/-- The masked weights of one head: the exponential of the scaled scores where the mask admits the pair, zero elsewhere. -/
def weights (q k : FVec F S512x512 .bf16) (h : Fin 8) : FVec F S512x512 .f32 :=
  select maskV (exp (mulf (matmul dot_S512x64_S512x64_S512x512_1_1_0_0_n_n none (headCols h q) (headCols h k) (constant S512x512 .f32 0x00000000#32))
    (broadcast S512x512 (Scalar.ofBits .f32 0x3E000000#32)))) (broadcast S512x512 (Scalar.ofBits .f32 0x00000000#32))

/-- The weighted sum of the values of one head. -/
def headO (w : FVec F S512x512 .f32) (v : FVec F S512x512 .bf16) (h : Fin 8) : FVec F S512x64 .f32 :=
  matmul dot_S512x512_S512x64_S512x64_1_0_0_1_n_n none (truncf .bf16 w bitsLt_bf16_f32) (headCols h v) (constant S512x64 .f32 0x00000000#32)

/-- The sum of the weights of one head. -/
def headS (w : FVec F S512x512 .f32) : FVec F S512 .f32 := multiReduction .add [1] S512 w 0x00000000#32 reduces_S512x512_S512 (.inl rfl) rfl

/-- The batch of the pair `g`. -/
def gB (g : Fin 16) : Fin 2 := ⟨g.val / 8, by have := g.isLt; omega⟩
/-- The head of the pair `g`. -/
def gH (g : Fin 16) : Fin 8 := ⟨g.val % 8, Nat.mod_lt _ (by decide)⟩

/-- The weights of the pair `g`. -/
def gW (I : Ins F) (g : Fin 16) : FVec F S512x512 .f32 := weights (qB I (gB g)) (kB I (gB g)) (gH g)

/-- The partial weighted sums over the local keys. -/
def OA (I : Ins F) : Vec F S16x512x64 .f32 := fun i => headO (gW I (i 0)) (vB I (gB (i 0))) (gH (i 0)) (ix2 (i 1) (i 2))
/-- The partial weight sums over the local keys. -/
def SA (I : Ins F) : Vec F S512x16 .f32 := fun i => headS (gW I (i 1)) (ix1 (i 0))

/-- Row `r` of block `4 q + t` among the 512 query rows. -/
def qRow (q : ℕ) (t : Fin 4) (r : Fin 32) : Fin 512 := ⟨(32 * (4 * (q % 4) + t.val) + r.val) % 512, Nat.mod_lt _ (by decide)⟩

/-- Which group of seventeen a packed row belongs to, and its place in it. -/
def grp (a : Fin 68) : ℕ := a.val / 17
/-- The packed block of the query rows whose block number is `t` modulo four: sixteen rows of weighted sums and one of
    weight sums (its first sixteen columns) for each of the four. -/
def PK (I : Ins F) (t : Fin 4) : Vec F S68x32x64 .f32 := fun i =>
  if h : (i 0).val % 17 < 16 then OA I (ix3 ⟨(i 0).val % 17, h⟩ (qRow ((i 0).val / 17) t (i 1)) (i 2))
  else SA I (ix2 (qRow ((i 0).val / 17) t (i 1)) ⟨(i 2).val % 16, Nat.mod_lt _ (by decide)⟩)

/-- The column that slot `m` of a row reduction is meant for. -/
def colOf (c : Dev nD) (m : Fin 4) : Fin 4 := ⟨(c.val % 4 + m.val) % 4, Nat.mod_lt _ (by decide)⟩
/-- The row that slot `m` of a column reduction is meant for. -/
def rowOf (c : Dev nD) (m : Fin 4) : Fin 4 := ⟨(c.val / 4 + m.val) % 4, Nat.mod_lt _ (by decide)⟩

/-- Slot `m` of the row reduction, as `c` sends it. -/
def AS (I : Dev nD → Ins F) (c : Dev nD) (m : Fin 4) : Vec F S68x32x64 .bf16 := truncf .bf16 (PK (I c) (colOf c m)) bitsLt_bf16_f32

/-- Widen a packed block. -/
abbrev wide {s : Shape} (X : Vec F s .bf16) : Vec F s .f32 := extf .f32 X bitsLt_bf16_f32

/-- The row sums after the first `n` arrivals. -/
def GAn (I : Dev nD → Ins F) (c : Dev nD) : ℕ → Vec F S68x32x64 .f32
  | 0 => PK (I c) (colOf c 0)
  | n + 1 => addf (GAn I c n) (wide (AS I (rowPeer (opp (Fin.ofNat 4 (n + 1))) c) (Fin.ofNat 4 (n + 1))))
/-- The row sums. -/
def GA (I : Dev nD → Ins F) (c : Dev nD) : Vec F S68x32x64 .f32 := GAn I c 3

/-- The seventeen packed rows of group `q`. -/
def rows17 {e : EltTy} (X : Vec F S68x32x64 e) (q : Fin 4) : Vec F S17x32x64 e := fun i =>
  X (ix3 ⟨17 * q.val + (i 0).val, by have h : (i 0).val < 17 := (i 0).isLt; have := q.isLt; show _ < 68; omega⟩ (i 1) (i 2))

/-- Slot `m` of the column reduction, as `c` sends it. -/
def BS (I : Dev nD → Ins F) (c : Dev nD) (m : Fin 4) : Vec F S17x32x64 .bf16 := truncf .bf16 (rows17 (GA I c) (rowOf c m)) bitsLt_bf16_f32

/-- The column sums after the first `n` arrivals. -/
def CSn (I : Dev nD → Ins F) (c : Dev nD) : ℕ → Vec F S17x32x64 .f32
  | 0 => rows17 (GA I c) (rowOf c 0)
  | n + 1 => addf (CSn I c n) (wide (BS I (colPeer (opp (Fin.ofNat 4 (n + 1))) c) (Fin.ofNat 4 (n + 1))))
/-- The full sums of `c`'s block of thirty-two query rows. -/
def CS (I : Dev nD → Ins F) (c : Dev nD) : Vec F S17x32x64 .f32 := CSn I c 3

/-- The quotient of a block of sums: the weighted sums over the weight sums. -/
def quot (X : Vec F S17x32x64 .f32) : Vec F S16x32x64 .f32 := fun i =>
  FloatOps.divf (X (ix3 ⟨(i 0).val, by have h : (i 0).val < 16 := (i 0).isLt; show _ < 17; omega⟩ (i 1) (i 2)))
    (X (ix3 16 (i 1) ⟨(i 0).val, by have h : (i 0).val < 16 := (i 0).isLt; show _ < 64; omega⟩))

/-- The context of `c`'s block of query rows. -/
def CB (I : Dev nD → Ins F) (c : Dev nD) : Vec F S16x32x64 .bf16 := truncf .bf16 (quot (CS I c)) bitsLt_bf16_f32

/-- The context of the blocks of `c`'s column, one row of the mesh after another. -/
def CG (I : Dev nD → Ins F) (c : Dev nD) : Vec F S64x32x64 .bf16 := fun i =>
  CB I ⟨4 * ((i 0).val / 16) + c.val % 4, by have h : (i 0).val < 64 := (i 0).isLt; show _ < 16; omega⟩
    (ix3 ⟨(i 0).val % 16, Nat.mod_lt _ (by decide)⟩ (i 1) (i 2))

/-- The whole context. -/
def CF (I : Dev nD → Ins F) : Vec F S16x512x64 .bf16 := fun i =>
  CB I ⟨(i 1).val / 32, by have h : (i 1).val < 512 := (i 1).isLt; show _ < 16; omega⟩
    (ix3 (i 0) ⟨(i 1).val % 32, Nat.mod_lt _ (by decide)⟩ (i 2))

/-- The context of one pair, with its unit axis. -/
def ctxRow (X : Vec F S16x512x64 .bf16) (g : Fin 16) : Vec F S1x512x64 .bf16 := View.ld X (Rect.unit (s := S16x512x64) ![g.val, 0, 0] S1x512x64.size (inbC g))

/-- The output of batch 0 from the whole context, -/
def out0 (wo : Vec F S512x768 .f32) (X : Vec F S16x512x64 .bf16) : FVec F S1x512x768 .f32 :=
  k0_pay170 (k0_pay167 (woAll wo)) (k0_pay168 (woAll wo) (ctxRow X 0) (ctxRow X 1) (ctxRow X 2)) (k0_pay169 (ctxRow X 3)) (ctxRow X 4) (ctxRow X 5) (ctxRow X 6) (ctxRow X 7)
/-- and of batch 1. -/
def out1 (wo : Vec F S512x768 .f32) (X : Vec F S16x512x64 .bf16) : FVec F S1x512x768 .f32 :=
  k0_pay174 (k0_pay172 (k0_pay167 (woAll wo)) (k0_pay171 (k0_pay167 (woAll wo)) (ctxRow X 8)) (ctxRow X 9) (ctxRow X 10) (ctxRow X 11) (ctxRow X 12) (ctxRow X 13) (ctxRow X 14))
    (k0_pay173 (k0_pay167 (woAll wo)) (ctxRow X 15))

/-- The output of `c`. -/
def OUT (I : Dev nD → Ins F) (c : Dev nD) : Vec F S2x512x768 .f32 := fun i =>
  if (i 0).val = 0 then out0 (I c).wo (CF I) (ix3 0 (i 1) (i 2)) else out1 (I c).wo (CF I) (ix3 0 (i 1) (i 2))

/-- The entries of a packed block that are written: all but the last forty-eight columns of a row of weight sums. -/
def Good68 (i : S68x32x64.Idx) : Prop := (i 0).val % 17 < 16 ∨ (i 2).val < 16
/-- The same for one group. -/
def Good17 (i : S17x32x64.Idx) : Prop := (i 0).val < 16 ∨ (i 2).val < 16

end Cert.KProof
-- ==== Proof.Schedule.lean ====
/- The cross-device protocol of the kernel, as a schedule of rounds.

   Cells, per device: one barrier cell, and for each stage `s` (0: row reduction, 1: column reduction, 2: column gather,
   3: row gather) and each slot `m` a send cell and a receive cell. Every cell has one round.
   * The barrier cell of `d` has six duties of one unit, duty `i` paid by the `i`-th signal of `sigFrom i d`. It hands over
     that device's landing slots which `d` will write: of stages 0 and 3 from a row peer, of stages 1 and 2 from a column peer.
   * The receive cell of stage `s`, slot `m ≠ 0` of `c` has one duty, the slot's credit, paid by the copy of `peer s (opp m) c`.
     It hands over the slot with what that device sent.
   * The send cell hands the sender its source back.
   Waits go upwards: the barrier at level 1, the receive cells of stage `s` at level `s + 2`, every other cell at level 0. -/
module

public import proofs.«01_k».proof.Proof.Spec
public import proofs.«01_k».proof.Proof.Gen.KernelIdeal.Launch
public import Idealize.ShloMosaic.Lib.Pipeline.Launch
public import Idealize.ShloMosaic.Lib.Pipeline.Kit

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

/-- The protocol's copy of the rounds algebra, with duties named by `Fin 6`, beside the pipeline's. -/
abbrev UB : Type := URounds (GSem nD τ sig) (Fin 6)
/-- The ghost state: the pipeline's and the protocol's. -/
abbrev UU : Type := UR sig nD τ × UB

local notation "𝕄" => MT nD τ sig Unit (Elt F) ℕ UU ℕ

/-- The pipeline's part of it, -/
abbrev EP : Emb (UR sig nD τ) (MT nD τ sig Unit (Elt F) ℕ UU ℕ) := embL
/-- and the protocol's. -/
abbrev ER : Emb UB (MT nD τ sig Unit (Elt F) ℕ UU ℕ) := embR

/-! ## The slots -/

/-- Slots of the first phase are inside their buffer, -/
theorem inbA (m : Fin 4) : ∀ a, (![m.val, 0, 0, 0] : Fin 4 → Nat) a + S1x68x32x64.size a ≤ S4x68x32x64.size a := by revert m; decide
/-- of the second, -/
theorem inbB (m : Fin 4) : ∀ a, (![m.val, 0, 0, 0] : Fin 4 → Nat) a + S1x17x32x64.size a ≤ S4x17x32x64.size a := by revert m; decide
/-- of the third, -/
theorem inbD (m : Fin 4) : ∀ a, (![m.val, 0, 0, 0] : Fin 4 → Nat) a + S1x16x32x64.size a ≤ S4x16x32x64.size a := by revert m; decide
/-- and of the fourth. -/
theorem inbE (m : Fin 4) : ∀ a, (![m.val, 0, 0, 0] : Fin 4 → Nat) a + S1x64x32x64.size a ≤ S4x64x32x64.size a := by revert m; decide

/-- The source slots of the row reduction, -/
abbrev aS (m : Fin 4) : Memref sig .tc .vmem S68x32x64 .bf16 :=
  ((Memref.whole cc0_scratch2).slice (Rect.unit (s := S4x68x32x64) ![m.val, 0, 0, 0] S1x68x32x64.size (inbA m)) (fun _ => rfl)).squeeze S68x32x64 squeezes_S1x68x32x64_S68x32x64
/-- its landing slots, -/
abbrev aR (m : Fin 4) : Memref sig .tc .vmem S68x32x64 .bf16 :=
  ((Memref.whole cc0_scratch3).slice (Rect.unit (s := S4x68x32x64) ![m.val, 0, 0, 0] S1x68x32x64.size (inbA m)) (fun _ => rfl)).squeeze S68x32x64 squeezes_S1x68x32x64_S68x32x64
/-- the source slots of the column reduction, -/
abbrev bS (m : Fin 4) : Memref sig .tc .vmem S17x32x64 .bf16 :=
  ((Memref.whole cc0_scratch5).slice (Rect.unit (s := S4x17x32x64) ![m.val, 0, 0, 0] S1x17x32x64.size (inbB m)) (fun _ => rfl)).squeeze S17x32x64 squeezes_S1x17x32x64_S17x32x64
/-- its landing slots, -/
abbrev bR (m : Fin 4) : Memref sig .tc .vmem S17x32x64 .bf16 :=
  ((Memref.whole cc0_scratch6).slice (Rect.unit (s := S4x17x32x64) ![m.val, 0, 0, 0] S1x17x32x64.size (inbB m)) (fun _ => rfl)).squeeze S17x32x64 squeezes_S1x17x32x64_S17x32x64
/-- the source of the column gather -/
abbrev dS : Memref sig .tc .vmem S16x32x64 .bf16 := Memref.whole cc0_scratch7
/-- and its landing slots, -/
abbrev dR (m : Fin 4) : Memref sig .tc .vmem S16x32x64 .bf16 :=
  ((Memref.whole cc0_scratch8).slice (Rect.unit (s := S4x16x32x64) ![m.val, 0, 0, 0] S1x16x32x64.size (inbD m)) (fun _ => rfl)).squeeze S16x32x64 squeezes_S1x16x32x64_S16x32x64
/-- the source of the row gather -/
abbrev eS : Memref sig .tc .vmem S64x32x64 .bf16 := Memref.whole cc0_scratch9
/-- and its landing slots. -/
abbrev eR (m : Fin 4) : Memref sig .tc .vmem S64x32x64 .bf16 :=
  ((Memref.whole cc0_scratch10).slice (Rect.unit (s := S4x64x32x64) ![m.val, 0, 0, 0] S1x64x32x64.size (inbE m)) (fun _ => rfl)).squeeze S64x32x64 squeezes_S1x64x32x64_S64x32x64

/-- The elements of `c`'s memref `M`, at a share, holding `f`. -/
def pts {s : Shape} {e : EltTy} (M : Memref sig .tc .vmem s e) (c : Dev nD) (q : PosShare TreeShare) (f : Buf (Elt F) (M.view.loc (c : Thread nD τ))) : sProp 𝕄 :=
  M.view.loc (c : Thread nD τ) ↦[M.view.set]{q} f

/-- They at some contents. -/
def ptsEx {s : Shape} {e : EltTy} (M : Memref sig .tc .vmem s e) (c : Dev nD) : sProp 𝕄 := iprop(∃ f, pts (F := F) M c fullShare f)

/-- They at contents whose reading has a property. -/
def ptsP {s : Shape} {e : EltTy} (M : Memref sig .tc .vmem s e) (c : Dev nD) (P : Vec F s e → Prop) : sProp 𝕄 :=
  iprop(∃ f, ⌜P (M.view.read (Elt F) f)⌝ ∗ pts (F := F) M c fullShare f)

omit [FloatOps F] in
instance pts_storable {s : Shape} {e : EltTy} (M : Memref sig .tc .vmem s e) (c : Dev nD) (q : PosShare TreeShare) (f : Buf (Elt F) (M.view.loc (c : Thread nD τ))) :
    BI.Storable (upEmb : UEmb _ 𝕄) (pts (F := F) M c q f) := by unfold pts; infer_instance
omit [FloatOps F] in
instance ptsEx_storable {s : Shape} {e : EltTy} (M : Memref sig .tc .vmem s e) (c : Dev nD) :
    BI.Storable (upEmb : UEmb _ 𝕄) (ptsEx (F := F) M c) := by unfold ptsEx; infer_instance

omit [FloatOps F] in
instance ptsP_storable {s : Shape} {e : EltTy} (M : Memref sig .tc .vmem s e) (c : Dev nD) (P : Vec F s e → Prop) :
    BI.Storable (upEmb : UEmb _ 𝕄) (ptsP M c P) := by unfold ptsP; infer_instance

/-- The share of a gather's source that the copy of slot `m` holds; slot 0's stays with the device. -/
def qs (m : Fin 4) : PosShare TreeShare := if m = 0 then shareDrop fullShare 3 else shareTokN fullShare (m.val - 1)

/-! ## The cells -/

/-- The runtime's barrier semaphore. -/
abbrev barS : Sem sig := (SemArray.scalar (sig.barrier 0 rfl) : Sems sig S_).sem
/-- The kernel's `k`-th transfer semaphore. -/
abbrev dsem (k : Fin 32) : DmaSem sig := ⟨6 + k.val, by have := k.isLt; show 6 + k.val < 38; omega⟩
/-- The send semaphore of a stage's slot -/
abbrev sendK (s m : Fin 4) : Fin 32 := ⟨8 * s.val + m.val, by have := s.isLt; have := m.isLt; omega⟩
/-- and its receive semaphore. -/
abbrev recvK (s m : Fin 4) : Fin 32 := ⟨8 * s.val + 4 + m.val, by have := s.isLt; have := m.isLt; omega⟩

/-- The barrier cell of a device, -/
abbrev barCell (c : Dev nD) : GSem nD τ sig := ((c : Thread nD τ), .reg barS)
/-- its copy cells, -/
abbrev dcell (k : Fin 32) (c : Dev nD) : GSem nD τ sig := ((c : Thread nD τ), .dma (dsem k))
/-- those that sends are waited for on, -/
abbrev sendCell (s m : Fin 4) (c : Dev nD) : GSem nD τ sig := dcell (sendK s m) c
/-- and those that arrivals are waited for on. -/
abbrev recvCell (s m : Fin 4) (c : Dev nD) : GSem nD τ sig := dcell (recvK s m) c

/-- The credit of one copy of stage `s`. -/
def crd (s : ℕ) : ℕ := match s with
  | 0 => (aR 0).view.dmaCredit
  | 1 => (bR 0).view.dmaCredit
  | 2 => (dR 0).view.dmaCredit
  | _ => (eR 0).view.dmaCredit

/-- A copy's credit is positive. -/
theorem crd_pos (s : ℕ) : 0 < crd s := by
  unfold crd; split <;> exact View.dmaCredit_pos _ (by decide)

variable (I : Dev nD → Ins F)

/-! ## What is handed over -/

/-- What the signal of duty `i` gives the device `d`. -/
def barPay (i : Fin 6) (d : Dev nD) : sProp 𝕄 :=
  if i.val % 2 = 0 then iprop(ptsEx (F := F) (aR (opp ⟨(i.val / 2 + 1) % 4, Nat.mod_lt _ (by decide)⟩)) (sigFrom i d)
      ∗ ptsEx (F := F) (eR (opp ⟨(i.val / 2 + 1) % 4, Nat.mod_lt _ (by decide)⟩)) (sigFrom i d))
  else iprop(ptsEx (F := F) (bR (opp ⟨(i.val / 2 + 1) % 4, Nat.mod_lt _ (by decide)⟩)) (sigFrom i d)
      ∗ ptsEx (F := F) (dR (opp ⟨(i.val / 2 + 1) % 4, Nat.mod_lt _ (by decide)⟩)) (sigFrom i d))

/-- What a landing hands over. -/
def recvPay (s : ℕ) (m : Fin 4) (c : Dev nD) : sProp 𝕄 := match s with
  | 0 => ptsP (aR m) c fun X => ∀ i, Good68 i → X i = AS I (rowPeer (opp m) c) m i
  | 1 => ptsP (bR m) c fun X => ∀ i, Good17 i → X i = BS I (colPeer (opp m) c) m i
  | 2 => ptsP (dR m) c fun X => X = CB I (colPeer (opp m) c)
  | _ => ptsP (eR m) c fun X => X = CG I (rowPeer (opp m) c)

/-- What a completed send gives back. -/
def sendPay (s : ℕ) (m : Fin 4) (c : Dev nD) : sProp 𝕄 := match s with
  | 0 => ptsEx (F := F) (aS m) c
  | 1 => ptsEx (F := F) (bS m) c
  | 2 => pts (F := F) dS c (qs m) (CB I c)
  | _ => pts (F := F) eS c (qs m) (CG I c)

/-- The payload of the `k`-th transfer semaphore. -/
def dmaPay (k : ℕ) (c : Dev nD) : sProp 𝕄 :=
  if k % 8 < 4 then sendPay I (k / 8) ⟨k % 4, Nat.mod_lt _ (by decide)⟩ c else recvPay I (k / 8) ⟨k % 4, Nat.mod_lt _ (by decide)⟩ c

omit [FloatOps F] in
instance barPay_storable (i : Fin 6) (d : Dev nD) : BI.Storable (upEmb : UEmb _ 𝕄) (barPay (F := F) i d) := by
  unfold barPay; split <;> infer_instance
instance recvPay_storable (s : ℕ) (m : Fin 4) (c : Dev nD) : BI.Storable (upEmb : UEmb _ 𝕄) (recvPay I s m c) := by
  unfold recvPay; split <;> infer_instance
instance sendPay_storable (s : ℕ) (m : Fin 4) (c : Dev nD) : BI.Storable (upEmb : UEmb _ 𝕄) (sendPay I s m c) := by
  unfold sendPay; split <;> infer_instance

/-! ## The schedule -/

/-- The duties of a semaphore's round 0. -/
def dut : SemLoc sig → Finset (Fin 6)
  | .reg _ => Finset.univ
  | .dma q => if 6 ≤ q.val ∧ (q.val - 6) % 4 ≠ 0 then {0} else ∅

/-- The amount of a duty. -/
def amt : SemLoc sig → ℕ
  | .reg _ => 1
  | .dma q => crd ((q.val - 6) / 8)

/-- The schedule: one round at each cell. -/
def Rd : Rounds.Schedule (GSem nD τ sig) (Fin 6) 𝕄 where
  duties g r := if r = 0 ∧ g.1.2 = .tc then dut g.2 else ∅
  unitless _ := False
  amount g _ _ := amt g.2
  payload g _ d := match g.2 with
    | .reg _ => barPay d g.1.1
    | .dma q => dmaPay I (q.val - 6) g.1.1
  amount_pos g _ _ _ := by
    rcases g with ⟨t, q | q⟩
    · exact Nat.one_pos
    · exact crd_pos _

instance Rd_payload_storable (g : GSem nD τ sig) (r : ℕ) (d : Fin 6) : BI.Storable (upEmb : UEmb _ 𝕄) ((Rd I).payload g r d) := by
  rcases g with ⟨t, q | q⟩
  · show BI.Storable upEmb (barPay d t.1); infer_instance
  · show BI.Storable upEmb (dmaPay I (q.val - 6) t.1); unfold dmaPay; split <;> infer_instance

/-- Six signals at a barrier, -/
theorem duties_bar (c : Dev nD) : (Rd I).duties (barCell c) 0 = Finset.univ := by dsimp only [Rd]; exact if_pos ⟨rfl, rfl⟩
/-- one duty at a used copy cell, -/
theorem dut_dsem (k : Fin 32) : dut (.dma (dsem k)) = if k.val % 4 ≠ 0 then {0} else ∅ := by revert k; decide
/-- on each device, -/
theorem duties_dcell (k : Fin 32) (c : Dev nD) : (Rd I).duties (dcell k c) 0 = if k.val % 4 ≠ 0 then {0} else ∅ := by
  dsimp only [Rd]; rw [if_pos ⟨rfl, rfl⟩]; exact dut_dsem k
/-- none later, -/
theorem duties_later (g : GSem nD τ sig) : ∀ r, 1 ≤ r → (Rd I).duties g r = ∅ := fun r hr => by dsimp only [Rd]; exact if_neg fun h => by omega
/-- and none at an unused one. -/
theorem duties_slot0 (k : Fin 32) (hk : k.val % 4 = 0) (c : Dev nD) : ∀ r, 0 ≤ r → (Rd I).duties (dcell k c) r = ∅ := by
  intro r _
  rcases Nat.eq_zero_or_pos r with rfl | h
  · rw [duties_dcell, if_neg (by simpa using hk)]
  · exact duties_later I _ r h

/-- One duty at a sending cell, -/
theorem duties_send (s m : Fin 4) (hm : m ≠ 0) (c : Dev nD) : (Rd I).duties (sendCell s m c) 0 = {0} := by
  rw [duties_dcell, if_pos (by revert s m; decide)]
/-- and at a receiving cell. -/
theorem duties_recv (s m : Fin 4) (hm : m ≠ 0) (c : Dev nD) : (Rd I).duties (recvCell s m c) 0 = {0} := by
  rw [duties_dcell, if_pos (by revert s m; decide)]

/-- A signal is one. -/
theorem amount_bar (c : Dev nD) (d : Fin 6) : (Rd I).amount (barCell c) 0 d = 1 := rfl
/-- The phase of a sending cell, -/
theorem sendK_div (s m : Fin 4) : (6 + (sendK s m).val - 6) / 8 = s.val := by revert s m; decide
/-- and of a receiving cell. -/
theorem recvK_div (s m : Fin 4) : (6 + (recvK s m).val - 6) / 8 = s.val := by revert s m; decide
/-- A send pays its bytes, -/
theorem amount_send (s m : Fin 4) (c : Dev nD) (d : Fin 6) : (Rd I).amount (sendCell s m c) 0 d = crd s.val := congrArg crd (sendK_div s m)
/-- as does an arrival. -/
theorem amount_recv (s m : Fin 4) (c : Dev nD) (d : Fin 6) : (Rd I).amount (recvCell s m c) 0 d = crd s.val := congrArg crd (recvK_div s m)

/-- A barrier expects six, -/
theorem expect_bar (c : Dev nD) : (Rd I).expect (barCell c) 0 = 6 := by
  unfold Schedule.expect Schedule.amountOf
  rw [duties_bar, Finset.sum_congr rfl fun d _ => amount_bar I c d]; rfl
/-- a sending cell its bytes, -/
theorem expect_send (s m : Fin 4) (hm : m ≠ 0) (c : Dev nD) : (Rd I).expect (sendCell s m c) 0 = crd s.val := by
  unfold Schedule.expect Schedule.amountOf; rw [duties_send I s m hm, Finset.sum_singleton, amount_send]
/-- and so does a receiving cell. -/
theorem expect_recv (s m : Fin 4) (hm : m ≠ 0) (c : Dev nD) : (Rd I).expect (recvCell s m c) 0 = crd s.val := by
  unfold Schedule.expect Schedule.amountOf; rw [duties_recv I s m hm, Finset.sum_singleton, amount_recv]

/-- A barrier signal's payload, -/
theorem payload_bar (c : Dev nD) (d : Fin 6) : (Rd I).payload (barCell c) 0 d = barPay d c := rfl
/-- a send's, -/
theorem payload_send (s m : Fin 4) (c : Dev nD) (d : Fin 6) : (Rd I).payload (sendCell s m c) 0 d = sendPay I s.val m c := by
  show dmaPay I (6 + (sendK s m).val - 6) c = _
  unfold dmaPay
  rw [if_pos (by revert s m; decide), sendK_div]
  congr 1; revert s m; decide
/-- and an arrival's. -/
theorem payload_recv (s m : Fin 4) (c : Dev nD) (d : Fin 6) : (Rd I).payload (recvCell s m c) 0 d = recvPay I s.val m c := by
  show dmaPay I (6 + (recvK s m).val - 6) c = _
  unfold dmaPay
  rw [if_neg (by revert s m; decide), recvK_div]
  congr 1; revert s m; decide

/-- All six payloads of a barrier cell. -/
theorem rest_bar (c : Dev nD) : bigSep ((Rd I).duties (barCell c) 0 \ ∅) (fun d => (Rd I).payload (barCell c) 0 d)
    = iprop(barPay (F := F) 0 c ∗ barPay (F := F) 1 c ∗ barPay (F := F) 2 c ∗ barPay (F := F) 3 c ∗ barPay (F := F) 4 c ∗ barPay (F := F) 5 c) := by
  rw [Finset.sdiff_empty, duties_bar, bigSep_univ_eq_bigSepL [0, 1, 2, 3, 4, 5] (by decide) (by decide)]
  simp only [bigSepL_cons_cons, bigSepL_singleton, payload_bar]
  rfl
/-- A sending cell has nothing after its duty, -/
theorem rest_send (s m : Fin 4) (hm : m ≠ 0) (c : Dev nD) :
    bigSep ((Rd I).duties (sendCell s m c) 0 \ ∅) (fun d => (Rd I).payload (sendCell s m c) 0 d) = sendPay I s.val m c := by
  rw [Finset.sdiff_empty, duties_send I s m hm, bigSep_singleton, payload_send]
/-- nor has a receiving cell. -/
theorem rest_recv (s m : Fin 4) (hm : m ≠ 0) (c : Dev nD) :
    bigSep ((Rd I).duties (recvCell s m c) 0 \ ∅) (fun d => (Rd I).payload (recvCell s m c) 0 d) = recvPay I s.val m c := by
  rw [Finset.sdiff_empty, duties_recv I s m hm, bigSep_singleton, payload_recv]

/-! ## What is owed, and the levels -/

/-- The debts of a list, the first to be paid first. -/
def owe : List (GSem nD τ sig × ℕ) → CellTallies nD τ sig Unit
  | [] => 0
  | p :: l => owe l + tallyAt p.1 () p.2

/-- A cell that is owed something is in the list. -/
theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    unfold owe at h
    rw [Pi.add_apply, Finsupp.add_apply, tallyAt_apply] at h
    by_cases hg : g = p.1 ∧ u = ()
    · exact ⟨p, List.mem_cons_self, hg.1.symm⟩
    · rw [if_neg hg, Nat.add_zero] at h
      obtain ⟨p', hp', e⟩ := ih h
      exact ⟨p', List.mem_cons_of_mem _ hp', e⟩

/-- The copies of stages `s`, `s + 1`, …, in program order, as debts. -/
def sends (c : Dev nD) (s : Fin 4) : List (GSem nD τ sig × ℕ) :=
  [(recvCell s 1 (peer s 1 c), crd s.val), (recvCell s 2 (peer s 2 c), crd s.val), (recvCell s 3 (peer s 3 c), crd s.val)]
/-- What `c` owes after the signals. -/
def oweSends (c : Dev nD) : List (GSem nD τ sig × ℕ) := sends c 0 ++ (sends c 1 ++ (sends c 2 ++ sends c 3))
/-- What `c` owes at launch. -/
def oweAll (c : Dev nD) : List (GSem nD τ sig × ℕ) :=
  (barCell (sigTo 0 c), 1) :: (barCell (sigTo 1 c), 1) :: (barCell (sigTo 2 c), 1) :: (barCell (sigTo 3 c), 1)
    :: (barCell (sigTo 4 c), 1) :: (barCell (sigTo 5 c), 1) :: oweSends c
/-- What a device owes at launch. -/
def O₀ (c : Dev nD) : CellTallies nD τ sig Unit := owe (oweAll c)

/-- The cells that have levels, -/
def L (g : GSem nD τ sig) : Finset Unit := if g.1.2 = .tc then {()} else ∅
/-- The level of a semaphore. -/
def slv : SemLoc sig → ℕ
  | .reg _ => 1
  | .dma q => if 6 ≤ q.val ∧ 4 ≤ (q.val - 6) % 8 then (q.val - 6) / 8 + 2 else 0
/-- and the levels. -/
def lv (g : GSem nD τ sig) (_ : Unit) : ℕ := slv g.2

/-- Other cores have none, -/
theorem L_of_ne (g : GSem nD τ sig) (h : g.1.2 ≠ .tc) : L g = ∅ := if_neg h
/-- these have one. -/
theorem L_tc (c : Dev nD) (sm : SemLoc sig) : L ((c : Thread nD τ), sm) = {()} := if_pos rfl

/-- A receiving cell's level is its phase's, -/
theorem slv_recv (s m : Fin 4) : slv (.dma (dsem (recvK s m))) = s.val + 2 := by revert s m; decide
/-- and a sending cell's is zero. -/
theorem slv_send (s m : Fin 4) : slv (.dma (dsem (sendK s m))) = 0 := by revert s m; decide

/-- The level facts. -/
@[irreducible] def levs : sProp 𝕄 := levAts L lv
omit [FloatOps F] in
set_option maxRecDepth 8000 in
instance levs_persistent : BI.Persistent (levs (F := F)) := by unfold levs; infer_instance

omit [FloatOps F] in
/-- A wait on `sm` is allowed while every debt is on a core's cell of a higher level. -/
theorem mayWait (c : Dev nD) (sm : SemLoc sig) (l : List (GSem nD τ sig × ℕ)) (h : ∀ p ∈ l, p.1.1.2 = .tc ∧ slv sm < slv p.1.2) :
    levs (F := F) ⊢ MayWait (c : Thread nD τ) sm () (owe l) := by
  unfold levs
  exact MayOwe.of_cut (L := L) (lev := lv) (slv sm) (fun p hp => by rw [Finset.mem_singleton.mp hp, L_tc]; exact Finset.mem_singleton_self _)
    (fun g u hg => by
      obtain ⟨p, hp, rfl⟩ := owe_pos hg
      unfold L; rw [if_pos (h p hp).1]; exact Finset.mem_singleton_self _)
    (fun p hp => by rw [Finset.mem_singleton.mp hp]; exact le_refl _)
    (fun g u hg => by
      obtain ⟨p, hp, rfl⟩ := owe_pos hg
      exact (h p hp).2)

end Cert.KProof
-- ==== Proof.Steps.lean ====
/- One rule per kind of step of the cross-device protocol: a barrier signal, the barrier wait, a copy to a peer, and a wait
   for a copy's landing or completion. Each wait also closes its cell, so that its counter at zero is the device's again. -/
module

public import proofs.«01_k».proof.Proof.Schedule

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants. -/
abbrev 𝒱₀ : Variants := Variants.none

/-- A device's thirty-three cells: the transfer semaphores, then the barrier. -/
def csem (j : Fin 33) : SemLoc sig := if h : j.val < 32 then .dma (dsem ⟨j.val, h⟩) else .reg barS
/-- A device's cell by number. -/
abbrev kcell (ck : Dev nD × Fin 33) : GSem nD τ sig := ((ck.1 : Thread nD τ), csem ck.2)

/-- The first thirty-two are the copy cells, -/
theorem csem_dma (k : Fin 32) : csem k.castSucc = .dma (dsem k) := by
  have h : k.castSucc.val < 32 := k.isLt
  unfold csem; rw [dif_pos h]; rfl
/-- the last is the barrier. -/
theorem csem_bar : csem (Fin.last 32) = .reg barS := dif_neg (by decide)

variable (I : Dev nD → Ins F) (K : Dev nD × Fin 33 → ℕ)

/-- What every device knows: all the cells' invariants, that each has reached its round 0, and the levels. -/
def recs : sProp 𝕄 :=
  iprop(bigSep Finset.univ (fun ck : Dev nD × Fin 33 => iprop(cellInv ER (Rd I) (K ck) (kcell ck) ∗ reached ER (kcell ck) 0)) ∗ levs (F := F))

instance recs_persistent : BI.Persistent (recs I K) := by unfold recs; infer_instance

/-- A cell's record, -/
theorem recs_at (ck : Dev nD × Fin 33) : recs I K ⊢ iprop(cellInv ER (Rd I) (K ck) (kcell ck) ∗ reached ER (kcell ck) 0) := by
  unfold recs
  iintro ⟨H, -⟩
  iapply (show (bigSep Finset.univ fun ck => iprop(cellInv ER (Rd I) (K ck) (kcell ck) ∗ reached ER (kcell ck) 0) : sProp 𝕄)
    ⊢ iprop(cellInv ER (Rd I) (K ck) (kcell ck) ∗ reached ER (kcell ck) 0) from bigSep_elim (Finset.mem_univ ck))
  iexact H
/-- the levels, -/
theorem recs_lev : recs I K ⊢ levs (F := F) := by
  unfold recs; iintro ⟨-, H⟩; iexact H

/-- a copy cell's record, -/
theorem recs_dma (k : Fin 32) (c : Dev nD) : recs I K ⊢ iprop(cellInv ER (Rd I) (K (c, k.castSucc)) (dcell k c) ∗ reached ER (dcell k c) 0) := by
  have h := recs_at I K (c, k.castSucc)
  unfold kcell at h; rw [csem_dma] at h; exact h
/-- and the barrier's. -/
theorem recs_bar (c : Dev nD) : recs I K ⊢ iprop(cellInv ER (Rd I) (K (c, Fin.last 32)) (barCell c) ∗ reached ER (barCell c) 0) := by
  have h := recs_at I K (c, Fin.last 32)
  unfold kcell at h; rw [csem_bar] at h; exact h

/-- What `c` owes, whatever waits are on record. -/
def owesE (c : Dev nD) (l : List (GSem nD τ sig × ℕ)) : sProp 𝕄 := iprop(∃ W, owes (c : Thread nD τ) (owe l) W)

/-- A signal: duty `i` of the barrier cell of `sigTo i c`. -/
theorem step_signal (c n : Dev nD) (i : Fin 6) (hn : n = sigTo i c) (k' : ℕ) (hk' : 1 = k') (l : List (GSem nD τ sig × ℕ)) {α : Type} {Q : α → sProp 𝕄}
    {k : PUnit → Prog (TpuEff nD τ sig (Elt F) Λ₀ .tc) α} :
    iprop(recs I K ∗ owesE c ((barCell (sigTo i c), 1) :: l) ∗ dutyTok ER (barCell (sigTo i c)) 0 i ∗ barPay (F := F) i (sigTo i c))
      ⊢ iprop((owesE c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS k') k) Q) := by
  subst hn; subst hk'
  unfold owesE
  iintro ⟨#HR, ⟨%W, HO⟩, Htok, Hpay⟩ Hk
  ihave H := (recs_bar I K (sigTo i c)) $$ HR
  icases H with ⟨#HI, #Hr⟩
  iapply (Rounds.wp_signal 𝒱₀ ER (Rd I) (c : Thread nD τ) none (dst := (sigTo i c : Thread nD τ)) (κ := K (sigTo i c, Fin.last 32))
      (d := i) (by rw [duties_bar]; exact Finset.mem_univ _) (amount_bar I (sigTo i c) i) () (owe l) rfl) $$ [HO Htok Hpay]
  · isplitr; · iexact HI
    isplitl [HO]; · iexact HO
    isplitl [Htok]; · iexact Htok
    isplitl [Hpay]; · iapply (Entails.of_eq (payload_bar I (sigTo i c) i).symm); iexact Hpay
    iexact Hr
  iintro HO
  iapply Hk
  iexists W; iexact HO

/-- The barrier wait, for all six units. -/
theorem step_barrier (c : Dev nD) (k' : ℕ) (hk' : k' = 6) (l : List (GSem nD τ sig × ℕ)) (hl : ∀ p ∈ l, p.1.1.2 = .tc ∧ 1 < slv p.1.2) {α : Type} {Q : α → sProp 𝕄}
    {k : PUnit → Prog (TpuEff nD τ sig (Elt F) Λ₀ .tc) α} :
    iprop(recs I K ∗ cred (tallyAt (barCell c) () 6) ∗ owesE c l ∗ atPos ER (barCell c) 0 ∅ 0)
      ⊢ iprop(((owesE c l ∗ semVal (barCell c) 0 ∗ (barPay (F := F) 0 c ∗ barPay (F := F) 1 c ∗ barPay (F := F) 2 c ∗ barPay (F := F) 3 c ∗ barPay (F := F) 4 c ∗ barPay (F := F) 5 c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk'
  unfold owesE
  iintro ⟨#HR, Hc, ⟨%W, HO⟩, Hat⟩ Hk
  ihave H := (recs_bar I K c) $$ HR
  icases H with ⟨#HI, #Hr⟩
  ihave H := (recs_lev I K) $$ HR
  icases H with #HL
  iapply (Rounds.wp_wait_rest_token 𝒱₀ ER (Rd I) (c : Thread nD τ) none (κ := K (c, Fin.last 32))
      (wpE_semWait_eq 𝒱₀ (c : Thread nD τ) none Set.univ) (Set.mem_univ _) () (O := owe l) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait c (.reg barS) l hl); iexact HL
    iexact Hat
  iintro ⟨HO, Hat, -, Hpay⟩
  ihave Hp := (Entails.of_eq (rest_bar I c)) $$ Hpay
  imod (Rounds.cell_close ER (Rd I) (Set.mem_univ (K (c, Fin.last 32))) (fun h => h) (R := 0 + 1) (duties_later I (barCell c))) $$ [Hat] with Hz
  · isplitr; · iexact HI
    iexact Hat
  iapply Hk
  isplitl [HO]; · iexists _; iexact HO
  isplitl [Hz]; · iexact Hz
  iexact Hp

/-- The wait for a transfer semaphore's whole round. -/
theorem step_wait (c : Dev nD) (kk : Fin 32) (N : ℕ) (hN : (Rd I).expect (dcell kk c) 0 = N) (sem : DmaSem sig) (hsem : sem = dsem kk)
    {s s' : Shape} {e e' : EltTy} {src : Memref sig .tc .vmem s' e'} {dst : Memref sig .tc .vmem s e} {hsrc : src.view.WordExact} {hdst : dst.view.WordExact}
    (hcr : dst.view.dmaCredit = N) (l : List (GSem nD τ sig × ℕ)) (hl : ∀ p ∈ l, p.1.1.2 = .tc ∧ slv (.dma (dsem kk)) < slv p.1.2) {α : Type} {Q : α → sProp 𝕄}
    {k : PUnit → Prog (TpuEff nD τ sig (Elt F) Λ₀ .tc) α} :
    iprop(recs I K ∗ cred (tallyAt (dcell kk c) () N) ∗ owesE c l ∗ atPos ER (dcell kk c) 0 ∅ 0)
      ⊢ iprop(((owesE c l ∗ semVal (dcell kk c) 0 ∗ bigSep ((Rd I).duties (dcell kk c) 0 \ ∅) (fun d => (Rd I).payload (dcell kk c) 0 d))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hsem; subst hcr
  unfold owesE
  iintro ⟨#HR, Hc, ⟨%W, HO⟩, Hat⟩ Hk
  ihave H := (recs_dma I K kk c) $$ HR
  icases H with ⟨#HI, #Hr⟩
  ihave H := (recs_lev I K) $$ HR
  icases H with #HL
  iapply (Rounds.wp_wait_rest_token 𝒱₀ ER (Rd I) (c : Thread nD τ) none (κ := K (c, kk.castSucc))
      (wpE_waitDma2_eq 𝒱₀ (c : Thread nD τ) none Set.univ) (Set.mem_univ _) () (O := owe l) (W := W) (R := 0) (m := 0) (T := ∅)
      (by rw [Nat.zero_add, hN])) $$ [Hc HO Hat]
  · isplitr; · iexact HI
    isplitl [Hc]; · iexact Hc
    isplitl [HO]; · iexact HO
    isplitr; · iapply (mayWait c (.dma (dsem kk)) l hl); iexact HL
    iexact Hat
  iintro ⟨HO, Hat, -, Hpay⟩
  imod (Rounds.cell_close ER (Rd I) (Set.mem_univ (K (c, kk.castSucc))) (fun h => h) (R := 0 + 1) (duties_later I (dcell kk c))) $$ [Hat] with Hz
  · isplitr; · iexact HI
    iexact Hat
  iapply Hk
  isplitl [HO]; · iexists _; iexact HO
  isplitl [Hz]; · iexact Hz
  iexact Hpay

/-- The wait for the landing of stage `s`, slot `m`. -/
theorem step_recv (c : Dev nD) (s m : Fin 4) (hm : m ≠ 0) (sem : DmaSem sig) (hsem : sem = dsem (recvK s m))
    {t t' : Shape} {e e' : EltTy} {src : Memref sig .tc .vmem t' e'} {dst : Memref sig .tc .vmem t e} {hsrc : src.view.WordExact} {hdst : dst.view.WordExact}
    (hcr : dst.view.dmaCredit = crd s.val) (l : List (GSem nD τ sig × ℕ)) (hl : ∀ p ∈ l, p.1.1.2 = .tc ∧ s.val + 2 < slv p.1.2) {α : Type} {Q : α → sProp 𝕄}
    {k : PUnit → Prog (TpuEff nD τ sig (Elt F) Λ₀ .tc) α} :
    iprop(recs I K ∗ cred (tallyAt (recvCell s m c) () (crd s.val)) ∗ owesE c l ∗ atPos ER (recvCell s m c) 0 ∅ 0)
      ⊢ iprop(((owesE c l ∗ semVal (recvCell s m c) 0 ∗ recvPay I s.val m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  have h := step_wait I K c (recvK s m) (crd s.val) (expect_recv I s m hm c) sem hsem (hsrc := hsrc) (hdst := hdst) hcr l (by rw [slv_recv]; exact hl) (Q := Q) (k := k)
  rw [rest_recv I s m hm] at h
  exact h

/-- The wait for the completion of the copy of stage `s`, slot `m`. -/
theorem step_sent (c : Dev nD) (s m : Fin 4) (hm : m ≠ 0) (sem : DmaSem sig) (hsem : sem = dsem (sendK s m))
    {t t' : Shape} {e e' : EltTy} {src : Memref sig .tc .vmem t' e'} {dst : Memref sig .tc .vmem t e} {hsrc : src.view.WordExact} {hdst : dst.view.WordExact}
    (hcr : dst.view.dmaCredit = crd s.val) {α : Type} {Q : α → sProp 𝕄}
    {k : PUnit → Prog (TpuEff nD τ sig (Elt F) Λ₀ .tc) α} :
    iprop(recs I K ∗ cred (tallyAt (sendCell s m c) () (crd s.val)) ∗ owesE c [] ∗ atPos ER (sendCell s m c) 0 ∅ 0)
      ⊢ iprop(((owesE c [] ∗ semVal (sendCell s m c) 0 ∗ sendPay I s.val m c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  have h := step_wait I K c (sendK s m) (crd s.val) (expect_send I s m hm c) sem hsem (hsrc := hsrc) (hdst := hdst) hcr [] (fun p hp => absurd hp List.not_mem_nil) (Q := Q) (k := k)
  rw [rest_send I s m hm] at h
  exact h

/-- The copy of stage `s`, slot `m`, to `peer s m c`. -/
theorem step_send (c n : Dev nD) (s m : Fin 4) (hm : m ≠ 0) (hn : n = peer s m c) (sS sR : DmaSem sig) (hS : sS = dsem (sendK s m)) (hR : sR = dsem (recvK s m))
    {t : Shape} {e : EltTy} (src dst : Memref sig .tc .vmem t e) {hsc : (dst : Memref sig (Dev.tc n : Thread nD τ).2.kind .vmem t e).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem t e) (.dma sS) hsc)}
    (hcr : dst.view.dmaCredit = crd s.val) {q : PosShare TreeShare} {fs : Buf (Elt F) (src.view.loc (c : Thread nD τ))}
    (fd : Buf (Elt F) (dst.view.loc (peer s m c : Thread nD τ)))
    (hpay₁ : pts (F := F) src c q fs ⊢ sendPay I s.val m c)
    (hpay₂ : pts (F := F) dst (peer s m c) fullShare (dst.view.write (Elt F) fd (src.view.read (Elt F) fs) Finset.univ) ⊢ recvPay I s.val m (peer s m c))
    (l : List (GSem nD τ sig × ℕ)) {α : Type} {Q : α → sProp 𝕄} {k : PUnit → Prog (TpuEff nD τ sig (Elt F) Λ₀ .tc) α} :
    iprop(recs I K ∗ pts (F := F) src c q fs ∗ pts (F := F) dst (peer s m c) fullShare fd ∗ owesE c ((recvCell s m (peer s m c), crd s.val) :: l)
        ∗ dutyTok ER (sendCell s m c) 0 0 ∗ dutyTok ER (recvCell s m (peer s m c)) 0 0)
      ⊢ iprop(((cred (tallyAt (sendCell s m c) () (crd s.val)) ∗ owesE c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) k) Q) := by
  subst hn; subst hS; subst hR
  unfold owesE
  iintro ⟨#HR, Hs, Hd, ⟨%W, HO⟩, Ht1, Ht2⟩ Hk
  ihave H := (recs_dma I K (sendK s m) c) $$ HR
  icases H with ⟨#HI1, #Hr1⟩
  ihave H := (recs_dma I K (recvK s m) (peer s m c)) $$ HR
  icases H with ⟨#HI2, #Hr2⟩
  iapply (Rounds.wp_send_pointsTo 𝒱₀ ER (Rd I) (c : Thread nD τ) none (c' := (peer s m c : Thread nD τ)) (src := src) (dst := dst) (κ₁ := K (c, (sendK s m).castSucc)) (κ₂ := K (peer s m c, (recvK s m).castSucc))
      (r₁ := 0) (r₂ := 0) (d₁ := 0) (d₂ := 0) (fs := fs) (fd := fd) (q := q)
      (by rw [duties_send I s m hm]; exact Finset.mem_singleton_self _) (by rw [duties_recv I s m hm]; exact Finset.mem_singleton_self _)
      () () (crd s.val) (show dst.view.amount (.dma (dsem (recvK s m))) = crd s.val from hcr) (amount_send I s m c 0) (amount_recv I s m (peer s m c) 0) (owe l) rfl (W := W)
      (by rw [payload_send]; exact hpay₁)
      (by rw [payload_recv]; exact hpay₂)) $$ [Hs Hd HO Ht1 Ht2]
  · isplitr; · iexact HI1
    isplitr; · iexact HI2
    isplitl [Hs]; · unfold pts; iexact Hs
    isplitl [Hd]; · unfold pts; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Cert.KProof
-- ==== Proof.Sections.lean ====
/- The kernel's body cut into sections, each given what follows it, and the statement that the sections in order are the body. -/
module

public import proofs.«01_k».proof.Proof.Gen.KernelIdeal
public import proofs.«01_k».proof.Proof.Gen.KernelIdeal.Skeleton

@[expose] public section

noncomputable section

namespace Cert.KProof

open Cert.KernelIdeal Cert.KernelIdeal.Gen
open Idealize.ShloMosaic
open Idealize.ShloMosaic.TcCoe
open Idealize.SL Idealize.SL.Sem

variable {F : FTy → Type} [FloatOps F]

/-- Parts 1 to 4: the entry signals. -/
def sec0 {α : Type} (k : Dev nD → BitVec 32 → BitVec 32 → BitVec 32 → Sems sig S_ → IVec S512x512 32 → IVec S512x512 32 → IVec S512x512 1 → IVec S512x512 32 → Prog (TpuEff nD τ sig (Elt F) Λ₀ .tc) α) : Prog (TpuEff nD τ sig (Elt F) Λ₀ .tc) α := do
  let ⟨d0, v2, v19, v29, v30, v31, v34, v35, v36, c0_i32_17⟩ : Σ' (d0 : Dev nD) (v2 : BitVec 32) (v19 : BitVec 32) (v29 : BitVec 32) (v30 : Sems sig S_) (v31 : BitVec 32) (v34 : BitVec 32) (v35 : BitVec 32) (v36 : BitVec 1), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19
  let ⟨v61, v65, v70, v71⟩ : Σ' (v61 : BitVec 32) (v65 : BitVec 32) (v70 : BitVec 1), BitVec 32 ← k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v30 v31 v34 v35 v36 c0_i32_17
  let ⟨v104, c0_i32_63⟩ : Σ' (v104 : BitVec 32), BitVec 32 ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v30 v61 v65 v70 v71
  let ⟨v122, v124, v143, v144⟩ : Σ' (v122 : IVec S512x512 32) (v124 : IVec S512x512 32) (v143 : IVec S512x512 1), IVec S512x512 32 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v30 v104 c0_i32_63
  k d0 v2 v19 v29 v30 v122 v124 v143 v144

/-- Parts 5 to 14: the partial sums of the local keys. -/
def sec1 (v122 : IVec S512x512 32) (v124 : IVec S512x512 32) (v143 : IVec S512x512 1) (v144 : IVec S512x512 32) {α : Type} (k : IVec S512x512 1 → FVec F S512x512 .bf16 → FVec F S512x64 .bf16 → FVec F S512x64 .bf16 → Prog (TpuEff nD τ sig (Elt F) Λ₀ .tc) α) : Prog (TpuEff nD τ sig (Elt F) Λ₀ .tc) α := do
  let ⟨v162, v186, v188⟩ : Σ' (v162 : IVec S512x512 32) (v186 : IVec S512x512 32), BitVec 32 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v122 v124 v143 v144
  let ⟨v203, v206, v211, v215, v219, v222, v228⟩ : Σ' (v203 : IVec S512x512 1) (v206 : FVec F S768x512 .bf16) (v211 : FVec F S512x512 .bf16) (v215 : FVec F S512x512 .bf16) (v219 : FVec F S512x512 .bf16) (v222 : FVec F S512x64 .bf16), FVec F S512x512 .f32 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v162 v186 v188
  let ⟨v260, v264, cst_133⟩ : Σ' (v260 : FVec F S512x64 .bf16) (v264 : FVec F S512x512 .f32), F .f32 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v211 v215 v219 v222 v228
  let ⟨v298, v301⟩ : Σ' (v298 : FVec F S512x64 .bf16), FVec F S512x512 .f32 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v211 v215 v219 v260 v264 cst_133
  let ⟨v336, v337, cst_168⟩ : Σ' (v336 : FVec F S512x64 .bf16) (v337 : FVec F S512x512 .f32), F .f32 ← k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v211 v215 v219 v298 v301
  let v372 : Vec F S1x512x768 .f32 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v211 v215 v219 v336 v337 cst_168
  let ⟨v376, v380, v384, v406, v409⟩ : Σ' (v376 : FVec F S512x512 .bf16) (v380 : FVec F S512x512 .bf16) (v384 : FVec F S512x512 .bf16) (v406 : FVec F S512x64 .bf16), FVec F S512x512 .f32 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v206 v372
  let ⟨v444, v445, cst_225⟩ : Σ' (v444 : FVec F S512x64 .bf16) (v445 : FVec F S512x512 .f32), F .f32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v376 v380 v384 v406 v409
  let ⟨v480, v481, v482, cst_242⟩ : Σ' (v480 : FVec F S512x64 .bf16) (v481 : FVec F S512x64 .bf16) (v482 : FVec F S512x64 .bf16), FVec F S512x512 .f32 ← k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v376 v380 v384 v444 v445 cst_225
  let ⟨v518, v519⟩ : Σ' (v518 : FVec F S512x64 .bf16), FVec F S512x64 .bf16 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v203 v376 v380 v384 v480 v481 v482 cst_242
  k v203 v384 v518 v519

/-- Parts 15 to 22: the packed slots of the row reduction, and the barrier wait. -/
def sec2 (d0 : Dev nD) (v29 : BitVec 32) (v203 : IVec S512x512 1) (v384 : FVec F S512x512 .bf16) (v518 : FVec F S512x64 .bf16) (v519 : FVec F S512x64 .bf16) (v19 : BitVec 32) (v30 : Sems sig S_) {α : Type} (k : BitVec 32 → Prog (TpuEff nD τ sig (Elt F) Λ₀ .tc) α) : Prog (TpuEff nD τ sig (Elt F) Λ₀ .tc) α := do
  let ⟨v547, v548, v552⟩ : Σ' (v547 : BitVec 32) (v548 : BitVec 32), FVec F S16x32x64 .bf16 ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v203 v384 v518 v519
  let ⟨v578, v582⟩ : Σ' (v578 : BitVec 32), FVec F S16x32x64 .bf16 ← k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v547 v548 v552
  let ⟨v610, v611, c0_i32_326⟩ : Σ' (v610 : BitVec 32) (v611 : BitVec 32), BitVec 32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v547 v578 v582
  let v618 : BitVec 32 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v610 v611 c0_i32_326
  let ⟨v664, c32_i32_379⟩ : Σ' (v664 : BitVec 32), BitVec 32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v618
  let ⟨v689, v701⟩ : Σ' (v689 : BitVec 32), FVec F S32x16 .bf16 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v664 c32_i32_379
  let v731 : FVec F S32x16 .bf16 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v689 v701
  let v762 : BitVec 32 ← k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v30 v689 v731
  k v762

/-- Parts 23 to 26: the copies of the row reduction, the device's own packed block, and the first landing. -/
def sec3 (d0 : Dev nD) (v19 : BitVec 32) (v29 : BitVec 32) (v762 : BitVec 32) {α : Type} (k : BitVec 32 → BitVec 32 → Prog (TpuEff nD τ sig (Elt F) Λ₀ .tc) α) : Prog (TpuEff nD τ sig (Elt F) Λ₀ .tc) α := do
  let v785 : BitVec 32 ← k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v762
  let ⟨v808, v819, v822⟩ : Σ' (v808 : BitVec 32) (v819 : BitVec 32), Vec F S16x32x64 .f32 ← k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29
  let ⟨v845, c32_i32_539⟩ : Σ' (v845 : BitVec 32), BitVec 32 ← k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v819 v822
  k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v762 v845 c32_i32_539
  k v785 v808

/-- Parts 27 to 28: the other row landings, added. -/
def sec4 (v785 : BitVec 32) (v19 : BitVec 32) (v808 : BitVec 32) {α : Type} (k : Prog (TpuEff nD τ sig (Elt F) Λ₀ .tc) α) : Prog (TpuEff nD τ sig (Elt F) Λ₀ .tc) α := do
  k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v785
  k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v19 v808
  k

/-- Parts 29 to 30: the packed slots of the column reduction. -/
def sec5 (d0 : Dev nD) (v19 : BitVec 32) (v29 : BitVec 32) {α : Type} (k : BitVec 32 → Prog (TpuEff nD τ sig (Elt F) Λ₀ .tc) α) : Prog (TpuEff nD τ sig (Elt F) Λ₀ .tc) α := do
  let ⟨v957, v958, v963⟩ : Σ' (v957 : BitVec 32) (v958 : BitVec 32), BitVec 1 ← k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19
  let v985 : BitVec 32 ← k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v957 v958 v963
  k v985

/-- Parts 31 to 33: the copies of the column reduction and its landings. -/
def sec6 (d0 : Dev nD) (v19 : BitVec 32) (v29 : BitVec 32) (v985 : BitVec 32) {α : Type} (k : FVec F S17x32x64 .f32 → FVec F S17x32x64 .bf16 → Prog (TpuEff nD τ sig (Elt F) Λ₀ .tc) α) : Prog (TpuEff nD τ sig (Elt F) Λ₀ .tc) α := do
  let ⟨v1008, v1021, v1022, v1023, v1026⟩ : Σ' (v1008 : BitVec 32) (v1021 : BitVec 32) (v1022 : BitVec 32) (v1023 : BitVec 1), BitVec 1 ← k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29
  let ⟨v1031, v1044⟩ : Σ' (v1031 : BitVec 32), Vec F S17x32x64 .f32 ← k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v985 v1021 v1022 v1023 v1026
  let ⟨v1068, v1078⟩ : Σ' (v1068 : FVec F S17x32x64 .f32), FVec F S17x32x64 .bf16 ← k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1008 v1031 v1044
  k v1068 v1078

/-- Parts 34 to 37: the quotient. -/
def sec7 (v1068 : FVec F S17x32x64 .f32) (v1078 : FVec F S17x32x64 .bf16) (v19 : BitVec 32) {α : Type} (k : BitVec 32 → BitVec 32 → BitVec 1 → BitVec 1 → BitVec 1 → Prog (TpuEff nD τ sig (Elt F) Λ₀ .tc) α) : Prog (TpuEff nD τ sig (Elt F) Λ₀ .tc) α := do
  let ⟨v1080, v1122⟩ : Σ' (v1080 : FVec F S17x32x64 .f32), FVec F S32x64 .f32 ← k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1068 v1078
  let v1166 : FVec F S32x64 .f32 ← k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1080 v1122
  let v1207 : FVec F S32x64 .bf16 ← k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1080 v1166
  let ⟨v1243, v1244, v1245, v1246, v1247⟩ : Σ' (v1243 : BitVec 32) (v1244 : BitVec 32) (v1245 : BitVec 1) (v1246 : BitVec 1), BitVec 1 ← k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v19 v1080 v1207
  k v1243 v1244 v1245 v1246 v1247

/-- Parts 38 to 43: the column gather. -/
def sec8 (d0 : Dev nD) (v19 : BitVec 32) (v29 : BitVec 32) (v1243 : BitVec 32) (v1244 : BitVec 32) (v1245 : BitVec 1) (v1246 : BitVec 1) (v1247 : BitVec 1) (v2 : BitVec 32) {α : Type} (k : BitVec 32 → Prog (TpuEff nD τ sig (Elt F) Λ₀ .tc) α) : Prog (TpuEff nD τ sig (Elt F) Λ₀ .tc) α := do
  let ⟨v1253, v1274⟩ : Σ' (v1253 : BitVec 32), BitVec 32 ← k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v1243 v1244 v1245 v1246 v1247
  let ⟨v1295, v1310, v1311⟩ : Σ' (v1295 : BitVec 32) (v1310 : Vec F S16x32x64 .bf16), BitVec 32 ← k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v2 v19 v29
  let ⟨v1332, v1341⟩ : Σ' (v1332 : BitVec 32), FVec F S16x32x64 .bf16 ← k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v1253 v1310 v1311
  let v1365 : BitVec 32 ← k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v1274 v1332 v1341
  let ⟨v1398, v1400⟩ : Σ' (v1398 : BitVec 32), FVec F S16x32x64 .bf16 ← k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v1295 v1365
  let v1427 : BitVec 32 ← k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29 v1398 v1400
  k v1427

/-- Parts 44 to 49: the row gather. -/
def sec9 (d0 : Dev nD) (v19 : BitVec 32) (v29 : BitVec 32) (v1427 : BitVec 32) {α : Type} (k : BitVec 32 → FVec F S16x32x64 .bf16 → Prog (TpuEff nD τ sig (Elt F) Λ₀ .tc) α) : Prog (TpuEff nD τ sig (Elt F) Λ₀ .tc) α := do
  let ⟨v1448, v1457, v1468⟩ : Σ' (v1448 : BitVec 32) (v1457 : BitVec 32), BitVec 32 ← k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v19 v29
  let ⟨v1469, v1494, v1496, v1497, c32_i32_1040⟩ : Σ' (v1469 : BitVec 32) (v1494 : BitVec 32) (v1496 : FVec F S16x32x64 .bf16) (v1497 : BitVec 32), BitVec 32 ← k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v1427 v1457 v1468
  k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v1494 v1496 v1497 c32_i32_1040
  let ⟨v1543, v1553, v1555⟩ : Σ' (v1543 : BitVec 32) (v1553 : FVec F S16x32x64 .bf16), BitVec 32 ← k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v1448
  let ⟨v1582, c4_i32_1121, v1583⟩ : Σ' (v1582 : BitVec 32) (c4_i32_1121 : BitVec 32), BitVec 1 ← k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v29 v1469 v1543 v1553 v1555
  let ⟨v1592, v1610⟩ : Σ' (v1592 : BitVec 32), FVec F S16x32x64 .bf16 ← k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v1582 c4_i32_1121 v1583
  k v1592 v1610

/-- Parts 50 to 53: the output. -/
def sec10 (d0 : Dev nD) (v1592 : BitVec 32) (v1610 : FVec F S16x32x64 .bf16) {α : Type} (k : Prog (TpuEff nD τ sig (Elt F) Λ₀ .tc) α) : Prog (TpuEff nD τ sig (Elt F) Λ₀ .tc) α := do
  let ⟨v1627, v1643, v1645⟩ : Σ' (v1627 : FVec F S512x768 .bf16) (v1643 : FVec F S512x768 .f32), FVec F S512x64 .bf16 ← k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 d0 v1592 v1610
  let v1677 : FVec F S512x768 .f32 ← k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1627 v1643 v1645
  let ⟨v1707, v1711⟩ : Σ' (v1707 : FVec F S512x768 .f32), FVec F S512x768 .f32 ← k0_part52 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1627 v1677
  k0_part53 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 v1707 v1711
  k

/-- Parts 54 to 55: the last completions. -/
def sec11 : Prog (TpuEff nD τ sig (Elt F) Λ₀ .tc) PUnit := do
  k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19
  k0_part55 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19

/-- The sections in order. -/
def chain : Prog (TpuEff nD τ sig (Elt F) Λ₀ .tc) PUnit :=
  sec0 fun d0 v2 v19 v29 v30 v122 v124 v143 v144 =>
  sec1 v122 v124 v143 v144 fun v203 v384 v518 v519 =>
  sec2 d0 v29 v203 v384 v518 v519 v19 v30 fun v762 =>
  sec3 d0 v19 v29 v762 fun v785 v808 =>
  sec4 v785 v19 v808 <|
  sec5 d0 v19 v29 fun v985 =>
  sec6 d0 v19 v29 v985 fun v1068 v1078 =>
  sec7 v1068 v1078 v19 fun v1243 v1244 v1245 v1246 v1247 =>
  sec8 d0 v19 v29 v1243 v1244 v1245 v1246 v1247 v2 fun v1427 =>
  sec9 d0 v19 v29 v1427 fun v1592 v1610 =>
  sec10 d0 v1592 v1610 <|
  sec11

/-- The kernel's body but for its last wait is the sections in order. -/
theorem part56_eq : k0_part56_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 = chain := rfl

end Cert.KProof
-- ==== Proof.Contents.lean ====
/- What a buffer holds after a list of stores: a general step, adding one store to the list, and the two steps of the
   buffers the heads are written to. -/
module

public import proofs.«01_k».proof.Proof.Spec
public import Idealize.ShloMosaic.Lib.ValueLayout
public import Idealize.ShloMosaic.Lib.ValueLayoutCasts

@[expose] public section

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-- One more store: where the piece agrees with `G` and the new domain is covered by the old one and the piece's
    rectangle, the contents agree with `G` on the new domain. -/
theorem put {sig : RefSig} {κ : Kind} {sp : Space} {s : Shape} {e : EltTy} {Val : EltTy → Type}
    (v : View sig κ sp s e) (f : v.ty.Contents Val) (L : List (View.Piece Val s e)) (G : s.Idx → Val e) {P P' : s.Idx → Prop}
    (h : ∀ y, P y → v.read Val (v.writes Val f L) y = G y) (r : Rect s) (w : r.shape.Idx → Val e)
    (hw : ∀ x, w x = G (r.emb x)) (hP : ∀ y, P' y → P y ∨ y ∈ r.set) :
    ∀ y, P' y → v.read Val (v.writes Val f (⟨r, w⟩ :: L)) y = G y := by
  intro y hy
  by_cases hm : y ∈ r.set
  · obtain ⟨x, rfl⟩ : ∃ x, r.emb x = y := by
      have := hm; rw [← Rect.map_emb_univ] at this; obtain ⟨x, -, hx⟩ := Finset.mem_map.mp this; exact ⟨x, hx⟩
    exact (View.read_writes_cons_emb v f r w L x).trans (hw x)
  · refine (View.read_slice_write_of_not_mem r _ w Finset.univ (by rw [Rect.map_emb_univ]; exact hm)).trans (h y ?_)
    exact (hP y hy).resolve_right hm

/-- Storing the pair `g`'s weighted sums. -/
theorem stepO {sig : RefSig} {κ : Kind} {sp : Space} (I : Ins F) (v : View sig κ sp S16x512x64 .f32) (f : v.ty.Contents (Elt F))
    (L : List (View.Piece (Elt F) S16x512x64 .f32)) (g : Fin 16) (inb) (w : S1x512x64.Idx → Elt F .f32)
    (hw : w = shapeCast S1x512x64 (headO (gW I g) (vB I (gB g)) (gH g)) shapeCasts_S512x64_S1x512x64) (n : ℕ) (hn : n = g.val + 1)
    (h : ∀ y, (y 0).val < g.val → v.read (Elt F) (v.writes (Elt F) f L) y = OA I y) :
    ∀ y, (y 0).val < n → v.read (Elt F) (v.writes (Elt F) f
      (⟨Rect.unit (s := S16x512x64) ![g.val, 0, 0] S1x512x64.size inb, w⟩ :: L)) y = OA I y := by
  refine put v f L (OA I) (P := fun y => (y 0).val < g.val) h (Rect.unit (s := S16x512x64) ![g.val, 0, 0] S1x512x64.size inb) w ?_ ?_
  · intro (x : S1x512x64.Idx)
    have hx : (Rect.unit (s := S16x512x64) ![g.val, 0, 0] S1x512x64.size inb).emb x = ix3 g (x 1) (x 2) := by
      funext a; apply Fin.ext
      have h0 : (x 0).val < 1 := (x 0).isLt
      match a with
      | ⟨0, _⟩ => show g.val + 1 * (x 0).val = g.val; omega
      | ⟨1, _⟩ => show 0 + 1 * (x 1).val = (x 1).val; omega
      | ⟨2, _⟩ => show 0 + 1 * (x 2).val = (x 2).val; omega
    rw [hx, hw, eq_ix3 x]
    exact shapeCast_ab_1ab_apply _ _ _ _ _
  · intro y hy
    by_cases hc : (y 0).val < g.val
    · exact .inl hc
    · right; rw [Rect.mem_set_unit]; intro a
      match a with
      | ⟨0, _⟩ => show g.val ≤ (y 0).val ∧ (y 0).val < g.val + 1; omega
      | ⟨1, _⟩ => have : (y 1).val < 512 := (y 1).isLt
                  show 0 ≤ (y 1).val ∧ (y 1).val < 0 + 512; omega
      | ⟨2, _⟩ => have : (y 2).val < 64 := (y 2).isLt
                  show 0 ≤ (y 2).val ∧ (y 2).val < 0 + 64; omega

/-- Storing the pair `g`'s weight sums. -/
theorem stepS {sig : RefSig} {κ : Kind} {sp : Space} (I : Ins F) (v : View sig κ sp S512x16 .f32) (f : v.ty.Contents (Elt F))
    (L : List (View.Piece (Elt F) S512x16 .f32)) (g : Fin 16) (inb) (w : S512x1.Idx → Elt F .f32)
    (hw : w = shapeCast S512x1 (shapeCast S512x1 (headS (gW I g)) shapeCasts_S512_S512x1) shapeCasts_S512x1_S512x1) (n : ℕ) (hn : n = g.val + 1)
    (h : ∀ y, (y 1).val < g.val → v.read (Elt F) (v.writes (Elt F) f L) y = SA I y) :
    ∀ y, (y 1).val < n → v.read (Elt F) (v.writes (Elt F) f
      (⟨Rect.unit (s := S512x16) ![0, g.val] S512x1.size inb, w⟩ :: L)) y = SA I y := by
  refine put v f L (SA I) (P := fun y => (y 1).val < g.val) h (Rect.unit (s := S512x16) ![0, g.val] S512x1.size inb) w ?_ ?_
  · intro (x : S512x1.Idx)
    have hx : (Rect.unit (s := S512x16) ![0, g.val] S512x1.size inb).emb x = ix2 (x 0) g := by
      funext a; apply Fin.ext
      have h0 : (x 1).val < 1 := (x 1).isLt
      match a with
      | ⟨0, _⟩ => show 0 + 1 * (x 0).val = (x 0).val; omega
      | ⟨1, _⟩ => show g.val + 1 * (x 1).val = g.val; omega
    rw [hx, hw, shapeCast_self, eq_ix2 x]
    exact shapeCast_a_a1_apply _ _ _ _
  · intro y hy
    by_cases hc : (y 1).val < g.val
    · exact .inl hc
    · right; rw [Rect.mem_set_unit]; intro a
      match a with
      | ⟨0, _⟩ => have : (y 0).val < 512 := (y 0).isLt
                  show 0 ≤ (y 0).val ∧ (y 0).val < 0 + 512; omega
      | ⟨1, _⟩ => show g.val ≤ (y 1).val ∧ (y 1).val < g.val + 1; omega

end Cert.KProof
-- ==== Proof.Own.lean ====
/- The runs of the kernel's sections: a whole buffer, and what its contents are known to be. -/
module
public import proofs.«01_k».proof.Proof.Steps
public import proofs.«01_k».proof.Proof.Sections
public import proofs.«01_k».proof.Proof.Contents
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-! The closed forms of the offsets that depend on the device. -/

instance (c : Dev nD) : ClosedOff (k0_off1 c 0#32 1#32) := ⟨![0, rowOff c 0 1, 0], off1_eq c 0 1 (by decide)⟩
instance (c : Dev nD) : ClosedOff (k0_off2 c 0#32 1#32) := ⟨![rowOff c 0 1, 0], off2_eq c 0 1 (by decide)⟩
instance (c : Dev nD) : ClosedOff (k0_off11 c 0#32 1#32) := ⟨![0, 32 * (4 * ((0 : Fin 4) : ℕ) + (rowPeer (opp 1) c).val % 4), 0], off11_eq c 0 1 (by decide)⟩
instance (c : Dev nD) : ClosedOff (k0_off1 c 0#32 2#32) := ⟨![0, rowOff c 0 2, 0], off1_eq c 0 2 (by decide)⟩
instance (c : Dev nD) : ClosedOff (k0_off2 c 0#32 2#32) := ⟨![rowOff c 0 2, 0], off2_eq c 0 2 (by decide)⟩
instance (c : Dev nD) : ClosedOff (k0_off11 c 0#32 2#32) := ⟨![0, 32 * (4 * ((0 : Fin 4) : ℕ) + (rowPeer (opp 2) c).val % 4), 0], off11_eq c 0 2 (by decide)⟩
instance (c : Dev nD) : ClosedOff (k0_off1 c 0#32 3#32) := ⟨![0, rowOff c 0 3, 0], off1_eq c 0 3 (by decide)⟩
instance (c : Dev nD) : ClosedOff (k0_off2 c 0#32 3#32) := ⟨![rowOff c 0 3, 0], off2_eq c 0 3 (by decide)⟩
instance (c : Dev nD) : ClosedOff (k0_off11 c 0#32 3#32) := ⟨![0, 32 * (4 * ((0 : Fin 4) : ℕ) + (rowPeer (opp 3) c).val % 4), 0], off11_eq c 0 3 (by decide)⟩
instance (c : Dev nD) : ClosedOff (k0_off3 c 0#32) := ⟨![0, rowOff c 0 0, 0], off3_eq c 0⟩
instance (c : Dev nD) : ClosedOff (k0_off4 c 0#32) := ⟨![rowOff c 0 0, 0], off4_eq c 0⟩
instance (c : Dev nD) : ClosedOff (k0_off1 c 4#32 1#32) := ⟨![0, rowOff c 1 1, 0], off1_eq c 1 1 (by decide)⟩
instance (c : Dev nD) : ClosedOff (k0_off2 c 4#32 1#32) := ⟨![rowOff c 1 1, 0], off2_eq c 1 1 (by decide)⟩
instance (c : Dev nD) : ClosedOff (k0_off11 c 4#32 1#32) := ⟨![0, 32 * (4 * ((1 : Fin 4) : ℕ) + (rowPeer (opp 1) c).val % 4), 0], off11_eq c 1 1 (by decide)⟩
instance (c : Dev nD) : ClosedOff (k0_off1 c 4#32 2#32) := ⟨![0, rowOff c 1 2, 0], off1_eq c 1 2 (by decide)⟩
instance (c : Dev nD) : ClosedOff (k0_off2 c 4#32 2#32) := ⟨![rowOff c 1 2, 0], off2_eq c 1 2 (by decide)⟩
instance (c : Dev nD) : ClosedOff (k0_off11 c 4#32 2#32) := ⟨![0, 32 * (4 * ((1 : Fin 4) : ℕ) + (rowPeer (opp 2) c).val % 4), 0], off11_eq c 1 2 (by decide)⟩
instance (c : Dev nD) : ClosedOff (k0_off1 c 4#32 3#32) := ⟨![0, rowOff c 1 3, 0], off1_eq c 1 3 (by decide)⟩
instance (c : Dev nD) : ClosedOff (k0_off2 c 4#32 3#32) := ⟨![rowOff c 1 3, 0], off2_eq c 1 3 (by decide)⟩
instance (c : Dev nD) : ClosedOff (k0_off11 c 4#32 3#32) := ⟨![0, 32 * (4 * ((1 : Fin 4) : ℕ) + (rowPeer (opp 3) c).val % 4), 0], off11_eq c 1 3 (by decide)⟩
instance (c : Dev nD) : ClosedOff (k0_off3 c 4#32) := ⟨![0, rowOff c 1 0, 0], off3_eq c 1⟩
instance (c : Dev nD) : ClosedOff (k0_off4 c 4#32) := ⟨![rowOff c 1 0, 0], off4_eq c 1⟩
instance (c : Dev nD) : ClosedOff (k0_off1 c 8#32 1#32) := ⟨![0, rowOff c 2 1, 0], off1_eq c 2 1 (by decide)⟩
instance (c : Dev nD) : ClosedOff (k0_off2 c 8#32 1#32) := ⟨![rowOff c 2 1, 0], off2_eq c 2 1 (by decide)⟩
instance (c : Dev nD) : ClosedOff (k0_off11 c 8#32 1#32) := ⟨![0, 32 * (4 * ((2 : Fin 4) : ℕ) + (rowPeer (opp 1) c).val % 4), 0], off11_eq c 2 1 (by decide)⟩
instance (c : Dev nD) : ClosedOff (k0_off1 c 8#32 2#32) := ⟨![0, rowOff c 2 2, 0], off1_eq c 2 2 (by decide)⟩
instance (c : Dev nD) : ClosedOff (k0_off2 c 8#32 2#32) := ⟨![rowOff c 2 2, 0], off2_eq c 2 2 (by decide)⟩
instance (c : Dev nD) : ClosedOff (k0_off11 c 8#32 2#32) := ⟨![0, 32 * (4 * ((2 : Fin 4) : ℕ) + (rowPeer (opp 2) c).val % 4), 0], off11_eq c 2 2 (by decide)⟩
instance (c : Dev nD) : ClosedOff (k0_off1 c 8#32 3#32) := ⟨![0, rowOff c 2 3, 0], off1_eq c 2 3 (by decide)⟩
instance (c : Dev nD) : ClosedOff (k0_off2 c 8#32 3#32) := ⟨![rowOff c 2 3, 0], off2_eq c 2 3 (by decide)⟩
instance (c : Dev nD) : ClosedOff (k0_off11 c 8#32 3#32) := ⟨![0, 32 * (4 * ((2 : Fin 4) : ℕ) + (rowPeer (opp 3) c).val % 4), 0], off11_eq c 2 3 (by decide)⟩
instance (c : Dev nD) : ClosedOff (k0_off3 c 8#32) := ⟨![0, rowOff c 2 0, 0], off3_eq c 2⟩
instance (c : Dev nD) : ClosedOff (k0_off4 c 8#32) := ⟨![rowOff c 2 0, 0], off4_eq c 2⟩
instance (c : Dev nD) : ClosedOff (k0_off1 c 12#32 1#32) := ⟨![0, rowOff c 3 1, 0], off1_eq c 3 1 (by decide)⟩
instance (c : Dev nD) : ClosedOff (k0_off2 c 12#32 1#32) := ⟨![rowOff c 3 1, 0], off2_eq c 3 1 (by decide)⟩
instance (c : Dev nD) : ClosedOff (k0_off11 c 12#32 1#32) := ⟨![0, 32 * (4 * ((3 : Fin 4) : ℕ) + (rowPeer (opp 1) c).val % 4), 0], off11_eq c 3 1 (by decide)⟩
instance (c : Dev nD) : ClosedOff (k0_off1 c 12#32 2#32) := ⟨![0, rowOff c 3 2, 0], off1_eq c 3 2 (by decide)⟩
instance (c : Dev nD) : ClosedOff (k0_off2 c 12#32 2#32) := ⟨![rowOff c 3 2, 0], off2_eq c 3 2 (by decide)⟩
instance (c : Dev nD) : ClosedOff (k0_off11 c 12#32 2#32) := ⟨![0, 32 * (4 * ((3 : Fin 4) : ℕ) + (rowPeer (opp 2) c).val % 4), 0], off11_eq c 3 2 (by decide)⟩
instance (c : Dev nD) : ClosedOff (k0_off1 c 12#32 3#32) := ⟨![0, rowOff c 3 3, 0], off1_eq c 3 3 (by decide)⟩
instance (c : Dev nD) : ClosedOff (k0_off2 c 12#32 3#32) := ⟨![rowOff c 3 3, 0], off2_eq c 3 3 (by decide)⟩
instance (c : Dev nD) : ClosedOff (k0_off11 c 12#32 3#32) := ⟨![0, 32 * (4 * ((3 : Fin 4) : ℕ) + (rowPeer (opp 3) c).val % 4), 0], off11_eq c 3 3 (by decide)⟩
instance (c : Dev nD) : ClosedOff (k0_off3 c 12#32) := ⟨![0, rowOff c 3 0, 0], off3_eq c 3⟩
instance (c : Dev nD) : ClosedOff (k0_off4 c 12#32) := ⟨![rowOff c 3 0, 0], off4_eq c 3⟩
instance (c : Dev nD) : ClosedOff (k0_off5 c 1#32) := ⟨![17 * ((c.val / 4 + ((1 : Fin 4) : ℕ)) % 4), 0, 0], off5_eq c 1 (by decide)⟩
instance (c : Dev nD) : ClosedOff (k0_off9 c 1#32) := ⟨![16 * ((colPeer (opp 1) c).val / 4), 0, 0], off9_eq c 1 (by decide)⟩
instance (c : Dev nD) : ClosedOff (k0_off10 c 1#32) := ⟨![0, 32 * (colPeer (opp 1) c).val, 0], off10_eq c 1 (by decide)⟩
instance (c : Dev nD) : ClosedOff (k0_off5 c 2#32) := ⟨![17 * ((c.val / 4 + ((2 : Fin 4) : ℕ)) % 4), 0, 0], off5_eq c 2 (by decide)⟩
instance (c : Dev nD) : ClosedOff (k0_off9 c 2#32) := ⟨![16 * ((colPeer (opp 2) c).val / 4), 0, 0], off9_eq c 2 (by decide)⟩
instance (c : Dev nD) : ClosedOff (k0_off10 c 2#32) := ⟨![0, 32 * (colPeer (opp 2) c).val, 0], off10_eq c 2 (by decide)⟩
instance (c : Dev nD) : ClosedOff (k0_off5 c 3#32) := ⟨![17 * ((c.val / 4 + ((3 : Fin 4) : ℕ)) % 4), 0, 0], off5_eq c 3 (by decide)⟩
instance (c : Dev nD) : ClosedOff (k0_off9 c 3#32) := ⟨![16 * ((colPeer (opp 3) c).val / 4), 0, 0], off9_eq c 3 (by decide)⟩
instance (c : Dev nD) : ClosedOff (k0_off10 c 3#32) := ⟨![0, 32 * (colPeer (opp 3) c).val, 0], off10_eq c 3 (by decide)⟩
instance (c : Dev nD) : ClosedOff (k0_off6 c) := ⟨![17 * (c.val / 4), 0, 0], off6_eq c⟩
instance (c : Dev nD) : ClosedOff (k0_off7 c) := ⟨![16 * (c.val / 4), 0, 0], off7_eq c⟩
instance (c : Dev nD) : ClosedOff (k0_off8 c) := ⟨![0, 32 * c.val, 0], off8_eq c⟩

/-- A whole buffer of `c` at contents `f`. -/
abbrev own (c : Dev nD) (r : Ref sig .tc) (f : r.ty.Contents (Elt F)) : sProp 𝕄 :=
  iprop((Memref.whole r).view.loc ((c : Dev nD) : Thread nD τ) ↦{fullShare} f)

/-- A whole buffer at contents with a property. -/
def ownP (c : Dev nD) (r : Ref sig .tc) (P : (r.ty.shape.Idx → Elt F r.ty.elt) → Prop) : sProp 𝕄 :=
  iprop(∃ f, ⌜P ((Memref.whole r).view.read (Elt F) f)⌝ ∗ own c r f)

/-- Contents that have a property, -/
theorem ownP_of (c : Dev nD) (r : Ref sig .tc) (P : (r.ty.shape.Idx → Elt F r.ty.elt) → Prop) (f : r.ty.Contents (Elt F)) :
    own c r f ⊢ iprop(⌜P ((Memref.whole r).view.read (Elt F) f)⌝ -∗ ownP c r P) := by
  iintro H %h
  unfold ownP
  iexists f
  isplitr
  · ipureintro; exact h
  · iexact H

/-- and back. -/
theorem ownP_out (c : Dev nD) (r : Ref sig .tc) (P : (r.ty.shape.Idx → Elt F r.ty.elt) → Prop) :
    ownP c r P ⊢ iprop(∃ f, ⌜P ((Memref.whole r).view.read (Elt F) f)⌝ ∗ own c r f) := by
  unfold ownP; iintro H; iexact H

/-- A view with given contents has some, -/
theorem ptsEx_of {s : Shape} {e : EltTy} (M : Memref sig .tc .vmem s e) (c : Dev nD) (f : Buf (Elt F) (M.view.loc (c : Thread nD τ))) :
    pts M c fullShare f ⊢ ptsEx (F := F) M c := by
  unfold ptsEx; iintro H; iexists f; iexact H

/-- and back. -/
theorem ptsEx_out {s : Shape} {e : EltTy} (M : Memref sig .tc .vmem s e) (c : Dev nD) :
    ptsEx (F := F) M c ⊢ iprop(∃ f, pts (F := F) M c fullShare f) := by
  unfold ptsEx; iintro H; iexact H

/-- A view whose contents have a property has some contents. -/
theorem ptsP_out {s : Shape} {e : EltTy} (M : Memref sig .tc .vmem s e) (c : Dev nD) (P : Vec F s e → Prop) :
    ptsP M c P ⊢ iprop(∃ f, ⌜P (M.view.read (Elt F) f)⌝ ∗ pts (F := F) M c fullShare f) := by
  unfold ptsP; iintro H; iexact H

/-- A weaker property. -/
theorem ptsP_weak {s : Shape} {e : EltTy} (M : Memref sig .tc .vmem s e) (c : Dev nD) (P : Vec F s e → Prop) :
    ptsP M c P ⊢ ptsEx (F := F) M c := by
  unfold ptsP ptsEx; iintro ⟨%f, -, H⟩; iexists f; iexact H

end Cert.KProof
-- ==== Proof.Sends.lean ====
/- The copies of the four stages: what each needs, and what it gives. -/
module
public import proofs.«01_k».proof.Proof.Own
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- An arrival's payload in the first phase, -/
theorem recvPay_a (m : Fin 4) (c : Dev nD) : recvPay I ((0 : Fin 4) : ℕ) m c = ptsP (aR m) c (fun X => ∀ i, Good68 i → X i = AS I (rowPeer (opp m) c) m i) := rfl
/-- the second, -/
theorem recvPay_b (m : Fin 4) (c : Dev nD) : recvPay I ((1 : Fin 4) : ℕ) m c = ptsP (bR m) c (fun X => ∀ i, Good17 i → X i = BS I (colPeer (opp m) c) m i) := rfl
/-- the third, -/
theorem recvPay_d (m : Fin 4) (c : Dev nD) : recvPay I ((2 : Fin 4) : ℕ) m c = ptsP (dR m) c (fun X => X = CB I (colPeer (opp m) c)) := rfl
/-- and the fourth. -/
theorem recvPay_e (m : Fin 4) (c : Dev nD) : recvPay I ((3 : Fin 4) : ℕ) m c = ptsP (eR m) c (fun X => X = CG I (rowPeer (opp m) c)) := rfl

/-- A copy of the row reduction. -/
theorem send_a (c n : Dev nD) (m : Fin 4) (hm : m ≠ 0) (hn : n = peer 0 m c) (sS sR : DmaSem sig) (hS : sS = dsem (sendK 0 m)) (hR : sR = dsem (recvK 0 m))
    {hsc : (aR m : Memref sig (Dev.tc n : Thread nD τ).2.kind .vmem _ _).view.ref.isScScratch = false}
    {hsrc : (aS m).view.WordExact} {hdst : (aR m).view.WordExact}
    {hsem : DmaTarget.Typed .vmem (.dma sR) (.remote (Dev.tc n : Thread nD τ) (aR m : Memref sig (Dev.tc n : Thread nD τ).2.kind .vmem _ _) (.dma sS) hsc)}
    (l : List (GSem nD τ sig × ℕ)) {α : Type} {Q : α → sProp 𝕄} {k : PUnit → Prog (TpuEff nD τ sig (Elt F) Λ₀ .tc) α} :
    iprop(recs I K ∗ ptsP (aS m) c (fun X => ∀ i, Good68 i → X i = AS I c m i) ∗ ptsEx (F := F) (aR m) (peer 0 m c) ∗ owesE c ((recvCell 0 m (peer 0 m c), crd 0) :: l)
        ∗ dutyTok ER (sendCell 0 m c) 0 0 ∗ dutyTok ER (recvCell 0 m (peer 0 m c)) 0 0)
      ⊢ iprop(((cred (tallyAt (sendCell 0 m c) () (crd 0)) ∗ owesE c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (aS m) (.remote (Dev.tc n : Thread nD τ) (aR m) (.dma sS) hsc) (.dma sR) hsrc hdst hsem) k) Q) := by
  iintro ⟨#HR, Hs, Hd, HO, Ht1, Ht2⟩ Hk
  ihave Hs := (ptsP_out (aS m) c _) $$ Hs
  icases Hs with ⟨%fs, %hfs, Hs⟩
  ihave Hd := (ptsEx_out (aR m) (peer 0 m c)) $$ Hd
  icases Hd with ⟨%fd, Hd⟩
  iapply (step_send I K c n 0 m hm hn sS sR hS hR (aS m) (aR m) rfl fd (ptsEx_of (aS m) c fs) (by
      refine BIBase.Entails.trans ?_ (Entails.of_eq (recvPay_a I m (peer 0 m c)).symm)
      unfold ptsP
      iintro H
      iexists _
      isplitr [H]; rotate_left
      · iexact H
      ipureintro
      rw [View.read_write_univ]
      intro i hi
      rw [hfs i hi, show rowPeer (opp m) (peer 0 m c) = c from rowPeer_opp m c]) l) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iexact Hk

/-- A copy of the column reduction. -/
theorem send_b (c n : Dev nD) (m : Fin 4) (hm : m ≠ 0) (hn : n = peer 1 m c) (sS sR : DmaSem sig) (hS : sS = dsem (sendK 1 m)) (hR : sR = dsem (recvK 1 m))
    {hsc : (bR m : Memref sig (Dev.tc n : Thread nD τ).2.kind .vmem _ _).view.ref.isScScratch = false}
    {hsrc : (bS m).view.WordExact} {hdst : (bR m).view.WordExact}
    {hsem : DmaTarget.Typed .vmem (.dma sR) (.remote (Dev.tc n : Thread nD τ) (bR m : Memref sig (Dev.tc n : Thread nD τ).2.kind .vmem _ _) (.dma sS) hsc)}
    (l : List (GSem nD τ sig × ℕ)) {α : Type} {Q : α → sProp 𝕄} {k : PUnit → Prog (TpuEff nD τ sig (Elt F) Λ₀ .tc) α} :
    iprop(recs I K ∗ ptsP (bS m) c (fun X => ∀ i, Good17 i → X i = BS I c m i) ∗ ptsEx (F := F) (bR m) (peer 1 m c) ∗ owesE c ((recvCell 1 m (peer 1 m c), crd 1) :: l)
        ∗ dutyTok ER (sendCell 1 m c) 0 0 ∗ dutyTok ER (recvCell 1 m (peer 1 m c)) 0 0)
      ⊢ iprop(((cred (tallyAt (sendCell 1 m c) () (crd 1)) ∗ owesE c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (bS m) (.remote (Dev.tc n : Thread nD τ) (bR m) (.dma sS) hsc) (.dma sR) hsrc hdst hsem) k) Q) := by
  iintro ⟨#HR, Hs, Hd, HO, Ht1, Ht2⟩ Hk
  ihave Hs := (ptsP_out (bS m) c _) $$ Hs
  icases Hs with ⟨%fs, %hfs, Hs⟩
  ihave Hd := (ptsEx_out (bR m) (peer 1 m c)) $$ Hd
  icases Hd with ⟨%fd, Hd⟩
  iapply (step_send I K c n 1 m hm hn sS sR hS hR (bS m) (bR m) rfl fd (ptsEx_of (bS m) c fs) (by
      refine BIBase.Entails.trans ?_ (Entails.of_eq (recvPay_b I m (peer 1 m c)).symm)
      unfold ptsP
      iintro H
      iexists _
      isplitr [H]; rotate_left
      · iexact H
      ipureintro
      rw [View.read_write_univ]
      intro i hi
      rw [hfs i hi, show colPeer (opp m) (peer 1 m c) = c from colPeer_opp m c]) l) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iexact Hk

/-- A copy of the column gather. -/
theorem send_d (c n : Dev nD) (m : Fin 4) (hm : m ≠ 0) (hn : n = peer 2 m c) (sS sR : DmaSem sig) (hS : sS = dsem (sendK 2 m)) (hR : sR = dsem (recvK 2 m))
    {hsc : (dR m : Memref sig (Dev.tc n : Thread nD τ).2.kind .vmem _ _).view.ref.isScScratch = false}
    {hsrc : (dS).view.WordExact} {hdst : (dR m).view.WordExact}
    {hsem : DmaTarget.Typed .vmem (.dma sR) (.remote (Dev.tc n : Thread nD τ) (dR m : Memref sig (Dev.tc n : Thread nD τ).2.kind .vmem _ _) (.dma sS) hsc)}
    (l : List (GSem nD τ sig × ℕ)) {α : Type} {Q : α → sProp 𝕄} {k : PUnit → Prog (TpuEff nD τ sig (Elt F) Λ₀ .tc) α} :
    iprop(recs I K ∗ pts dS c (qs m) (CB I c) ∗ ptsEx (F := F) (dR m) (peer 2 m c) ∗ owesE c ((recvCell 2 m (peer 2 m c), crd 2) :: l)
        ∗ dutyTok ER (sendCell 2 m c) 0 0 ∗ dutyTok ER (recvCell 2 m (peer 2 m c)) 0 0)
      ⊢ iprop(((cred (tallyAt (sendCell 2 m c) () (crd 2)) ∗ owesE c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (dS) (.remote (Dev.tc n : Thread nD τ) (dR m) (.dma sS) hsc) (.dma sR) hsrc hdst hsem) k) Q) := by
  iintro ⟨#HR, Hs, Hd, HO, Ht1, Ht2⟩ Hk

  ihave Hd := (ptsEx_out (dR m) (peer 2 m c)) $$ Hd
  icases Hd with ⟨%fd, Hd⟩
  iapply (step_send I K c n 2 m hm hn sS sR hS hR (dS) (dR m) rfl fd (Entails.rfl) (by
      refine BIBase.Entails.trans ?_ (Entails.of_eq (recvPay_d I m (peer 2 m c)).symm)
      unfold ptsP
      iintro H
      iexists _
      isplitr [H]; rotate_left
      · iexact H
      ipureintro
      rw [View.read_write_univ]
      rw [show colPeer (opp m) (peer 2 m c) = c from colPeer_opp m c]
      rfl) l) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iexact Hk

/-- A copy of the row gather. -/
theorem send_e (c n : Dev nD) (m : Fin 4) (hm : m ≠ 0) (hn : n = peer 3 m c) (sS sR : DmaSem sig) (hS : sS = dsem (sendK 3 m)) (hR : sR = dsem (recvK 3 m))
    {hsc : (eR m : Memref sig (Dev.tc n : Thread nD τ).2.kind .vmem _ _).view.ref.isScScratch = false}
    {hsrc : (eS).view.WordExact} {hdst : (eR m).view.WordExact}
    {hsem : DmaTarget.Typed .vmem (.dma sR) (.remote (Dev.tc n : Thread nD τ) (eR m : Memref sig (Dev.tc n : Thread nD τ).2.kind .vmem _ _) (.dma sS) hsc)}
    (l : List (GSem nD τ sig × ℕ)) {α : Type} {Q : α → sProp 𝕄} {k : PUnit → Prog (TpuEff nD τ sig (Elt F) Λ₀ .tc) α} :
    iprop(recs I K ∗ pts eS c (qs m) (CG I c) ∗ ptsEx (F := F) (eR m) (peer 3 m c) ∗ owesE c ((recvCell 3 m (peer 3 m c), crd 3) :: l)
        ∗ dutyTok ER (sendCell 3 m c) 0 0 ∗ dutyTok ER (recvCell 3 m (peer 3 m c)) 0 0)
      ⊢ iprop(((cred (tallyAt (sendCell 3 m c) () (crd 3)) ∗ owesE c l)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (eS) (.remote (Dev.tc n : Thread nD τ) (eR m) (.dma sS) hsc) (.dma sR) hsrc hdst hsem) k) Q) := by
  iintro ⟨#HR, Hs, Hd, HO, Ht1, Ht2⟩ Hk

  ihave Hd := (ptsEx_out (eR m) (peer 3 m c)) $$ Hd
  icases Hd with ⟨%fd, Hd⟩
  iapply (step_send I K c n 3 m hm hn sS sR hS hR (eS) (eR m) rfl fd (Entails.rfl) (by
      refine BIBase.Entails.trans ?_ (Entails.of_eq (recvPay_e I m (peer 3 m c)).symm)
      unfold ptsP
      iintro H
      iexists _
      isplitr [H]; rotate_left
      · iexact H
      ipureintro
      rw [View.read_write_univ]
      rw [show rowPeer (opp m) (peer 3 m c) = c from rowPeer_opp m c]
      rfl) l) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iexact Hk

/-! What the six signals bring: the landing slots of the peers. -/

/-- What barrier signal 0 gives its receiver. -/
theorem bar0 (c : Dev nD) : barPay (F := F) 0 c ⊢ iprop(ptsEx (F := F) (aR 3) (peer 0 3 c) ∗ ptsEx (F := F) (eR 3) (peer 3 3 c)) :=
  Entails.of_eq rfl
/-- What barrier signal 0 takes from its sender. -/
theorem bar0' (c : Dev nD) : iprop(ptsEx (F := F) (aR 3) c ∗ ptsEx (F := F) (eR 3) c) ⊢ barPay (F := F) 0 (sigTo 0 c) := by
  refine Entails.of_eq ?_
  unfold barPay
  rw [sigFrom_sigTo]
  rfl
/-- What barrier signal 1 gives its receiver. -/
theorem bar1 (c : Dev nD) : barPay (F := F) 1 c ⊢ iprop(ptsEx (F := F) (bR 3) (peer 1 3 c) ∗ ptsEx (F := F) (dR 3) (peer 2 3 c)) :=
  Entails.of_eq rfl
/-- What barrier signal 1 takes from its sender. -/
theorem bar1' (c : Dev nD) : iprop(ptsEx (F := F) (bR 3) c ∗ ptsEx (F := F) (dR 3) c) ⊢ barPay (F := F) 1 (sigTo 1 c) := by
  refine Entails.of_eq ?_
  unfold barPay
  rw [sigFrom_sigTo]
  rfl
/-- What barrier signal 2 gives its receiver. -/
theorem bar2 (c : Dev nD) : barPay (F := F) 2 c ⊢ iprop(ptsEx (F := F) (aR 2) (peer 0 2 c) ∗ ptsEx (F := F) (eR 2) (peer 3 2 c)) :=
  Entails.of_eq rfl
/-- What barrier signal 2 takes from its sender. -/
theorem bar2' (c : Dev nD) : iprop(ptsEx (F := F) (aR 2) c ∗ ptsEx (F := F) (eR 2) c) ⊢ barPay (F := F) 2 (sigTo 2 c) := by
  refine Entails.of_eq ?_
  unfold barPay
  rw [sigFrom_sigTo]
  rfl
/-- What barrier signal 3 gives its receiver. -/
theorem bar3 (c : Dev nD) : barPay (F := F) 3 c ⊢ iprop(ptsEx (F := F) (bR 2) (peer 1 2 c) ∗ ptsEx (F := F) (dR 2) (peer 2 2 c)) :=
  Entails.of_eq rfl
/-- What barrier signal 3 takes from its sender. -/
theorem bar3' (c : Dev nD) : iprop(ptsEx (F := F) (bR 2) c ∗ ptsEx (F := F) (dR 2) c) ⊢ barPay (F := F) 3 (sigTo 3 c) := by
  refine Entails.of_eq ?_
  unfold barPay
  rw [sigFrom_sigTo]
  rfl
/-- What barrier signal 4 gives its receiver. -/
theorem bar4 (c : Dev nD) : barPay (F := F) 4 c ⊢ iprop(ptsEx (F := F) (aR 1) (peer 0 1 c) ∗ ptsEx (F := F) (eR 1) (peer 3 1 c)) :=
  Entails.of_eq rfl
/-- What barrier signal 4 takes from its sender. -/
theorem bar4' (c : Dev nD) : iprop(ptsEx (F := F) (aR 1) c ∗ ptsEx (F := F) (eR 1) c) ⊢ barPay (F := F) 4 (sigTo 4 c) := by
  refine Entails.of_eq ?_
  unfold barPay
  rw [sigFrom_sigTo]
  rfl
/-- What barrier signal 5 gives its receiver. -/
theorem bar5 (c : Dev nD) : barPay (F := F) 5 c ⊢ iprop(ptsEx (F := F) (bR 1) (peer 1 1 c) ∗ ptsEx (F := F) (dR 1) (peer 2 1 c)) :=
  Entails.of_eq rfl
/-- What barrier signal 5 takes from its sender. -/
theorem bar5' (c : Dev nD) : iprop(ptsEx (F := F) (bR 1) c ∗ ptsEx (F := F) (dR 1) c) ⊢ barPay (F := F) 5 (sigTo 5 c) := by
  refine Entails.of_eq ?_
  unfold barPay
  rw [sigFrom_sigTo]
  rfl

end Cert.KProof
-- ==== Proof.Slots.lean ====
/- A buffer of four slots is its four slots: cutting it, joining it, and reading a slot. -/
module
public import proofs.«01_k».proof.Proof.Own
public import Idealize.ShloMosaic.Lib.Ring.AtN
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- A buffer is four pieces that cover it. -/
theorem four_split {ℓ : Loc nD τ sig} (S : Fin 4 → Finset (Idx ℓ)) (hd : ∀ m m', m ≠ m' → Disjoint (S m) (S m'))
    (hc : ∀ i, ∃ m, i ∈ S m) (f : Buf (Elt F) ℓ) :
    (ℓ ↦{fullShare} f : sProp 𝕄) ⊢ iprop((ℓ ↦[S 0]{fullShare} f) ∗ (ℓ ↦[S 1]{fullShare} f) ∗ (ℓ ↦[S 2]{fullShare} f) ∗ (ℓ ↦[S 3]{fullShare} f)) := by
  have hu : (Finset.univ : Finset (Idx ℓ)) = Finset.univ.biUnion S := by
    refine (Finset.eq_univ_iff_forall.mpr fun i => ?_).symm
    obtain ⟨m, hm⟩ := hc i
    exact Finset.mem_biUnion.mpr ⟨m, Finset.mem_univ m, hm⟩
  rw [hu, pointsTo_biUnion Finset.univ S (fun m _ m' _ h => hd m m' h)]
  rw [Ring.bigSep_fin4]

/-- Four parts of a buffer, joined. -/
theorem four_join {ℓ : Loc nD τ sig} (S : Fin 4 → Finset (Idx ℓ)) (hd : ∀ m m', m ≠ m' → Disjoint (S m) (S m'))
    (hc : ∀ i, ∃ m, i ∈ S m) :
    iprop((∃ f, ℓ ↦[S 0]{fullShare} f) ∗ (∃ f, ℓ ↦[S 1]{fullShare} f) ∗ (∃ f, ℓ ↦[S 2]{fullShare} f) ∗ (∃ f, ℓ ↦[S 3]{fullShare} f))
      ⊢ (iprop(∃ f, ℓ ↦{fullShare} f) : sProp 𝕄) := by
  iintro ⟨⟨%f0, H0⟩, ⟨%f1, H1⟩, ⟨%f2, H2⟩, ⟨%f3, H3⟩⟩
  have hu : (Finset.univ : Finset (Idx ℓ)) = Finset.univ.biUnion S := by
    refine (Finset.eq_univ_iff_forall.mpr fun i => ?_).symm
    obtain ⟨m, hm⟩ := hc i
    exact Finset.mem_biUnion.mpr ⟨m, Finset.mem_univ m, hm⟩
  ihave H := (pointsTo_biUnion_join (q := fullShare) Finset.univ S (fun m : Fin 4 => match m with | 0 => f0 | 1 => f1 | 2 => f2 | 3 => f3) f0
    (fun m _ m' _ h => hd m m' h)) $$ [H0 H1 H2 H3]
  · rw [Ring.bigSep_fin4]
    isplitl [H0]; · iexact H0
    isplitl [H1]; · iexact H1
    isplitl [H2]; · iexact H2
    iexact H3
  icases H with ⟨%g, -, H⟩
  iexists g
  rw [← hu]
  iexact H

/-- A slot of the fourth phase without its leading axis. -/
theorem casts_S64 : S1x64x32x64.ShapeCasts S64x32x64 := by decide

/-- A slot's rectangle is the entries whose first coordinate is the slot. -/
theorem mem_slot {a b c : ℕ} (m : ℕ) (inb) (i : (⟨4, ![4, a, b, c]⟩ : Shape).Idx) :
    i ∈ (Rect.unit (s := ⟨4, ![4, a, b, c]⟩) ![m, 0, 0, 0] ![1, a, b, c] inb).set ↔ (i 0).val = m := by
  rw [Rect.mem_set_unit]
  constructor
  · intro h
    have h0 : m ≤ (i 0).val ∧ (i 0).val < m + 1 := h 0
    omega
  · intro h d
    match d with
    | ⟨0, _⟩ => show m ≤ (i 0).val ∧ (i 0).val < m + 1; omega
    | ⟨1, _⟩ => have : (i 1).val < a := (i 1).isLt
                show 0 ≤ (i 1).val ∧ (i 1).val < 0 + a; omega
    | ⟨2, _⟩ => have : (i 2).val < b := (i 2).isLt
                show 0 ≤ (i 2).val ∧ (i 2).val < 0 + b; omega
    | ⟨3, _⟩ => have : (i 3).val < c := (i 3).isLt
                show 0 ≤ (i 3).val ∧ (i 3).val < 0 + c; omega

/-- The slots of the row reduction's sources. -/
theorem mem_aS (m : Fin 4) (i : S4x68x32x64.Idx) : i ∈ (aS m).view.set ↔ (i 0).val = m.val := by
  rw [show (aS m).view.set = (Rect.unit (s := S4x68x32x64) ![m.val, 0, 0, 0] S1x68x32x64.size (inbA m)).set from
    (View.set_reshape _ _).trans (View.set_slice_whole _ _)]
  exact mem_slot m.val _ i
/-- The sending slots of the first phase are disjoint, -/
theorem disj_aS (m m' : Fin 4) (h : m ≠ m') : Disjoint (aS m).view.set (aS m').view.set :=
  Finset.disjoint_left.mpr fun i h1 h2 => h (Fin.ext (((mem_aS m i).mp h1).symm.trans ((mem_aS m' i).mp h2)))
/-- the sending slots of the first phase cover their buffer, -/
theorem cover_aS (i : S4x68x32x64.Idx) : ∃ m, i ∈ (aS m).view.set := ⟨i 0, (mem_aS _ i).mpr rfl⟩
/-- which comes apart into the sending slots of the first phase, -/
theorem split_aS (c : Dev nD) (f : (cc0_scratch2 : Ref sig .tc).ty.Contents (Elt F)) :
    own c cc0_scratch2 f ⊢ iprop(pts (aS 0) c fullShare f ∗ pts (aS 1) c fullShare f ∗ pts (aS 2) c fullShare f ∗ pts (aS 3) c fullShare f) :=
  four_split (ℓ := (Memref.whole cc0_scratch2).view.loc (c : Thread nD τ)) (fun m => (aS m).view.set) disj_aS cover_aS f
/-- and together from the sending slots of the first phase. -/
theorem join_aS (c : Dev nD) :
    iprop(ptsEx (F := F) (aS 0) c ∗ ptsEx (F := F) (aS 1) c ∗ ptsEx (F := F) (aS 2) c ∗ ptsEx (F := F) (aS 3) c) ⊢ iprop(∃ f, own c cc0_scratch2 f) :=
  four_join (ℓ := (Memref.whole cc0_scratch2).view.loc (c : Thread nD τ)) (fun m => (aS m).view.set) disj_aS cover_aS
/-- What the sending slots of the first phase read of their buffer. -/
theorem read_aS (m : Fin 4) (f : (cc0_scratch2 : Ref sig .tc).ty.Contents (Elt F)) (i : S68x32x64.Idx) :
    (aS m).view.read (Elt F) f i = (Memref.whole cc0_scratch2).view.read (Elt F) f (ix4 m (i 0) (i 1) (i 2)) := by
  refine (congrFun (Memref.read_squeeze_slice (Memref.whole cc0_scratch2) _ _ _ shapeCasts_S1x68x32x64_S68x32x64 f) i).trans ?_
  rw [eq_ix3 i]
  refine (shapeCast_1abc_abc_apply _ _ _ _ _).trans (congrArg ((Memref.whole cc0_scratch2).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- The slots of the row reduction's landings. -/
theorem mem_aR (m : Fin 4) (i : S4x68x32x64.Idx) : i ∈ (aR m).view.set ↔ (i 0).val = m.val := by
  rw [show (aR m).view.set = (Rect.unit (s := S4x68x32x64) ![m.val, 0, 0, 0] S1x68x32x64.size (inbA m)).set from
    (View.set_reshape _ _).trans (View.set_slice_whole _ _)]
  exact mem_slot m.val _ i
/-- The receiving slots of the first phase are disjoint, -/
theorem disj_aR (m m' : Fin 4) (h : m ≠ m') : Disjoint (aR m).view.set (aR m').view.set :=
  Finset.disjoint_left.mpr fun i h1 h2 => h (Fin.ext (((mem_aR m i).mp h1).symm.trans ((mem_aR m' i).mp h2)))
/-- the receiving slots of the first phase cover their buffer, -/
theorem cover_aR (i : S4x68x32x64.Idx) : ∃ m, i ∈ (aR m).view.set := ⟨i 0, (mem_aR _ i).mpr rfl⟩
/-- which comes apart into the receiving slots of the first phase, -/
theorem split_aR (c : Dev nD) (f : (cc0_scratch3 : Ref sig .tc).ty.Contents (Elt F)) :
    own c cc0_scratch3 f ⊢ iprop(pts (aR 0) c fullShare f ∗ pts (aR 1) c fullShare f ∗ pts (aR 2) c fullShare f ∗ pts (aR 3) c fullShare f) :=
  four_split (ℓ := (Memref.whole cc0_scratch3).view.loc (c : Thread nD τ)) (fun m => (aR m).view.set) disj_aR cover_aR f
/-- and together from the receiving slots of the first phase. -/
theorem join_aR (c : Dev nD) :
    iprop(ptsEx (F := F) (aR 0) c ∗ ptsEx (F := F) (aR 1) c ∗ ptsEx (F := F) (aR 2) c ∗ ptsEx (F := F) (aR 3) c) ⊢ iprop(∃ f, own c cc0_scratch3 f) :=
  four_join (ℓ := (Memref.whole cc0_scratch3).view.loc (c : Thread nD τ)) (fun m => (aR m).view.set) disj_aR cover_aR
/-- What the receiving slots of the first phase read of their buffer. -/
theorem read_aR (m : Fin 4) (f : (cc0_scratch3 : Ref sig .tc).ty.Contents (Elt F)) (i : S68x32x64.Idx) :
    (aR m).view.read (Elt F) f i = (Memref.whole cc0_scratch3).view.read (Elt F) f (ix4 m (i 0) (i 1) (i 2)) := by
  refine (congrFun (Memref.read_squeeze_slice (Memref.whole cc0_scratch3) _ _ _ shapeCasts_S1x68x32x64_S68x32x64 f) i).trans ?_
  rw [eq_ix3 i]
  refine (shapeCast_1abc_abc_apply _ _ _ _ _).trans (congrArg ((Memref.whole cc0_scratch3).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- The slots of the column reduction's sources. -/
theorem mem_bS (m : Fin 4) (i : S4x17x32x64.Idx) : i ∈ (bS m).view.set ↔ (i 0).val = m.val := by
  rw [show (bS m).view.set = (Rect.unit (s := S4x17x32x64) ![m.val, 0, 0, 0] S1x17x32x64.size (inbB m)).set from
    (View.set_reshape _ _).trans (View.set_slice_whole _ _)]
  exact mem_slot m.val _ i
/-- The sending slots of the second phase are disjoint, -/
theorem disj_bS (m m' : Fin 4) (h : m ≠ m') : Disjoint (bS m).view.set (bS m').view.set :=
  Finset.disjoint_left.mpr fun i h1 h2 => h (Fin.ext (((mem_bS m i).mp h1).symm.trans ((mem_bS m' i).mp h2)))
/-- the sending slots of the second phase cover their buffer, -/
theorem cover_bS (i : S4x17x32x64.Idx) : ∃ m, i ∈ (bS m).view.set := ⟨i 0, (mem_bS _ i).mpr rfl⟩
/-- which comes apart into the sending slots of the second phase, -/
theorem split_bS (c : Dev nD) (f : (cc0_scratch5 : Ref sig .tc).ty.Contents (Elt F)) :
    own c cc0_scratch5 f ⊢ iprop(pts (bS 0) c fullShare f ∗ pts (bS 1) c fullShare f ∗ pts (bS 2) c fullShare f ∗ pts (bS 3) c fullShare f) :=
  four_split (ℓ := (Memref.whole cc0_scratch5).view.loc (c : Thread nD τ)) (fun m => (bS m).view.set) disj_bS cover_bS f
/-- and together from the sending slots of the second phase. -/
theorem join_bS (c : Dev nD) :
    iprop(ptsEx (F := F) (bS 0) c ∗ ptsEx (F := F) (bS 1) c ∗ ptsEx (F := F) (bS 2) c ∗ ptsEx (F := F) (bS 3) c) ⊢ iprop(∃ f, own c cc0_scratch5 f) :=
  four_join (ℓ := (Memref.whole cc0_scratch5).view.loc (c : Thread nD τ)) (fun m => (bS m).view.set) disj_bS cover_bS
/-- What the sending slots of the second phase read of their buffer. -/
theorem read_bS (m : Fin 4) (f : (cc0_scratch5 : Ref sig .tc).ty.Contents (Elt F)) (i : S17x32x64.Idx) :
    (bS m).view.read (Elt F) f i = (Memref.whole cc0_scratch5).view.read (Elt F) f (ix4 m (i 0) (i 1) (i 2)) := by
  refine (congrFun (Memref.read_squeeze_slice (Memref.whole cc0_scratch5) _ _ _ shapeCasts_S1x17x32x64_S17x32x64 f) i).trans ?_
  rw [eq_ix3 i]
  refine (shapeCast_1abc_abc_apply _ _ _ _ _).trans (congrArg ((Memref.whole cc0_scratch5).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- The slots of the column reduction's landings. -/
theorem mem_bR (m : Fin 4) (i : S4x17x32x64.Idx) : i ∈ (bR m).view.set ↔ (i 0).val = m.val := by
  rw [show (bR m).view.set = (Rect.unit (s := S4x17x32x64) ![m.val, 0, 0, 0] S1x17x32x64.size (inbB m)).set from
    (View.set_reshape _ _).trans (View.set_slice_whole _ _)]
  exact mem_slot m.val _ i
/-- The receiving slots of the second phase are disjoint, -/
theorem disj_bR (m m' : Fin 4) (h : m ≠ m') : Disjoint (bR m).view.set (bR m').view.set :=
  Finset.disjoint_left.mpr fun i h1 h2 => h (Fin.ext (((mem_bR m i).mp h1).symm.trans ((mem_bR m' i).mp h2)))
/-- the receiving slots of the second phase cover their buffer, -/
theorem cover_bR (i : S4x17x32x64.Idx) : ∃ m, i ∈ (bR m).view.set := ⟨i 0, (mem_bR _ i).mpr rfl⟩
/-- which comes apart into the receiving slots of the second phase, -/
theorem split_bR (c : Dev nD) (f : (cc0_scratch6 : Ref sig .tc).ty.Contents (Elt F)) :
    own c cc0_scratch6 f ⊢ iprop(pts (bR 0) c fullShare f ∗ pts (bR 1) c fullShare f ∗ pts (bR 2) c fullShare f ∗ pts (bR 3) c fullShare f) :=
  four_split (ℓ := (Memref.whole cc0_scratch6).view.loc (c : Thread nD τ)) (fun m => (bR m).view.set) disj_bR cover_bR f
/-- and together from the receiving slots of the second phase. -/
theorem join_bR (c : Dev nD) :
    iprop(ptsEx (F := F) (bR 0) c ∗ ptsEx (F := F) (bR 1) c ∗ ptsEx (F := F) (bR 2) c ∗ ptsEx (F := F) (bR 3) c) ⊢ iprop(∃ f, own c cc0_scratch6 f) :=
  four_join (ℓ := (Memref.whole cc0_scratch6).view.loc (c : Thread nD τ)) (fun m => (bR m).view.set) disj_bR cover_bR
/-- What the receiving slots of the second phase read of their buffer. -/
theorem read_bR (m : Fin 4) (f : (cc0_scratch6 : Ref sig .tc).ty.Contents (Elt F)) (i : S17x32x64.Idx) :
    (bR m).view.read (Elt F) f i = (Memref.whole cc0_scratch6).view.read (Elt F) f (ix4 m (i 0) (i 1) (i 2)) := by
  refine (congrFun (Memref.read_squeeze_slice (Memref.whole cc0_scratch6) _ _ _ shapeCasts_S1x17x32x64_S17x32x64 f) i).trans ?_
  rw [eq_ix3 i]
  refine (shapeCast_1abc_abc_apply _ _ _ _ _).trans (congrArg ((Memref.whole cc0_scratch6).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- The slots of the column gather's landings. -/
theorem mem_dR (m : Fin 4) (i : S4x16x32x64.Idx) : i ∈ (dR m).view.set ↔ (i 0).val = m.val := by
  rw [show (dR m).view.set = (Rect.unit (s := S4x16x32x64) ![m.val, 0, 0, 0] S1x16x32x64.size (inbD m)).set from
    (View.set_reshape _ _).trans (View.set_slice_whole _ _)]
  exact mem_slot m.val _ i
/-- The receiving slots of the third phase are disjoint, -/
theorem disj_dR (m m' : Fin 4) (h : m ≠ m') : Disjoint (dR m).view.set (dR m').view.set :=
  Finset.disjoint_left.mpr fun i h1 h2 => h (Fin.ext (((mem_dR m i).mp h1).symm.trans ((mem_dR m' i).mp h2)))
/-- the receiving slots of the third phase cover their buffer, -/
theorem cover_dR (i : S4x16x32x64.Idx) : ∃ m, i ∈ (dR m).view.set := ⟨i 0, (mem_dR _ i).mpr rfl⟩
/-- which comes apart into the receiving slots of the third phase, -/
theorem split_dR (c : Dev nD) (f : (cc0_scratch8 : Ref sig .tc).ty.Contents (Elt F)) :
    own c cc0_scratch8 f ⊢ iprop(pts (dR 0) c fullShare f ∗ pts (dR 1) c fullShare f ∗ pts (dR 2) c fullShare f ∗ pts (dR 3) c fullShare f) :=
  four_split (ℓ := (Memref.whole cc0_scratch8).view.loc (c : Thread nD τ)) (fun m => (dR m).view.set) disj_dR cover_dR f
/-- and together from the receiving slots of the third phase. -/
theorem join_dR (c : Dev nD) :
    iprop(ptsEx (F := F) (dR 0) c ∗ ptsEx (F := F) (dR 1) c ∗ ptsEx (F := F) (dR 2) c ∗ ptsEx (F := F) (dR 3) c) ⊢ iprop(∃ f, own c cc0_scratch8 f) :=
  four_join (ℓ := (Memref.whole cc0_scratch8).view.loc (c : Thread nD τ)) (fun m => (dR m).view.set) disj_dR cover_dR
/-- What the receiving slots of the third phase read of their buffer. -/
theorem read_dR (m : Fin 4) (f : (cc0_scratch8 : Ref sig .tc).ty.Contents (Elt F)) (i : S16x32x64.Idx) :
    (dR m).view.read (Elt F) f i = (Memref.whole cc0_scratch8).view.read (Elt F) f (ix4 m (i 0) (i 1) (i 2)) := by
  refine (congrFun (Memref.read_squeeze_slice (Memref.whole cc0_scratch8) _ _ _ shapeCasts_S1x16x32x64_S16x32x64 f) i).trans ?_
  rw [eq_ix3 i]
  refine (shapeCast_1abc_abc_apply _ _ _ _ _).trans (congrArg ((Memref.whole cc0_scratch8).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- The slots of the row gather's landings. -/
theorem mem_eR (m : Fin 4) (i : S4x64x32x64.Idx) : i ∈ (eR m).view.set ↔ (i 0).val = m.val := by
  rw [show (eR m).view.set = (Rect.unit (s := S4x64x32x64) ![m.val, 0, 0, 0] S1x64x32x64.size (inbE m)).set from
    (View.set_reshape _ _).trans (View.set_slice_whole _ _)]
  exact mem_slot m.val _ i
/-- The receiving slots of the fourth phase are disjoint, -/
theorem disj_eR (m m' : Fin 4) (h : m ≠ m') : Disjoint (eR m).view.set (eR m').view.set :=
  Finset.disjoint_left.mpr fun i h1 h2 => h (Fin.ext (((mem_eR m i).mp h1).symm.trans ((mem_eR m' i).mp h2)))
/-- the receiving slots of the fourth phase cover their buffer, -/
theorem cover_eR (i : S4x64x32x64.Idx) : ∃ m, i ∈ (eR m).view.set := ⟨i 0, (mem_eR _ i).mpr rfl⟩
/-- which comes apart into the receiving slots of the fourth phase, -/
theorem split_eR (c : Dev nD) (f : (cc0_scratch10 : Ref sig .tc).ty.Contents (Elt F)) :
    own c cc0_scratch10 f ⊢ iprop(pts (eR 0) c fullShare f ∗ pts (eR 1) c fullShare f ∗ pts (eR 2) c fullShare f ∗ pts (eR 3) c fullShare f) :=
  four_split (ℓ := (Memref.whole cc0_scratch10).view.loc (c : Thread nD τ)) (fun m => (eR m).view.set) disj_eR cover_eR f
/-- and together from the receiving slots of the fourth phase. -/
theorem join_eR (c : Dev nD) :
    iprop(ptsEx (F := F) (eR 0) c ∗ ptsEx (F := F) (eR 1) c ∗ ptsEx (F := F) (eR 2) c ∗ ptsEx (F := F) (eR 3) c) ⊢ iprop(∃ f, own c cc0_scratch10 f) :=
  four_join (ℓ := (Memref.whole cc0_scratch10).view.loc (c : Thread nD τ)) (fun m => (eR m).view.set) disj_eR cover_eR
/-- What the receiving slots of the fourth phase read of their buffer. -/
theorem read_eR (m : Fin 4) (f : (cc0_scratch10 : Ref sig .tc).ty.Contents (Elt F)) (i : S64x32x64.Idx) :
    (eR m).view.read (Elt F) f i = (Memref.whole cc0_scratch10).view.read (Elt F) f (ix4 m (i 0) (i 1) (i 2)) := by
  refine (congrFun (Memref.read_squeeze_slice (Memref.whole cc0_scratch10) _ _ _ casts_S64 f) i).trans ?_
  rw [eq_ix3 i]
  refine (shapeCast_1abc_abc_apply _ _ _ _ _).trans (congrArg ((Memref.whole cc0_scratch10).view.read (Elt F) f) ?_)
  funext a; apply Fin.ext
  match a with
  | ⟨0, _⟩ => show m.val + 1 * 0 = m.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

end Cert.KProof
-- ==== Proof.ContentsA.lean ====
/- What the slots of the row reduction hold after each of their stores. -/
module

public import proofs.«01_k».proof.Proof.Contents
public import Idealize.ShloMosaic.Lib.ValueLayout
public import Idealize.ShloMosaic.Lib.ValueLayoutCasts

@[expose] public section

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-! ## The row reduction's slots -/

/-- The entries of the row reduction's slots written after `n` stores. -/
def keyA (n : ℕ) (y : S4x68x32x64.Idx) : Prop :=
  1 ≤ (y 0).val ∧ ((y 1).val % 17 < 16 ∨ (y 3).val < 16) ∧ 8 * ((y 0).val - 1) + 2 * ((y 1).val / 17) + (y 1).val % 17 / 16 < n

/-- What the row reduction's slots hold. -/
def SLA (I : Dev nD → Ins F) (c : Dev nD) : S4x68x32x64.Idx → Elt F .bf16 := fun y => AS I c (y 0) (ix3 (y 1) (y 2) (y 3))

/-- The position of a row of a quarter. -/
theorem qRow_val (c : Dev nD) (q m : Fin 4) (r : Fin 32) : (qRow q.val (colOf c m) r).val = rowOff c q m + r.val := by
  show (32 * (4 * (q.val % 4) + (c.val % 4 + m.val) % 4) + r.val) % 512 = 32 * (4 * q.val + (c.val % 4 + m.val) % 4) + r.val
  have := q.isLt; have := r.isLt; omega

/-- Storing sixteen rows of weighted sums in slot `m`, group `q`. -/
theorem stepAO {sig : RefSig} {κ : Kind} {sp : Space} (I : Dev nD → Ins F) (c : Dev nD) (v : View sig κ sp S4x68x32x64 .bf16) (f : v.ty.Contents (Elt F))
    (L : List (View.Piece (Elt F) S4x68x32x64 .bf16)) (q m : Fin 4) (hm : m ≠ 0) (X : Vec F S16x512x64 .f32) (hX : ∀ y, X y = OA (I c) y)
    (n a : ℕ) (hn : n = 8 * (m.val - 1) + 2 * q.val) (ha : a = 17 * q.val) (inb) (inb') (w : S1x16x32x64.Idx → Elt F .bf16)
    (hw : w = shapeCast S1x16x32x64 (truncf .bf16 (View.ld X (Rect.unit (s := S16x512x64) (k0_off1 c (BitVec.ofNat 32 (4 * q.val)) (BitVec.ofNat 32 m.val)) S16x32x64.size inb')) bitsLt_bf16_f32)
      shapeCasts_S16x32x64_S1x16x32x64) (n' : ℕ) (hn' : n' = n + 1)
    (h : ∀ y, keyA n y → v.read (Elt F) (v.writes (Elt F) f L) y = SLA I c y) :
    ∀ y, keyA n' y → v.read (Elt F) (v.writes (Elt F) f
      (⟨Rect.unit (s := S4x68x32x64) ![m.val, a, 0, 0] S1x16x32x64.size inb, w⟩ :: L)) y = SLA I c y := by
  have hq := q.isLt
  have hm0 : 1 ≤ m.val := Nat.one_le_iff_ne_zero.mpr fun e => hm (Fin.ext e)
  refine put v f L (SLA I c) (P := keyA n) h (Rect.unit (s := S4x68x32x64) ![m.val, a, 0, 0] S1x16x32x64.size inb) w ?_ ?_
  · intro (x : S1x16x32x64.Idx)
    have h0 : (x 0).val < 1 := (x 0).isLt
    have h1 : (x 1).val < 16 := (x 1).isLt
    have hx : (Rect.unit (s := S4x68x32x64) ![m.val, a, 0, 0] S1x16x32x64.size inb).emb x
        = ix4 m (⟨17 * q.val + (x 1).val, by omega⟩ : Fin 68) (x 2) (x 3) := by
      funext b; apply Fin.ext
      match b with
      | ⟨0, _⟩ => show m.val + 1 * (x 0).val = m.val; omega
      | ⟨1, _⟩ => show a + 1 * (x 1).val = 17 * q.val + (x 1).val; omega
      | ⟨2, _⟩ => show 0 + 1 * (x 2).val = (x 2).val; omega
      | ⟨3, _⟩ => show 0 + 1 * (x 3).val = (x 3).val; omega
    rw [hx, hw]
    refine (congrArg _ (eq_ix4 x)).trans ((shapeCast_abc_1abc_apply _ _ _ _ _ _).trans ?_)
    show FloatOps.truncf .bf16 bitsLt_bf16_f32 (X _) = FloatOps.truncf .bf16 bitsLt_bf16_f32 (PK (I c) (colOf c m) (ix3 _ _ _))
    rw [hX]
    unfold PK
    have e1 : (17 * q.val + (x 1).val) % 17 = (x 1).val := by omega
    have e2 : (17 * q.val + (x 1).val) / 17 = q.val := by omega
    rw [dif_pos (show (17 * q.val + (x 1).val) % 17 < 16 by omega)]
    refine congrArg (fun z => FloatOps.truncf .bf16 bitsLt_bf16_f32 (OA (I c) z)) ?_
    funext b; apply Fin.ext
    have ho := off1_eq c q m hm
    match b with
    | ⟨0, _⟩ => show k0_off1 c (BitVec.ofNat 32 (4 * q.val)) (BitVec.ofNat 32 m.val) 0 + 1 * (x 1).val = (17 * q.val + (x 1).val) % 17
                rw [ho, e1]; show 0 + 1 * (x 1).val = _; omega
    | ⟨1, _⟩ => show k0_off1 c (BitVec.ofNat 32 (4 * q.val)) (BitVec.ofNat 32 m.val) 1 + 1 * (x 2).val = (qRow ((17 * q.val + (x 1).val) / 17) (colOf c m) (x 2)).val
                rw [ho, e2]; refine Eq.trans ?_ (qRow_val c q m (x 2)).symm; show rowOff c q m + 1 * (x 2).val = _; omega
    | ⟨2, _⟩ => show k0_off1 c (BitVec.ofNat 32 (4 * q.val)) (BitVec.ofNat 32 m.val) 2 + 1 * (x 3).val = (x 3).val
                rw [ho]; show 0 + 1 * (x 3).val = _; omega
  · intro y hy
    unfold keyA at hy ⊢
    have hy1 : (y 1).val < 68 := (y 1).isLt
    by_cases hc : 8 * ((y 0).val - 1) + 2 * ((y 1).val / 17) + (y 1).val % 17 / 16 < n
    · exact .inl ⟨hy.1, hy.2.1, hc⟩
    · right; rw [Rect.mem_set_unit]; intro b
      match b with
      | ⟨0, _⟩ => show m.val ≤ (y 0).val ∧ (y 0).val < m.val + 1; omega
      | ⟨1, _⟩ => show a ≤ (y 1).val ∧ (y 1).val < a + 16; omega
      | ⟨2, _⟩ => have : (y 2).val < 32 := (y 2).isLt
                  show 0 ≤ (y 2).val ∧ (y 2).val < 0 + 32; omega
      | ⟨3, _⟩ => have : (y 3).val < 64 := (y 3).isLt
                  show 0 ≤ (y 3).val ∧ (y 3).val < 0 + 64; omega

/-- Storing the row of weight sums in slot `m`, group `q`. -/
theorem stepAS {sig : RefSig} {κ : Kind} {sp : Space} (I : Dev nD → Ins F) (c : Dev nD) (v : View sig κ sp S4x68x32x64 .bf16) (f : v.ty.Contents (Elt F))
    (L : List (View.Piece (Elt F) S4x68x32x64 .bf16)) (q m : Fin 4) (hm : m ≠ 0) (X : Vec F S512x16 .f32) (hX : ∀ y, X y = SA (I c) y)
    (n a : ℕ) (hn : n = 8 * (m.val - 1) + 2 * q.val + 1) (ha : a = 17 * q.val + 16) (inb) (inb') (w : S1x1x32x16.Idx → Elt F .bf16)
    (hw : w = shapeCast S1x1x32x16 (truncf .bf16 (View.ld X (Rect.unit (s := S512x16) (k0_off2 c (BitVec.ofNat 32 (4 * q.val)) (BitVec.ofNat 32 m.val)) S32x16.size inb')) bitsLt_bf16_f32)
      shapeCasts_S32x16_S1x1x32x16) (n' : ℕ) (hn' : n' = n + 1)
    (h : ∀ y, keyA n y → v.read (Elt F) (v.writes (Elt F) f L) y = SLA I c y) :
    ∀ y, keyA n' y → v.read (Elt F) (v.writes (Elt F) f
      (⟨Rect.unit (s := S4x68x32x64) ![m.val, a, 0, 0] S1x1x32x16.size inb, w⟩ :: L)) y = SLA I c y := by
  have hq := q.isLt
  have hm0 : 1 ≤ m.val := Nat.one_le_iff_ne_zero.mpr fun e => hm (Fin.ext e)
  refine put v f L (SLA I c) (P := keyA n) h (Rect.unit (s := S4x68x32x64) ![m.val, a, 0, 0] S1x1x32x16.size inb) w ?_ ?_
  · intro (x : S1x1x32x16.Idx)
    have h0 : (x 0).val < 1 := (x 0).isLt
    have h1 : (x 1).val < 1 := (x 1).isLt
    have h3 : (x 3).val < 16 := (x 3).isLt
    have hx : (Rect.unit (s := S4x68x32x64) ![m.val, a, 0, 0] S1x1x32x16.size inb).emb x
        = ix4 m (⟨17 * q.val + 16, by omega⟩ : Fin 68) (x 2) (⟨(x 3).val, by omega⟩ : Fin 64) := by
      funext b; apply Fin.ext
      match b with
      | ⟨0, _⟩ => show m.val + 1 * (x 0).val = m.val; omega
      | ⟨1, _⟩ => show a + 1 * (x 1).val = 17 * q.val + 16; omega
      | ⟨2, _⟩ => show 0 + 1 * (x 2).val = (x 2).val; omega
      | ⟨3, _⟩ => show 0 + 1 * (x 3).val = (x 3).val; omega
    rw [hx, hw]
    refine (shapeCast_apply _ _ x (ix2 (x 2) (x 3)) ?_).trans ?_
    · rw [Shape.rowMajor_val_four, Shape.rowMajor_val_two]
      show (x 2).val * 16 + (x 3).val = (((x 0).val * 1 + (x 1).val) * 32 + (x 2).val) * 16 + (x 3).val
      omega
    show FloatOps.truncf .bf16 bitsLt_bf16_f32 (X _) = FloatOps.truncf .bf16 bitsLt_bf16_f32 (PK (I c) (colOf c m) (ix3 _ _ _))
    rw [hX]
    unfold PK
    have e2 : (17 * q.val + 16) / 17 = q.val := by omega
    rw [dif_neg (show ¬ (17 * q.val + 16) % 17 < 16 by omega)]
    refine congrArg (fun z => FloatOps.truncf .bf16 bitsLt_bf16_f32 (SA (I c) z)) ?_
    funext b; apply Fin.ext
    have ho := off2_eq c q m hm
    match b with
    | ⟨0, _⟩ => show k0_off2 c (BitVec.ofNat 32 (4 * q.val)) (BitVec.ofNat 32 m.val) 0 + 1 * (x 2).val = (qRow ((17 * q.val + 16) / 17) (colOf c m) (x 2)).val
                rw [ho, e2]; refine Eq.trans ?_ (qRow_val c q m (x 2)).symm; show rowOff c q m + 1 * (x 2).val = _; omega
    | ⟨1, _⟩ => show k0_off2 c (BitVec.ofNat 32 (4 * q.val)) (BitVec.ofNat 32 m.val) 1 + 1 * (x 3).val = (x 3).val % 16
                rw [ho]; show 0 + 1 * (x 3).val = _; omega
  · intro y hy
    unfold keyA at hy ⊢
    have hy1 : (y 1).val < 68 := (y 1).isLt
    by_cases hc : 8 * ((y 0).val - 1) + 2 * ((y 1).val / 17) + (y 1).val % 17 / 16 < n
    · exact .inl ⟨hy.1, hy.2.1, hc⟩
    · right; rw [Rect.mem_set_unit]; intro b
      match b with
      | ⟨0, _⟩ => show m.val ≤ (y 0).val ∧ (y 0).val < m.val + 1; omega
      | ⟨1, _⟩ => show a ≤ (y 1).val ∧ (y 1).val < a + 1; omega
      | ⟨2, _⟩ => have : (y 2).val < 32 := (y 2).isLt
                  show 0 ≤ (y 2).val ∧ (y 2).val < 0 + 32; omega
      | ⟨3, _⟩ => show 0 ≤ (y 3).val ∧ (y 3).val < 0 + 16; omega

end Cert.KProof
-- ==== Proof.ContentsG.lean ====
/- What the remaining buffers hold after each of their stores. -/
module

public import proofs.«01_k».proof.Proof.ContentsA
public import Idealize.ShloMosaic.Lib.ValueLayout
public import Idealize.ShloMosaic.Lib.ValueLayoutCasts

@[expose] public section

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-- One more store, where the piece agrees with `G` on the new domain only. -/
theorem putOn {sig : RefSig} {κ : Kind} {sp : Space} {s : Shape} {e : EltTy} {Val : EltTy → Type}
    (v : View sig κ sp s e) (f : v.ty.Contents Val) (L : List (View.Piece Val s e)) (G : s.Idx → Val e) {P P' : s.Idx → Prop}
    (h : ∀ y, P y → v.read Val (v.writes Val f L) y = G y) (r : Rect s) (w : r.shape.Idx → Val e)
    (hw : ∀ x, P' (r.emb x) → w x = G (r.emb x)) (hP : ∀ y, P' y → P y ∨ y ∈ r.set) :
    ∀ y, P' y → v.read Val (v.writes Val f (⟨r, w⟩ :: L)) y = G y := by
  intro y hy
  by_cases hm : y ∈ r.set
  · obtain ⟨x, rfl⟩ : ∃ x, r.emb x = y := by
      have := hm; rw [← Rect.map_emb_univ] at this; obtain ⟨x, -, hx⟩ := Finset.mem_map.mp this; exact ⟨x, hx⟩
    exact (View.read_writes_cons_emb v f r w L x).trans (hw x hy)
  · refine (View.read_slice_write_of_not_mem r _ w Finset.univ (by rw [Rect.map_emb_univ]; exact hm)).trans (h y ?_)
    exact (hP y hy).resolve_right hm

/-! ## The row sums -/

/-- The entries of the row sums written after `n` stores. -/
def keyG (n : ℕ) (y : S68x32x64.Idx) : Prop :=
  ((y 0).val % 17 < 16 ∨ (y 2).val < 16) ∧ 2 * ((y 0).val / 17) + (y 0).val % 17 / 16 < n

/-- Storing sixteen rows of weighted sums of group `q`. -/
theorem stepGO {sig : RefSig} {κ : Kind} {sp : Space} (I : Dev nD → Ins F) (c : Dev nD) (v : View sig κ sp S68x32x64 .f32) (f : v.ty.Contents (Elt F))
    (L : List (View.Piece (Elt F) S68x32x64 .f32)) (q : Fin 4) (X : Vec F S16x512x64 .f32) (hX : ∀ y, X y = OA (I c) y)
    (n a : ℕ) (hn : n = 2 * q.val) (ha : a = 17 * q.val) (inb) (inb') (w : S16x32x64.Idx → Elt F .f32)
    (hw : w = shapeCast S16x32x64 (View.ld X (Rect.unit (s := S16x512x64) (k0_off3 c (BitVec.ofNat 32 (4 * q.val))) S16x32x64.size inb')) shapeCasts_S16x32x64_S16x32x64)
    (n' : ℕ) (hn' : n' = n + 1)
    (h : ∀ y, keyG n y → v.read (Elt F) (v.writes (Elt F) f L) y = GAn I c 0 y) :
    ∀ y, keyG n' y → v.read (Elt F) (v.writes (Elt F) f
      (⟨Rect.unit (s := S68x32x64) ![a, 0, 0] S16x32x64.size inb, w⟩ :: L)) y = GAn I c 0 y := by
  have hq := q.isLt
  refine put v f L (GAn I c 0) (P := keyG n) h (Rect.unit (s := S68x32x64) ![a, 0, 0] S16x32x64.size inb) w ?_ ?_
  · intro (x : S16x32x64.Idx)
    have h1 : (x 0).val < 16 := (x 0).isLt
    have hx : (Rect.unit (s := S68x32x64) ![a, 0, 0] S16x32x64.size inb).emb x
        = ix3 (⟨17 * q.val + (x 0).val, by omega⟩ : Fin 68) (x 1) (x 2) := by
      funext b; apply Fin.ext
      match b with
      | ⟨0, _⟩ => show a + 1 * (x 0).val = 17 * q.val + (x 0).val; omega
      | ⟨1, _⟩ => show 0 + 1 * (x 1).val = (x 1).val; omega
      | ⟨2, _⟩ => show 0 + 1 * (x 2).val = (x 2).val; omega
    rw [hx, hw]
    refine (congrFun (shapeCast_self _ _) x).trans ?_
    show X _ = PK (I c) (colOf c 0) (ix3 _ _ _)
    rw [hX]
    unfold PK
    have e1 : (17 * q.val + (x 0).val) % 17 = (x 0).val := by omega
    have e2 : (17 * q.val + (x 0).val) / 17 = q.val := by omega
    rw [dif_pos (show (17 * q.val + (x 0).val) % 17 < 16 by omega)]
    refine congrArg (OA (I c)) ?_
    funext b; apply Fin.ext
    have ho := off3_eq c q
    match b with
    | ⟨0, _⟩ => show k0_off3 c (BitVec.ofNat 32 (4 * q.val)) 0 + 1 * (x 0).val = (17 * q.val + (x 0).val) % 17
                rw [ho, e1]; show 0 + 1 * (x 0).val = _; omega
    | ⟨1, _⟩ => show k0_off3 c (BitVec.ofNat 32 (4 * q.val)) 1 + 1 * (x 1).val = (qRow ((17 * q.val + (x 0).val) / 17) (colOf c 0) (x 1)).val
                rw [ho, e2]; refine Eq.trans ?_ (qRow_val c q 0 (x 1)).symm; show rowOff c q 0 + 1 * (x 1).val = _; omega
    | ⟨2, _⟩ => show k0_off3 c (BitVec.ofNat 32 (4 * q.val)) 2 + 1 * (x 2).val = (x 2).val
                rw [ho]; show 0 + 1 * (x 2).val = _; omega
  · intro y hy
    unfold keyG at hy ⊢
    have hy1 : (y 0).val < 68 := (y 0).isLt
    by_cases hc : 2 * ((y 0).val / 17) + (y 0).val % 17 / 16 < n
    · exact .inl ⟨hy.1, hc⟩
    · right; rw [Rect.mem_set_unit]; intro b
      match b with
      | ⟨0, _⟩ => show a ≤ (y 0).val ∧ (y 0).val < a + 16; omega
      | ⟨1, _⟩ => have : (y 1).val < 32 := (y 1).isLt
                  show 0 ≤ (y 1).val ∧ (y 1).val < 0 + 32; omega
      | ⟨2, _⟩ => have : (y 2).val < 64 := (y 2).isLt
                  show 0 ≤ (y 2).val ∧ (y 2).val < 0 + 64; omega

/-- Storing the row of weight sums of group `q`. -/
theorem stepGS {sig : RefSig} {κ : Kind} {sp : Space} (I : Dev nD → Ins F) (c : Dev nD) (v : View sig κ sp S68x32x64 .f32) (f : v.ty.Contents (Elt F))
    (L : List (View.Piece (Elt F) S68x32x64 .f32)) (q : Fin 4) (X : Vec F S512x16 .f32) (hX : ∀ y, X y = SA (I c) y)
    (n a : ℕ) (hn : n = 2 * q.val + 1) (ha : a = 17 * q.val + 16) (inb) (inb') (w : S1x32x16.Idx → Elt F .f32)
    (hw : w = shapeCast S1x32x16 (View.ld X (Rect.unit (s := S512x16) (k0_off4 c (BitVec.ofNat 32 (4 * q.val))) S32x16.size inb')) shapeCasts_S32x16_S1x32x16)
    (n' : ℕ) (hn' : n' = n + 1)
    (h : ∀ y, keyG n y → v.read (Elt F) (v.writes (Elt F) f L) y = GAn I c 0 y) :
    ∀ y, keyG n' y → v.read (Elt F) (v.writes (Elt F) f
      (⟨Rect.unit (s := S68x32x64) ![a, 0, 0] S1x32x16.size inb, w⟩ :: L)) y = GAn I c 0 y := by
  have hq := q.isLt
  refine put v f L (GAn I c 0) (P := keyG n) h (Rect.unit (s := S68x32x64) ![a, 0, 0] S1x32x16.size inb) w ?_ ?_
  · intro (x : S1x32x16.Idx)
    have h0 : (x 0).val < 1 := (x 0).isLt
    have h3 : (x 2).val < 16 := (x 2).isLt
    have hx : (Rect.unit (s := S68x32x64) ![a, 0, 0] S1x32x16.size inb).emb x
        = ix3 (⟨17 * q.val + 16, by omega⟩ : Fin 68) (x 1) (⟨(x 2).val, by omega⟩ : Fin 64) := by
      funext b; apply Fin.ext
      match b with
      | ⟨0, _⟩ => show a + 1 * (x 0).val = 17 * q.val + 16; omega
      | ⟨1, _⟩ => show 0 + 1 * (x 1).val = (x 1).val; omega
      | ⟨2, _⟩ => show 0 + 1 * (x 2).val = (x 2).val; omega
    rw [hx, hw]
    refine (congrArg _ (eq_ix3 x)).trans ((shapeCast_ab_1ab_apply _ _ _ _ _).trans ?_)
    show X _ = PK (I c) (colOf c 0) (ix3 _ _ _)
    rw [hX]
    unfold PK
    have e2 : (17 * q.val + 16) / 17 = q.val := by omega
    rw [dif_neg (show ¬ (17 * q.val + 16) % 17 < 16 by omega)]
    refine congrArg (SA (I c)) ?_
    funext b; apply Fin.ext
    have ho := off4_eq c q
    match b with
    | ⟨0, _⟩ => show k0_off4 c (BitVec.ofNat 32 (4 * q.val)) 0 + 1 * (x 1).val = (qRow ((17 * q.val + 16) / 17) (colOf c 0) (x 1)).val
                rw [ho, e2]; refine Eq.trans ?_ (qRow_val c q 0 (x 1)).symm; show rowOff c q 0 + 1 * (x 1).val = _; omega
    | ⟨1, _⟩ => show k0_off4 c (BitVec.ofNat 32 (4 * q.val)) 1 + 1 * (x 2).val = (x 2).val % 16
                rw [ho]; show 0 + 1 * (x 2).val = _; omega
  · intro y hy
    unfold keyG at hy ⊢
    have hy1 : (y 0).val < 68 := (y 0).isLt
    by_cases hc : 2 * ((y 0).val / 17) + (y 0).val % 17 / 16 < n
    · exact .inl ⟨hy.1, hc⟩
    · right; rw [Rect.mem_set_unit]; intro b
      match b with
      | ⟨0, _⟩ => show a ≤ (y 0).val ∧ (y 0).val < a + 1; omega
      | ⟨1, _⟩ => have : (y 1).val < 32 := (y 1).isLt
                  show 0 ≤ (y 1).val ∧ (y 1).val < 0 + 32; omega
      | ⟨2, _⟩ => show 0 ≤ (y 2).val ∧ (y 2).val < 0 + 16; omega

/-- A whole rectangle's embedding is the identity. -/
theorem emb_whole3 {a b d : ℕ} (inb) (x : (⟨3, ![a, b, d]⟩ : Shape).Idx) :
    (Rect.unit (s := ⟨3, ![a, b, d]⟩) ![0, 0, 0] ![a, b, d] inb).emb x = x := by
  funext e; apply Fin.ext
  match e with
  | ⟨0, _⟩ => show 0 + 1 * (x 0).val = (x 0).val; omega
  | ⟨1, _⟩ => show 0 + 1 * (x 1).val = (x 1).val; omega
  | ⟨2, _⟩ => show 0 + 1 * (x 2).val = (x 2).val; omega
/-- Every index lies in a whole view. -/
theorem mem_whole3 {a b d : ℕ} (inb) (x : (⟨3, ![a, b, d]⟩ : Shape).Idx) :
    x ∈ (Rect.unit (s := ⟨3, ![a, b, d]⟩) ![0, 0, 0] ![a, b, d] inb).set := by
  rw [← Rect.map_emb_univ]
  exact Finset.mem_map.mpr ⟨x, Finset.mem_univ x, emb_whole3 inb x⟩

/-- Adding an arrival to the row sums. -/
theorem stepAcc {sig : RefSig} {κ : Kind} {sp : Space} (I : Dev nD → Ins F) (c : Dev nD) (v : View sig κ sp S68x32x64 .f32) (f : v.ty.Contents (Elt F))
    (L : List (View.Piece (Elt F) S68x32x64 .f32)) (n : ℕ) (X : Vec F S68x32x64 .f32) (hX : ∀ y, Good68 y → X y = GAn I c n y)
    (R : Vec F S1x68x32x64 .bf16)
    (hR : ∀ y, Good68 y → shapeCast S68x32x64 R shapeCasts_S1x68x32x64_S68x32x64 y = AS I (rowPeer (opp (Fin.ofNat 4 (n + 1))) c) (Fin.ofNat 4 (n + 1)) y)
    (inb inb') (w : S68x32x64.Idx → Elt F .f32)
    (hw : w = shapeCast S68x32x64 (addf (View.ld X (Rect.unit (s := S68x32x64) ![0, 0, 0] S68x32x64.size inb'))
      (extf .f32 (shapeCast S68x32x64 R shapeCasts_S1x68x32x64_S68x32x64) bitsLt_bf16_f32)) shapeCasts_S68x32x64_S68x32x64) :
    ∀ y, Good68 y → v.read (Elt F) (v.writes (Elt F) f
      (⟨Rect.unit (s := S68x32x64) ![0, 0, 0] S68x32x64.size inb, w⟩ :: L)) y = GAn I c (n + 1) y := by
  refine putOn v f L (GAn I c (n + 1)) (P := fun _ => False) (fun y h => h.elim) (Rect.unit (s := S68x32x64) ![0, 0, 0] S68x32x64.size inb) w ?_ ?_
  · intro x hx
    have he : (Rect.unit (s := S68x32x64) ![0, 0, 0] S68x32x64.size inb).emb x = x := emb_whole3 inb x
    rw [he] at hx ⊢
    rw [hw]
    refine (congrFun (shapeCast_self _ _) x).trans ?_
    show FloatOps.addf (X ((Rect.unit (s := S68x32x64) ![0, 0, 0] S68x32x64.size inb').emb x)) (FloatOps.extf .f32 bitsLt_bf16_f32 (shapeCast S68x32x64 R _ x))
      = FloatOps.addf (GAn I c n x) (FloatOps.extf .f32 bitsLt_bf16_f32 (AS I _ _ x))
    rw [show (Rect.unit (s := S68x32x64) ![0, 0, 0] S68x32x64.size inb').emb x = x from emb_whole3 inb' x, hX x hx, hR x hx]
  · intro y _
    exact .inr (mem_whole3 inb y)

/-! ## The column reduction's slots -/

/-- The entries of the column reduction's slots written after the slots below `n`. -/
def keyB (n : ℕ) (y : S4x17x32x64.Idx) : Prop := 1 ≤ (y 0).val ∧ ((y 1).val < 16 ∨ (y 3).val < 16) ∧ (y 0).val < n

/-- What the column reduction's slots hold. -/
def SLB (I : Dev nD → Ins F) (c : Dev nD) : S4x17x32x64.Idx → Elt F .bf16 := fun y => BS I c (y 0) (ix3 (y 1) (y 2) (y 3))

/-- Storing slot `m`. -/
theorem stepB {sig : RefSig} {κ : Kind} {sp : Space} (I : Dev nD → Ins F) (c : Dev nD) (v : View sig κ sp S4x17x32x64 .bf16) (f : v.ty.Contents (Elt F))
    (L : List (View.Piece (Elt F) S4x17x32x64 .bf16)) (m : Fin 4) (hm : m ≠ 0) (X : Vec F S68x32x64 .f32) (hX : ∀ y, Good68 y → X y = GA I c y)
    (inb inb') (w : S1x17x32x64.Idx → Elt F .bf16)
    (hw : w = shapeCast S1x17x32x64 (truncf .bf16 (View.ld X (Rect.unit (s := S68x32x64) (k0_off5 c (BitVec.ofNat 32 m.val)) S17x32x64.size inb')) bitsLt_bf16_f32)
      shapeCasts_S17x32x64_S1x17x32x64) (n' : ℕ) (hn' : n' = m.val + 1)
    (h : ∀ y, keyB m.val y → v.read (Elt F) (v.writes (Elt F) f L) y = SLB I c y) :
    ∀ y, keyB n' y → v.read (Elt F) (v.writes (Elt F) f
      (⟨Rect.unit (s := S4x17x32x64) ![m.val, 0, 0, 0] S1x17x32x64.size inb, w⟩ :: L)) y = SLB I c y := by
  have hm0 : 1 ≤ m.val := Nat.one_le_iff_ne_zero.mpr fun e => hm (Fin.ext e)
  refine putOn v f L (SLB I c) (P := keyB m.val) h (Rect.unit (s := S4x17x32x64) ![m.val, 0, 0, 0] S1x17x32x64.size inb) w ?_ ?_
  · intro (x : S1x17x32x64.Idx) hgood
    have h0 : (x 0).val < 1 := (x 0).isLt
    have h1 : (x 1).val < 17 := (x 1).isLt
    have hx : (Rect.unit (s := S4x17x32x64) ![m.val, 0, 0, 0] S1x17x32x64.size inb).emb x = ix4 m (x 1) (x 2) (x 3) := by
      funext b; apply Fin.ext
      match b with
      | ⟨0, _⟩ => show m.val + 1 * (x 0).val = m.val; omega
      | ⟨1, _⟩ => show 0 + 1 * (x 1).val = (x 1).val; omega
      | ⟨2, _⟩ => show 0 + 1 * (x 2).val = (x 2).val; omega
      | ⟨3, _⟩ => show 0 + 1 * (x 3).val = (x 3).val; omega
    rw [hx] at hgood
    have hg : (x 1).val < 16 ∨ (x 3).val < 16 := hgood.2.1
    rw [hx, hw]
    refine (congrArg _ (eq_ix4 x)).trans ((shapeCast_abc_1abc_apply _ _ _ _ _ _).trans ?_)
    show FloatOps.truncf .bf16 bitsLt_bf16_f32 (X _) = FloatOps.truncf .bf16 bitsLt_bf16_f32 (GA I c (ix3 _ _ _))
    refine congrArg (FloatOps.truncf .bf16 bitsLt_bf16_f32) ?_
    have ho := off5_eq c m hm
    have hr := (rowOf c m).isLt
    have hi : (Rect.unit (s := S68x32x64) (k0_off5 c (BitVec.ofNat 32 m.val)) S17x32x64.size inb').emb (ix3 (x 1) (x 2) (x 3))
        = ix3 (⟨17 * (rowOf c m).val + (x 1).val, by omega⟩ : Fin 68) (x 2) (x 3) := by
      funext b; apply Fin.ext
      match b with
      | ⟨0, _⟩ => show k0_off5 c (BitVec.ofNat 32 m.val) 0 + 1 * (x 1).val = _
                  rw [ho]; show 17 * ((c.val / 4 + m.val) % 4) + 1 * (x 1).val = 17 * ((c.val / 4 + m.val) % 4) + (x 1).val; omega
      | ⟨1, _⟩ => show k0_off5 c (BitVec.ofNat 32 m.val) 1 + 1 * (x 2).val = (x 2).val
                  rw [ho]; show 0 + 1 * (x 2).val = _; omega
      | ⟨2, _⟩ => show k0_off5 c (BitVec.ofNat 32 m.val) 2 + 1 * (x 3).val = (x 3).val
                  rw [ho]; show 0 + 1 * (x 3).val = _; omega
    refine (congrArg X hi).trans (hX _ ?_)
    show (17 * (rowOf c m).val + (x 1).val) % 17 < 16 ∨ (x 3).val < 16
    omega
  · intro y hy
    unfold keyB at hy ⊢
    by_cases hc : (y 0).val < m.val
    · exact .inl ⟨hy.1, hy.2.1, hc⟩
    · right; rw [Rect.mem_set_unit]; intro b
      match b with
      | ⟨0, _⟩ => show m.val ≤ (y 0).val ∧ (y 0).val < m.val + 1; omega
      | ⟨1, _⟩ => have : (y 1).val < 17 := (y 1).isLt
                  show 0 ≤ (y 1).val ∧ (y 1).val < 0 + 17; omega
      | ⟨2, _⟩ => have : (y 2).val < 32 := (y 2).isLt
                  show 0 ≤ (y 2).val ∧ (y 2).val < 0 + 32; omega
      | ⟨3, _⟩ => have : (y 3).val < 64 := (y 3).isLt
                  show 0 ≤ (y 3).val ∧ (y 3).val < 0 + 64; omega

/-! ## The full sums -/

/-- The device's own rows of the row sums. -/
theorem own17 (I : Dev nD → Ins F) (c : Dev nD) (X : Vec F S68x32x64 .f32) (hX : ∀ y, Good68 y → X y = GA I c y) (inb') (y : S17x32x64.Idx) (hy : Good17 y) :
    View.ld X (Rect.unit (s := S68x32x64) (k0_off6 c) S17x32x64.size inb') y = CSn I c 0 y := by
  have ho := off6_eq c
  have h1 : (y 0).val < 17 := (y 0).isLt
  have hr := (rowOf c 0).isLt
  have hc : c.val < 16 := c.isLt
  have hi : (Rect.unit (s := S68x32x64) (k0_off6 c) S17x32x64.size inb').emb y
      = ix3 (⟨17 * (rowOf c 0).val + (y 0).val, by omega⟩ : Fin 68) (y 1) (y 2) := by
    funext b; apply Fin.ext
    match b with
    | ⟨0, _⟩ => show k0_off6 c 0 + 1 * (y 0).val = _
                rw [ho]; show 17 * (c.val / 4) + 1 * (y 0).val = 17 * ((c.val / 4 + 0) % 4) + (y 0).val; omega
    | ⟨1, _⟩ => show k0_off6 c 1 + 1 * (y 1).val = (y 1).val
                rw [ho]; show 0 + 1 * (y 1).val = _; omega
    | ⟨2, _⟩ => show k0_off6 c 2 + 1 * (y 2).val = (y 2).val
                rw [ho]; show 0 + 1 * (y 2).val = _; omega
  refine (congrArg X hi).trans (hX _ ?_)
  have hg : (y 0).val < 16 ∨ (y 2).val < 16 := hy
  show (17 * (rowOf c 0).val + (y 0).val) % 17 < 16 ∨ (y 2).val < 16
  omega

/-- Adding an arrival to the full sums. -/
theorem addCS (I : Dev nD → Ins F) (c : Dev nD) (n : ℕ) (T : Vec F S17x32x64 .f32) (hT : ∀ y, Good17 y → T y = CSn I c n y) (R : Vec F S17x32x64 .bf16)
    (hR : ∀ y, Good17 y → R y = BS I (colPeer (opp (Fin.ofNat 4 (n + 1))) c) (Fin.ofNat 4 (n + 1)) y) (y : S17x32x64.Idx) (hy : Good17 y) :
    addf T (extf .f32 R bitsLt_bf16_f32) y = CSn I c (n + 1) y := by
  show FloatOps.addf (T y) (FloatOps.extf .f32 bitsLt_bf16_f32 (R y)) = FloatOps.addf (CSn I c n y) (FloatOps.extf .f32 bitsLt_bf16_f32 (BS I _ _ y))
  rw [hT y hy, hR y hy]

end Cert.KProof
-- ==== Proof.ContentsC.lean ====
/- What the context buffers and the output hold after each of their stores. -/
module

public import proofs.«01_k».proof.Proof.ContentsG
public import Idealize.ShloMosaic.Lib.ValueLayout
public import Idealize.ShloMosaic.Lib.ValueLayoutCasts

@[expose] public section

noncomputable section

namespace Cert.KProof

open Cert.KernelIdeal Cert.KernelIdeal.Gen
open Idealize.ShloMosaic
open Idealize.ShloMosaic.TcCoe
open Idealize.ShloMosaic.ValueIdx

variable {F : FTy → Type} [FloatOps F]

/-! ## The own block of the context -/

/-- The context of pair `g` from the full sums. -/
theorem stepC {sig : RefSig} {κ : Kind} {sp : Space} (I : Dev nD → Ins F) (c : Dev nD) (v : View sig κ sp S16x32x64 .bf16) (f : v.ty.Contents (Elt F))
    (L : List (View.Piece (Elt F) S16x32x64 .bf16)) (g : Fin 16) (T : FVec F S17x32x64 .f32) (hT : ∀ y, Good17 y → T y = CS I c y)
    (inb) (hs) (hs') (w : S1x32x64.Idx → Elt F .bf16)
    (hw : w = shapeCast S1x32x64 (truncf .bf16 (divf (shapeCast S32x64 (extractStridedSlice S1x32x64 ![g.val, 0, 0] T hs) shapeCasts_S1x32x64_S32x64)
      (broadcastTo S32x64 (shapeCast S32x1 (extractStridedSlice S1x32x1 ![16, 0, g.val] T hs') shapeCasts_S1x32x1_S32x1) broadcasts_S32x1_S32x64)) bitsLt_bf16_f32)
      shapeCasts_S32x64_S1x32x64) (n' : ℕ) (hn' : n' = g.val + 1)
    (h : ∀ y : S16x32x64.Idx, (y 0).val < g.val → v.read (Elt F) (v.writes (Elt F) f L) y = CB I c y) :
    ∀ y : S16x32x64.Idx, (y 0).val < n' → v.read (Elt F) (v.writes (Elt F) f
      (⟨Rect.unit (s := S16x32x64) ![g.val, 0, 0] S1x32x64.size inb, w⟩ :: L)) y = CB I c y := by
  have hg := g.isLt
  refine put v f L (CB I c) (P := fun y : S16x32x64.Idx => (y 0).val < g.val) h (Rect.unit (s := S16x32x64) ![g.val, 0, 0] S1x32x64.size inb) w ?_ ?_
  · intro (x : S1x32x64.Idx)
    have h0 : (x 0).val < 1 := (x 0).isLt
    have hx : (Rect.unit (s := S16x32x64) ![g.val, 0, 0] S1x32x64.size inb).emb x = ix3 g (x 1) (x 2) := by
      funext b; apply Fin.ext
      match b with
      | ⟨0, _⟩ => show g.val + 1 * (x 0).val = g.val; omega
      | ⟨1, _⟩ => show 0 + 1 * (x 1).val = (x 1).val; omega
      | ⟨2, _⟩ => show 0 + 1 * (x 2).val = (x 2).val; omega
    rw [hx, hw]
    refine (congrArg _ (eq_ix3 x)).trans ((shapeCast_ab_1ab_apply _ _ _ _ _).trans ?_)
    have hA : shapeCast S32x64 (extractStridedSlice S1x32x64 ![g.val, 0, 0] T hs) shapeCasts_S1x32x64_S32x64 (ix2 (x 1) (x 2))
        = CS I c (ix3 ⟨g.val, by show _ < 17; omega⟩ (x 1) (x 2)) := by
      refine (shapeCast_1ab_ab_apply _ _ _ _).trans ?_
      refine (extractStridedSlice_apply _ _ _ _ (ix3 ⟨g.val, by show _ < 17; omega⟩ (x 1) (x 2)) ?_).trans (hT _ (.inl hg))
      intro a
      match a with
      | ⟨0, _⟩ => show g.val = g.val + 0; omega
      | ⟨1, _⟩ => show (x 1).val = 0 + (x 1).val; omega
      | ⟨2, _⟩ => show (x 2).val = 0 + (x 2).val; omega
    have hB : broadcastTo S32x64 (shapeCast S32x1 (extractStridedSlice S1x32x1 ![16, 0, g.val] T hs') shapeCasts_S1x32x1_S32x1) broadcasts_S32x1_S32x64 (ix2 (x 1) (x 2))
        = CS I c (ix3 16 (x 1) ⟨g.val, by show _ < 64; omega⟩) := by
      refine (broadcastTo_apply _ _ _ (ix2 (x 1) (0 : Fin 1)) ?_).trans ?_
      · intro a
        match a with
        | ⟨0, _⟩ => rfl
        | ⟨1, _⟩ => rfl
      refine (shapeCast_1ab_ab_apply _ _ _ _).trans ?_
      refine (extractStridedSlice_apply _ _ _ _ (ix3 16 (x 1) ⟨g.val, by show _ < 64; omega⟩) ?_).trans (hT _ (.inr hg))
      intro a
      match a with
      | ⟨0, _⟩ => rfl
      | ⟨1, _⟩ => show (x 1).val = 0 + (x 1).val; omega
      | ⟨2, _⟩ => show g.val = g.val + 0; omega
    show FloatOps.truncf .bf16 bitsLt_bf16_f32 (FloatOps.divf (shapeCast S32x64 _ _ (ix2 (x 1) (x 2))) (broadcastTo S32x64 _ _ (ix2 (x 1) (x 2)))) = _
    rw [hA, hB]
    rfl
  · intro y hy
    have hy1 : (y 0).val < n' := hy
    by_cases hc : (y 0).val < g.val
    · exact .inl hc
    · right; rw [Rect.mem_set_unit]; intro b
      match b with
      | ⟨0, _⟩ => show g.val ≤ (y 0).val ∧ (y 0).val < g.val + 1; omega
      | ⟨1, _⟩ => have : (y 1).val < 32 := (y 1).isLt
                  show 0 ≤ (y 1).val ∧ (y 1).val < 0 + 32; omega
      | ⟨2, _⟩ => have : (y 2).val < 64 := (y 2).isLt
                  show 0 ≤ (y 2).val ∧ (y 2).val < 0 + 64; omega

/-! ## The context of a column -/

/-- The device of row `r` in `c`'s column. -/
def inCol (c : Dev nD) (r : Fin 4) : Dev nD := ⟨4 * r.val + c.val % 4, by have := r.isLt; show _ < 16; omega⟩

/-- The entries of the rows of the mesh in `R`. -/
def keyE (R : List (Fin 4)) (y : S64x32x64.Idx) : Prop := ∃ r ∈ R, (y 0).val / 16 = r.val

/-- Storing the context of the block of row `r`. -/
theorem stepE {sig : RefSig} {κ : Kind} {sp : Space} (I : Dev nD → Ins F) (c : Dev nD) (v : View sig κ sp S64x32x64 .bf16) (f : v.ty.Contents (Elt F))
    (L : List (View.Piece (Elt F) S64x32x64 .bf16)) (R : List (Fin 4)) (r : Fin 4) (off : Fin 3 → ℕ) (hoff : off = ![16 * r.val, 0, 0]) (inb)
    (w : S16x32x64.Idx → Elt F .bf16) (hw : ∀ x, w x = CB I (inCol c r) x)
    (h : ∀ y, keyE R y → v.read (Elt F) (v.writes (Elt F) f L) y = CG I c y) :
    ∀ y, keyE (r :: R) y → v.read (Elt F) (v.writes (Elt F) f (⟨Rect.unit (s := S64x32x64) off S16x32x64.size inb, w⟩ :: L)) y = CG I c y := by
  subst hoff
  refine put v f L (CG I c) (P := keyE R) h (Rect.unit (s := S64x32x64) ![16 * r.val, 0, 0] S16x32x64.size inb) w ?_ ?_
  · intro (x : S16x32x64.Idx)
    have h0 : (x 0).val < 16 := (x 0).isLt
    have hr := r.isLt
    rw [hw]
    have e1 : (16 * r.val + 1 * (x 0).val) / 16 = r.val := by omega
    have e2 : (16 * r.val + 1 * (x 0).val) % 16 = (x 0).val := by omega
    unfold CG
    have hd : (⟨4 * (((Rect.unit (s := S64x32x64) ![16 * r.val, 0, 0] S16x32x64.size inb).emb x 0).val / 16) + c.val % 4, by
        have h : ((Rect.unit (s := S64x32x64) ![16 * r.val, 0, 0] S16x32x64.size inb).emb x 0).val < 64 := ((Rect.unit (s := S64x32x64) ![16 * r.val, 0, 0] S16x32x64.size inb).emb x 0).isLt
        show _ < 16; omega⟩ : Dev nD) = inCol c r := by
      apply Fin.ext
      show 4 * ((16 * r.val + 1 * (x 0).val) / 16) + c.val % 4 = 4 * r.val + c.val % 4
      rw [e1]
    rw [hd]
    refine congrArg (CB I (inCol c r)) ?_
    funext b; apply Fin.ext
    match b with
    | ⟨0, _⟩ => exact e2.symm
    | ⟨1, _⟩ => show (x 1).val = 0 + 1 * (x 1).val; omega
    | ⟨2, _⟩ => show (x 2).val = 0 + 1 * (x 2).val; omega
  · rintro y ⟨r', hr', hy⟩
    have h0 : (y 0).val < 64 := (y 0).isLt
    rcases List.mem_cons.mp hr' with rfl | hr'
    · right; rw [Rect.mem_set_unit]; intro b
      match b with
      | ⟨0, _⟩ => show 16 * r'.val ≤ (y 0).val ∧ (y 0).val < 16 * r'.val + 16; omega
      | ⟨1, _⟩ => have : (y 1).val < 32 := (y 1).isLt
                  show 0 ≤ (y 1).val ∧ (y 1).val < 0 + 32; omega
      | ⟨2, _⟩ => have : (y 2).val < 64 := (y 2).isLt
                  show 0 ≤ (y 2).val ∧ (y 2).val < 0 + 64; omega
    · exact .inl ⟨r', hr', hy⟩

/-! ## The whole context -/

/-- The entries of the query rows of the devices in `D`. -/
def keyF (D : List (Dev nD)) (y : S16x512x64.Idx) : Prop := ∃ d ∈ D, (y 1).val / 32 = d.val

/-- Storing the context of the block of device `d`. -/
theorem stepF {sig : RefSig} {κ : Kind} {sp : Space} (I : Dev nD → Ins F) (v : View sig κ sp S16x512x64 .bf16) (f : v.ty.Contents (Elt F))
    (L : List (View.Piece (Elt F) S16x512x64 .bf16)) (D : List (Dev nD)) (d : Dev nD) (off : Fin 3 → ℕ) (hoff : off = ![0, 32 * d.val, 0]) (inb)
    (w : S16x32x64.Idx → Elt F .bf16) (hw : ∀ x, w x = CB I d x)
    (h : ∀ y, keyF D y → v.read (Elt F) (v.writes (Elt F) f L) y = CF I y) :
    ∀ y, keyF (d :: D) y → v.read (Elt F) (v.writes (Elt F) f (⟨Rect.unit (s := S16x512x64) off S16x32x64.size inb, w⟩ :: L)) y = CF I y := by
  subst hoff
  refine put v f L (CF I) (P := keyF D) h (Rect.unit (s := S16x512x64) ![0, 32 * d.val, 0] S16x32x64.size inb) w ?_ ?_
  · intro (x : S16x32x64.Idx)
    have h0 : (x 1).val < 32 := (x 1).isLt
    rw [hw]
    have e1 : (32 * d.val + 1 * (x 1).val) / 32 = d.val := by omega
    have e2 : (32 * d.val + 1 * (x 1).val) % 32 = (x 1).val := by omega
    unfold CF
    have hd : (⟨((Rect.unit (s := S16x512x64) ![0, 32 * d.val, 0] S16x32x64.size inb).emb x 1).val / 32, by
        have h : ((Rect.unit (s := S16x512x64) ![0, 32 * d.val, 0] S16x32x64.size inb).emb x 1).val < 512 := ((Rect.unit (s := S16x512x64) ![0, 32 * d.val, 0] S16x32x64.size inb).emb x 1).isLt
        show _ < 16; omega⟩ : Dev nD) = d := Fin.ext e1
    rw [hd]
    refine congrArg (CB I d) ?_
    funext b; apply Fin.ext
    match b with
    | ⟨0, _⟩ => show (x 0).val = 0 + 1 * (x 0).val; omega
    | ⟨1, _⟩ => exact e2.symm
    | ⟨2, _⟩ => show (x 2).val = 0 + 1 * (x 2).val; omega
  · rintro y ⟨d', hd', hy⟩
    rcases List.mem_cons.mp hd' with rfl | hd'
    · right; rw [Rect.mem_set_unit]; intro b
      match b with
      | ⟨0, _⟩ => have : (y 0).val < 16 := (y 0).isLt
                  show 0 ≤ (y 0).val ∧ (y 0).val < 0 + 16; omega
      | ⟨1, _⟩ => show 32 * d'.val ≤ (y 1).val ∧ (y 1).val < 32 * d'.val + 32; omega
      | ⟨2, _⟩ => have : (y 2).val < 64 := (y 2).isLt
                  show 0 ≤ (y 2).val ∧ (y 2).val < 0 + 64; omega
    · exact .inl ⟨d', hd', hy⟩

/-- The own block, loaded whole and stored. -/
theorem castWhole (X G : S16x32x64.Idx → Elt F .bf16) (hX : X = G) (inb) (x) :
    shapeCast S16x32x64 (View.ld X (Rect.unit (s := S16x32x64) ![0, 0, 0] S16x32x64.size inb)) shapeCasts_S16x32x64_S16x32x64 x = G x := by
  refine (congrFun (shapeCast_self _ _) x).trans ?_
  show X ((Rect.unit (s := S16x32x64) ![0, 0, 0] S16x32x64.size inb).emb x) = G x
  rw [show (Rect.unit (s := S16x32x64) ![0, 0, 0] S16x32x64.size inb).emb x = x from emb_whole3 inb x, hX]

/-- An arrival, stored. -/
theorem castSlot (X G : S16x32x64.Idx → Elt F .bf16) (hX : X = G) (x) :
    shapeCast S16x32x64 X shapeCasts_S16x32x64_S16x32x64 x = G x :=
  (congrFun (shapeCast_self _ _) x).trans (congrFun hX x)

end Cert.KProof
-- ==== Proof.Kits.lean ====
/- The bundles of a slot: what a copy needs, and what a wait for an arrival needs. -/
module
public import proofs.«01_k».proof.Proof.Sends
public import proofs.«01_k».proof.Proof.Slots
public import proofs.«01_k».proof.Proof.ContentsC
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- What the copy of stage `s`, slot `m`, consumes besides its source: the two duties it discharges. -/
abbrev sendTok (s m : Fin 4) (c : Dev nD) : sProp 𝕄 :=
  iprop(dutyTok ER (sendCell s m c) 0 0 ∗ dutyTok ER (recvCell s m (peer s m c)) 0 0)
/-- What the wait for the arrival of stage `s`, slot `m`, consumes. -/
abbrev recvTok (s m : Fin 4) (c : Dev nD) : sProp 𝕄 :=
  iprop(cred (tallyAt (recvCell s m c) () (crd s.val)) ∗ atPos ER (recvCell s m c) 0 ∅ 0)

/-- A weaker property of the contents. -/
theorem ownP_mono (c : Dev nD) (r : Ref sig .tc) (P P' : (r.ty.shape.Idx → Elt F r.ty.elt) → Prop) (h : ∀ X, P X → P' X) :
    (ownP c r P : sProp 𝕄) ⊢ ownP c r P' := by
  unfold ownP
  iintro ⟨%f, %hf, H⟩
  iexists f
  isplitr
  · ipureintro; exact h _ hf
  · iexact H

/-- After the last piece every entry is known. -/
theorem keyG_all {y : S68x32x64.Idx} (hy : Good68 y) : keyG 8 y := by
  have h : (y 0).val < 68 := (y 0).isLt
  exact ⟨hy, by omega⟩

/-- A view with some contents. -/
theorem ptsEx_of' {s : Shape} {e : EltTy} (M : Memref sig .tc .vmem s e) (c : Dev nD) (f : Buf (Elt F) (M.view.loc (c : Thread nD τ))) :
    (iprop(M.view.loc (c : Thread nD τ) ↦[M.view.set]{fullShare} f) : sProp 𝕄) ⊢ ptsEx M c := ptsEx_of M c f

/-- A quarter of an arrival of the second gather, stored. -/
theorem castQuarter (I : Dev nD → Ins F) (d : Dev nD) (n q : Fin 4) (f : (cc0_scratch10 : Ref sig .tc).ty.Contents (Elt F)) (hf : (eR n).view.read (Elt F) f = CG I d)
    (off : Fin 4 → ℕ) (hoff : off = ![n.val, 16 * q.val, 0, 0]) (inb) (V : S1x16x32x64.Idx → Elt F .bf16)
    (hV : V = View.readAt (Elt F) (Memref.whole cc0_scratch10).view (Rect.unit (s := S4x64x32x64) off S1x16x32x64.size inb).toLoadRect f) (x) :
    shapeCast S16x32x64 (shapeCast S16x32x64 V shapeCasts_S1x16x32x64_S16x32x64) shapeCasts_S16x32x64_S16x32x64 x = CB I (inCol d q) x := by
  subst hoff
  subst hV
  refine (congrFun (shapeCast_self _ _) x).trans ((congrArg _ (eq_ix3 x)).trans ((shapeCast_1abc_abc_apply _ _ _ _ _).trans ?_))
  have h0 : (x 0).val < 16 := (x 0).isLt
  have hq := q.isLt
  have hi : (Rect.unit (s := S4x64x32x64) ![n.val, 16 * q.val, 0, 0] S1x16x32x64.size inb).emb (ix4 0 (x 0) (x 1) (x 2))
      = ix4 n (⟨16 * q.val + (x 0).val, by omega⟩ : Fin 64) (x 1) (x 2) := by
    funext b; apply Fin.ext
    match b with
    | ⟨0, _⟩ => show n.val + 1 * 0 = n.val; omega
    | ⟨1, _⟩ => show 16 * q.val + 1 * (x 0).val = 16 * q.val + (x 0).val; omega
    | ⟨2, _⟩ => show 0 + 1 * (x 1).val = (x 1).val; omega
    | ⟨3, _⟩ => show 0 + 1 * (x 2).val = (x 2).val; omega
  have hr : (Memref.whole cc0_scratch10).view.read (Elt F) f (ix4 n (⟨16 * q.val + (x 0).val, by omega⟩ : Fin 64) (x 1) (x 2))
      = (eR n).view.read (Elt F) f (ix3 (⟨16 * q.val + (x 0).val, by omega⟩ : Fin 64) (x 1) (x 2)) := (read_eR n f (ix3 (⟨16 * q.val + (x 0).val, by omega⟩ : Fin 64) (x 1) (x 2))).symm
  refine (congrArg ((Memref.whole cc0_scratch10).view.read (Elt F) f) hi).trans (hr.trans ?_)
  rw [hf]
  have e1 : (16 * q.val + (x 0).val) / 16 = q.val := by omega
  have e2 : (16 * q.val + (x 0).val) % 16 = (x 0).val := by omega
  unfold CG
  have hd : (⟨4 * ((16 * q.val + (x 0).val) / 16) + d.val % 4, by show _ < 16; omega⟩ : Dev nD) = inCol d q := by
    apply Fin.ext
    show 4 * ((16 * q.val + (x 0).val) / 16) + d.val % 4 = 4 * q.val + d.val % 4
    rw [e1]
  refine (congrArg (fun z => CB I z _) hd).trans (congrArg (CB I (inCol d q)) ?_)
  funext b; apply Fin.ext
  match b with
  | ⟨0, _⟩ => exact e2
  | ⟨1, _⟩ => rfl
  | ⟨2, _⟩ => rfl

/-- Shares of one points-to: four parts, -/
theorem splitQ {ℓ : Loc nD τ sig} {S : Finset (Idx ℓ)} {f : Buf (Elt F) ℓ} :
    (iprop(ℓ ↦[S]{fullShare} f) : sProp 𝕄) ⊢ iprop((ℓ ↦[S]{qs 0} f) ∗ (ℓ ↦[S]{qs 1} f) ∗ (ℓ ↦[S]{qs 2} f) ∗ (ℓ ↦[S]{qs 3} f)) := by
  have h := Transfers.pointsTo_toks_split (Name := ℕ) (U := UU) (Ix := Unit) (Lvl := ℕ) (ℓ := ℓ) (S := S) (f := f) fullShare 3
  rw [Ring.bigSep_fin3] at h
  exact h
/-- joined back. -/
theorem joinQ {ℓ : Loc nD τ sig} {S : Finset (Idx ℓ)} {f : Buf (Elt F) ℓ} :
    (iprop((ℓ ↦[S]{qs 0} f) ∗ (ℓ ↦[S]{qs 1} f) ∗ (ℓ ↦[S]{qs 2} f) ∗ (ℓ ↦[S]{qs 3} f)) : sProp 𝕄) ⊢ iprop(ℓ ↦[S]{fullShare} f) := by
  have h := Transfers.pointsTo_toks_join (Name := ℕ) (U := UU) (Ix := Unit) (Lvl := ℕ) (ℓ := ℓ) (S := S) (f := f) fullShare 3
  rw [Ring.bigSep_fin3] at h
  exact h

/-- The sending slots of the third phase, apart, -/
theorem split_dS (c : Dev nD) (f : (cc0_scratch7 : Ref sig .tc).ty.Contents (Elt F)) :
    own c cc0_scratch7 f ⊢ iprop(pts dS c (qs 0) f ∗ pts dS c (qs 1) f ∗ pts dS c (qs 2) f ∗ pts dS c (qs 3) f) := by
  unfold pts
  rw [show (dS).view.set = Finset.univ from View.set_whole _]
  exact splitQ
/-- and together. -/
theorem join_dS (c : Dev nD) (f : (cc0_scratch7 : Ref sig .tc).ty.Contents (Elt F)) :
    iprop(pts dS c (qs 0) f ∗ pts dS c (qs 1) f ∗ pts dS c (qs 2) f ∗ pts dS c (qs 3) f) ⊢ own c cc0_scratch7 f := by
  unfold pts
  rw [show (dS).view.set = Finset.univ from View.set_whole _]
  exact joinQ
/-- The sending slots of the fourth phase, apart, -/
theorem split_eS (c : Dev nD) (f : (cc0_scratch9 : Ref sig .tc).ty.Contents (Elt F)) :
    own c cc0_scratch9 f ⊢ iprop(pts eS c (qs 0) f ∗ pts eS c (qs 1) f ∗ pts eS c (qs 2) f ∗ pts eS c (qs 3) f) := by
  unfold pts
  rw [show (eS).view.set = Finset.univ from View.set_whole _]
  exact splitQ
/-- and together. -/
theorem join_eS (c : Dev nD) (f : (cc0_scratch9 : Ref sig .tc).ty.Contents (Elt F)) :
    iprop(pts eS c (qs 0) f ∗ pts eS c (qs 1) f ∗ pts eS c (qs 2) f ∗ pts eS c (qs 3) f) ⊢ own c cc0_scratch9 f := by
  unfold pts
  rw [show (eS).view.set = Finset.univ from View.set_whole _]
  exact joinQ
/-- A share of the first gather's source as the loads take it. -/
theorem load_dS (c : Dev nD) (q : PosShare TreeShare) (f : (cc0_scratch7 : Ref sig .tc).ty.Contents (Elt F)) :
    (pts dS c q f : sProp 𝕄) = iprop((Memref.whole cc0_scratch7).view.loc (c : Thread nD τ) ↦{q} f) := by
  unfold pts
  rw [show (dS).view.set = Finset.univ from View.set_whole _]
/-- A buffer whose contents are known is at those contents. -/
theorem ownP_eq (c : Dev nD) (r : Ref sig .tc) (X : r.ty.Contents (Elt F)) :
    (ownP c r (fun Y => Y = X) : sProp 𝕄) ⊢ own c r X := by
  unfold ownP
  iintro ⟨%f, %hf, H⟩
  have e : f = X := hf
  subst e
  iexact H

/-- The row of the mesh a device stands in. -/
def rowIx (d : Dev nD) : Fin 4 := ⟨d.val / 4, by have h : d.val < 16 := d.isLt; show _ < 4; omega⟩

/-- The device of a row in a column, -/
theorem inCol_colPeer (c : Dev nD) (m : Fin 4) : inCol c (rowIx (colPeer m c)) = colPeer m c := by revert c m; decide +kernel
/-- and the device itself. -/
theorem inCol_self (c : Dev nD) : inCol c (rowIx c) = c := by revert c; decide +kernel
/-- Every row is one of the four, -/
theorem rows_all (c : Dev nD) (r : Fin 4) : r ∈ [rowIx (colPeer (opp 3) c), rowIx (colPeer (opp 2) c), rowIx (colPeer (opp 1) c), rowIx c] := by revert c r; decide +kernel

/-- `stepE` with the device named. -/
theorem stepE' {sig : RefSig} {κ : Kind} {sp : Space} (I : Dev nD → Ins F) (c : Dev nD) (v : View sig κ sp S64x32x64 .bf16) (f : v.ty.Contents (Elt F))
    (L : List (View.Piece (Elt F) S64x32x64 .bf16)) (R : List (Fin 4)) (d : Dev nD) (hd : inCol c (rowIx d) = d) (off : Fin 3 → ℕ) (hoff : off = ![16 * (d.val / 4), 0, 0]) (inb)
    (w : S16x32x64.Idx → Elt F .bf16) (hw : ∀ x, w x = CB I d x)
    (h : ∀ y, keyE R y → v.read (Elt F) (v.writes (Elt F) f L) y = CG I c y) :
    ∀ y, keyE (rowIx d :: R) y → v.read (Elt F) (v.writes (Elt F) f (⟨Rect.unit (s := S64x32x64) off S16x32x64.size inb, w⟩ :: L)) y = CG I c y :=
  stepE I c v f L R (rowIx d) off hoff inb w (by rw [hd]; exact hw) h

/-- so every entry of the column is known. -/
theorem keyE_all (c : Dev nD) (y : S64x32x64.Idx) : keyE [rowIx (colPeer (opp 3) c), rowIx (colPeer (opp 2) c), rowIx (colPeer (opp 1) c), rowIx c] y := by
  have h : (y 0).val < 64 := (y 0).isLt
  exact ⟨⟨(y 0).val / 16, by omega⟩, rows_all c _, rfl⟩

/-- The devices of `c`'s column, in the order in which their blocks are stored. -/
def colDevs (c : Dev nD) : List (Dev nD) := [colPeer (opp 3) c, colPeer (opp 2) c, colPeer (opp 1) c, c]

/-- Every device, in the order in which the blocks are stored. -/
def allDevs (c : Dev nD) : List (Dev nD) := inCol (rowPeer (opp 3) c) 3 :: inCol (rowPeer (opp 3) c) 2 :: inCol (rowPeer (opp 3) c) 1 :: inCol (rowPeer (opp 3) c) 0 :: inCol (rowPeer (opp 2) c) 3 :: inCol (rowPeer (opp 2) c) 2 :: inCol (rowPeer (opp 2) c) 1 :: inCol (rowPeer (opp 2) c) 0 :: inCol (rowPeer (opp 1) c) 3 :: inCol (rowPeer (opp 1) c) 2 :: inCol (rowPeer (opp 1) c) 1 :: inCol (rowPeer (opp 1) c) 0 :: colDevs c
/-- Every device is one of the sixteen, -/
theorem devs_all (c d : Dev nD) : d ∈ allDevs c := by revert c d; decide +kernel
/-- so every entry of the context is known. -/
theorem keyF_all (c : Dev nD) (y : S16x512x64.Idx) : keyF (allDevs c) y := by
  have h : (y 1).val < 512 := (y 1).isLt
  exact ⟨⟨(y 1).val / 32, by show _ < 16; omega⟩, devs_all c _, rfl⟩

/-- A fact on a buffer's contents, kept beside the buffer. -/
theorem own_fact (c : Dev nD) (r : Ref sig .tc) (P : (r.ty.shape.Idx → Elt F r.ty.elt) → Prop) (X : r.ty.Contents (Elt F)) (hP : ∀ Y, P Y → Y = X) (f : r.ty.Contents (Elt F)) :
    own c r f ⊢ iprop(⌜P ((Memref.whole r).view.read (Elt F) f)⌝ -∗ (⌜f = X⌝ ∗ own c r f)) := by
  iintro H %h
  isplitr
  · ipureintro; exact hP _ h
  · iexact H

/-- The two stores of the output. -/
theorem out_pieces {sig : RefSig} {κ : Kind} {sp : Space} (I : Dev nD → Ins F) (c : Dev nD) (v : View sig κ sp S2x512x768 .f32) (f : v.ty.Contents (Elt F))
    (L : List (View.Piece (Elt F) S2x512x768 .f32)) (X : Vec F S16x512x64 .bf16) (hX : X = CF I) (w0 w1 : S1x512x768.Idx → Elt F .f32)
    (h0 : w0 = out0 (I c).wo X) (h1 : w1 = out1 (I c).wo X) (inb0) (inb1) (y) :
    v.read (Elt F) (v.writes (Elt F) f (⟨Rect.unit (s := S2x512x768) ![1, 0, 0] S1x512x768.size inb1, w1⟩ :: ⟨Rect.unit (s := S2x512x768) ![0, 0, 0] S1x512x768.size inb0, w0⟩ :: L)) y
      = OUT I c y := by
  subst hX
  have hy : (y 0).val < 2 := (y 0).isLt
  refine put v f _ (OUT I c) (P := fun y : S2x512x768.Idx => (y 0).val = 0)
    (put v f L (OUT I c) (P := fun _ => False) (fun y h => h.elim) (Rect.unit (s := S2x512x768) ![0, 0, 0] S1x512x768.size inb0) w0 ?_ ?_)
    (Rect.unit (s := S2x512x768) ![1, 0, 0] S1x512x768.size inb1) w1 (P' := fun _ => True) ?_ ?_ y trivial
  · intro (x : S1x512x768.Idx)
    have hx0 : (x 0).val < 1 := (x 0).isLt
    rw [h0]
    unfold OUT
    refine Eq.trans ?_ (if_pos (show 0 + 1 * (x 0).val = 0 by omega)).symm
    refine congrArg (out0 (I c).wo (CF I)) ?_
    funext b; apply Fin.ext
    match b with
    | ⟨0, _⟩ => show (x 0).val = 0; omega
    | ⟨1, _⟩ => show (x 1).val = 0 + 1 * (x 1).val; omega
    | ⟨2, _⟩ => show (x 2).val = 0 + 1 * (x 2).val; omega
  · intro y hy
    right; rw [Rect.mem_set_unit]; intro b
    match b with
    | ⟨0, _⟩ => show 0 ≤ (y 0).val ∧ (y 0).val < 0 + 1; omega
    | ⟨1, _⟩ => have : (y 1).val < 512 := (y 1).isLt
                show 0 ≤ (y 1).val ∧ (y 1).val < 0 + 512; omega
    | ⟨2, _⟩ => have : (y 2).val < 768 := (y 2).isLt
                show 0 ≤ (y 2).val ∧ (y 2).val < 0 + 768; omega
  · intro (x : S1x512x768.Idx)
    have hx0 : (x 0).val < 1 := (x 0).isLt
    rw [h1]
    unfold OUT
    refine Eq.trans ?_ (if_neg (show ¬ (1 + 1 * (x 0).val = 0) by omega)).symm
    refine congrArg (out1 (I c).wo (CF I)) ?_
    funext b; apply Fin.ext
    match b with
    | ⟨0, _⟩ => show (x 0).val = 0; omega
    | ⟨1, _⟩ => show (x 1).val = 0 + 1 * (x 1).val; omega
    | ⟨2, _⟩ => show (x 2).val = 0 + 1 * (x 2).val; omega
  · intro y _
    have hy : (y 0).val < 2 := (y 0).isLt
    by_cases h : (y 0).val = 0
    · exact .inl h
    right; rw [Rect.mem_set_unit]; intro b
    match b with
    | ⟨0, _⟩ => show 1 ≤ (y 0).val ∧ (y 0).val < 1 + 1; omega
    | ⟨1, _⟩ => have : (y 1).val < 512 := (y 1).isLt
                show 0 ≤ (y 1).val ∧ (y 1).val < 0 + 512; omega
    | ⟨2, _⟩ => have : (y 2).val < 768 := (y 2).isLt
                show 0 ≤ (y 2).val ∧ (y 2).val < 0 + 768; omega

/-- A row of the context, loaded. -/
theorem load_row (f : (cc0_scratch11 : Ref sig .tc).ty.Contents (Elt F)) (g : Fin 16) (inb) :
    View.readAt (Elt F) (Memref.whole cc0_scratch11).view (Rect.unit (s := S16x512x64) ![g.val, 0, 0] S1x512x64.size inb).toLoadRect f = ctxRow f g := rfl

/-- The two stores of the output, from the loads of the sixteen pairs. -/
theorem out_pieces' {sig : RefSig} {κ : Kind} {sp : Space} (I : Dev nD → Ins F) (c : Dev nD) (v : View sig κ sp S2x512x768 .f32) (f : v.ty.Contents (Elt F))
    (L : List (View.Piece (Elt F) S2x512x768 .f32)) (X : Vec F S16x512x64 .bf16) (hX : X = CF I) (x0 x1 x2 x3 x4 x5 x6 x7 x8 x9 x10 x11 x12 x13 x14 x15 : Vec F S1x512x64 .bf16)
    (h0 : x0 = ctxRow X 0) (h1 : x1 = ctxRow X 1) (h2 : x2 = ctxRow X 2) (h3 : x3 = ctxRow X 3) (h4 : x4 = ctxRow X 4) (h5 : x5 = ctxRow X 5) (h6 : x6 = ctxRow X 6) (h7 : x7 = ctxRow X 7) (h8 : x8 = ctxRow X 8) (h9 : x9 = ctxRow X 9) (h10 : x10 = ctxRow X 10) (h11 : x11 = ctxRow X 11) (h12 : x12 = ctxRow X 12) (h13 : x13 = ctxRow X 13) (h14 : x14 = ctxRow X 14) (h15 : x15 = ctxRow X 15) (W : Vec F S512x768 .f32) (hW : W = woAll (I c).wo) (inb0) (inb1) (y) :
    v.read (Elt F) (v.writes (Elt F) f (⟨Rect.unit (s := S2x512x768) ![1, 0, 0] S1x512x768.size inb1,
        k0_pay174 (k0_pay172 (k0_pay167 W) (k0_pay171 (k0_pay167 W) x8) x9 x10 x11 x12 x13 x14) (k0_pay173 (k0_pay167 W) x15)⟩
      :: ⟨Rect.unit (s := S2x512x768) ![0, 0, 0] S1x512x768.size inb0, k0_pay170 (k0_pay167 W) (k0_pay168 W x0 x1 x2) (k0_pay169 x3) x4 x5 x6 x7⟩ :: L)) y
      = OUT I c y := by
  subst h0 h1 h2 h3 h4 h5 h6 h7 h8 h9 h10 h11 h12 h13 h14 h15 hW
  exact out_pieces I c v f L X hX _ _ rfl rfl inb0 inb1 y

/-- What the wait for a copy's completion consumes. -/
abbrev sentTok (s m : Fin 4) (c : Dev nD) : sProp 𝕄 :=
  iprop(cred (tallyAt (sendCell s m c) () (crd s.val)) ∗ atPos ER (sendCell s m c) 0 ∅ 0)

/-- A sending cell's payload in the first phase, -/
theorem sendPay_a (I : Dev nD → Ins F) (m : Fin 4) (c : Dev nD) : sendPay I ((0 : Fin 4) : ℕ) m c = ptsEx (F := F) (aS m) c := rfl
/-- the second, -/
theorem sendPay_b (I : Dev nD → Ins F) (m : Fin 4) (c : Dev nD) : sendPay I ((1 : Fin 4) : ℕ) m c = ptsEx (F := F) (bS m) c := rfl
/-- the third, -/
theorem sendPay_d (I : Dev nD → Ins F) (m : Fin 4) (c : Dev nD) : sendPay I ((2 : Fin 4) : ℕ) m c = pts (F := F) dS c (qs m) (CB I c) := rfl
/-- and the fourth. -/
theorem sendPay_e (I : Dev nD → Ins F) (m : Fin 4) (c : Dev nD) : sendPay I ((3 : Fin 4) : ℕ) m c = pts (F := F) eS c (qs m) (CG I c) := rfl

/-- The place of a row of the context, by the device that it comes from. -/
theorem off11_dev (c : Dev nD) (q m : Fin 4) (hm : m ≠ 0) :
    k0_off11 c (BitVec.ofNat 32 (4 * q.val)) (BitVec.ofNat 32 m.val) = ![0, 32 * (inCol (rowPeer (opp m) c) q).val, 0] := off11_eq c q m hm

/-- Storing a quarter of an arrival of the second gather. -/
theorem stepQ {sig' : RefSig} {κ : Kind} {sp : Space} (I : Dev nD → Ins F) (c : Dev nD) (v : View sig' κ sp S16x512x64 .bf16) (f : v.ty.Contents (Elt F))
    (L : List (View.Piece (Elt F) S16x512x64 .bf16)) (D : List (Dev nD)) (n q : Fin 4) (hn : n ≠ 0)
    (g : (cc0_scratch10 : Ref sig .tc).ty.Contents (Elt F)) (hg : (eR n).view.read (Elt F) g = CG I (rowPeer (opp n) c))
    (a b : BitVec 32) (ha : a = BitVec.ofNat 32 (4 * q.val)) (hb : b = BitVec.ofNat 32 n.val) (inb)
    (off : Fin 4 → ℕ) (hoff : off = ![n.val, 16 * q.val, 0, 0]) (inb')
    (h : ∀ y, keyF D y → v.read (Elt F) (v.writes (Elt F) f L) y = CF I y) :
    ∀ y, keyF (inCol (rowPeer (opp n) c) q :: D) y → v.read (Elt F) (v.writes (Elt F) f
      (⟨Rect.unit (s := S16x512x64) (k0_off11 c a b) S16x32x64.size inb,
        shapeCast S16x32x64 (shapeCast S16x32x64 (View.readAt (Elt F) (Memref.whole cc0_scratch10).view (Rect.unit (s := S4x64x32x64) off S1x16x32x64.size inb').toLoadRect g)
          shapeCasts_S1x16x32x64_S16x32x64) shapeCasts_S16x32x64_S16x32x64⟩ :: L)) y = CF I y := by
  subst ha hb
  exact stepF I v f L D _ _ (off11_dev c q n hn) inb _ (castQuarter I _ n q g hg off hoff inb' _ rfl) h

end Cert.KProof
-- ==== Proof.Run0.lean ====
/- The signals. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The signals to the six peers hand over the landing slots. -/
theorem run0 (c : Dev nD) (l : List (GSem nD τ sig × ℕ)) {α : Type} {Q : α → sProp 𝕄}
    (k : Dev nD → BitVec 32 → BitVec 32 → BitVec 32 → Sems sig S_ → IVec S512x512 32 → IVec S512x512 32 → IVec S512x512 1 → IVec S512x512 32 → Prog (TpuEff nD τ sig (Elt F) Λ₀ .tc) α) :
    iprop(recs I K ∗ owesE c ((barCell (sigTo 0 c), 1) :: (barCell (sigTo 1 c), 1) :: (barCell (sigTo 2 c), 1) :: (barCell (sigTo 3 c), 1)
            :: (barCell (sigTo 4 c), 1) :: (barCell (sigTo 5 c), 1) :: l)
        ∗ dutyTok ER (barCell (sigTo 0 c)) 0 0 ∗ dutyTok ER (barCell (sigTo 1 c)) 0 1 ∗ dutyTok ER (barCell (sigTo 2 c)) 0 2 ∗ dutyTok ER (barCell (sigTo 3 c)) 0 3 ∗ dutyTok ER (barCell (sigTo 4 c)) 0 4 ∗ dutyTok ER (barCell (sigTo 5 c)) 0 5
        ∗ ptsEx (F := F) (aR 3) c ∗ ptsEx (F := F) (eR 3) c ∗ ptsEx (F := F) (bR 3) c ∗ ptsEx (F := F) (dR 3) c ∗ ptsEx (F := F) (aR 2) c ∗ ptsEx (F := F) (eR 2) c ∗ ptsEx (F := F) (bR 2) c ∗ ptsEx (F := F) (dR 2) c ∗ ptsEx (F := F) (aR 1) c ∗ ptsEx (F := F) (eR 1) c ∗ ptsEx (F := F) (bR 1) c ∗ ptsEx (F := F) (dR 1) c
        ∗ (owesE c l -∗ ∀ v2 v19 v29, wp frame (wpE (defs₀ (F := F)) 𝒱₀ (c : Thread nD τ) none) Set.univ
            (k c v2 v19 v29 (SemArray.scalar (sig.barrier 0 rfl)) (iota .tc S512x512 32 [1] iota_S512x512_d1_w32) k0_pay1 k0_pay2 k0_pay3) Q))
      ⊢ wp frame (wpE (defs₀ (F := F)) 𝒱₀ (c : Thread nD τ) none) Set.univ (sec0 k) Q := by
  unfold sec0
  iintro ⟨#HR, HO, Ht0, Ht1, Ht2, Ht3, Ht4, Ht5, Ha0, Hb0, Ha1, Hb1, Ha2, Hb2, Ha3, Hb3, Ha4, Hb4, Ha5, Hb5, Hk⟩
  sl_exec_parts
  ihave Hp := (bar0' c) $$ [Ha0 Hb0]
  · isplitl [Ha0] <;> iassumption
  iapply (step_signal I K c _ 0 (dev1_eq c) _ rfl _) $$ [HO Ht0 Hp]
  · isplitr; · iexact HR
    isplitl [HO]; · iexact HO
    isplitl [Ht0] <;> iassumption
  iintro HO
  sl_exec_parts
  ihave Hp := (bar1' c) $$ [Ha1 Hb1]
  · isplitl [Ha1] <;> iassumption
  iapply (step_signal I K c _ 1 (dev2_eq c) _ rfl _) $$ [HO Ht1 Hp]
  · isplitr; · iexact HR
    isplitl [HO]; · iexact HO
    isplitl [Ht1] <;> iassumption
  iintro HO
  sl_exec_parts
  ihave Hp := (bar2' c) $$ [Ha2 Hb2]
  · isplitl [Ha2] <;> iassumption
  iapply (step_signal I K c _ 2 (dev3_eq c) _ rfl _) $$ [HO Ht2 Hp]
  · isplitr; · iexact HR
    isplitl [HO]; · iexact HO
    isplitl [Ht2] <;> iassumption
  iintro HO
  sl_exec_parts
  ihave Hp := (bar3' c) $$ [Ha3 Hb3]
  · isplitl [Ha3] <;> iassumption
  iapply (step_signal I K c _ 3 (dev4_eq c) _ rfl _) $$ [HO Ht3 Hp]
  · isplitr; · iexact HR
    isplitl [HO]; · iexact HO
    isplitl [Ht3] <;> iassumption
  iintro HO
  sl_exec_parts
  ihave Hp := (bar4' c) $$ [Ha4 Hb4]
  · isplitl [Ha4] <;> iassumption
  iapply (step_signal I K c _ 4 (dev5_eq c) _ rfl _) $$ [HO Ht4 Hp]
  · isplitr; · iexact HR
    isplitl [HO]; · iexact HO
    isplitl [Ht4] <;> iassumption
  iintro HO
  sl_exec_parts
  ihave Hp := (bar5' c) $$ [Ha5 Hb5]
  · isplitl [Ha5] <;> iassumption
  iapply (step_signal I K c _ 5 (dev6_eq c) _ rfl _) $$ [HO Ht5 Hp]
  · isplitr; · iexact HR
    isplitl [HO]; · iexact HO
    isplitl [Ht5] <;> iassumption
  iintro HO
  sl_exec_parts
  iapply Hk $$ HO %_ %_ %_
end Cert.KProof
-- ==== Proof.Run1.lean ====
/- The run of the heads: the weights of each (batch, head) pair and its two partial sums. -/
module
public import proofs.«01_k».proof.Proof.Own
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- The heads 0 to 14: their weighted sums and weight sums land in the two accumulators. -/
theorem run1 (I : Ins F) (c : Dev nD) (fo : (cc0_scratch0 : Ref sig .tc).ty.Contents (Elt F)) (fs : (cc0_scratch1 : Ref sig .tc).ty.Contents (Elt F)) {α : Type} {Q : α → sProp 𝕄}
    (k : IVec S512x512 1 → FVec F S512x512 .bf16 → FVec F S512x64 .bf16 → FVec F S512x64 .bf16 → Prog (TpuEff nD τ sig (Elt F) Λ₀ .tc) α) :
    iprop(own c cc0_stg0_0 I.x ∗ own c cc0_stg1_0 I.wq ∗ own c cc0_stg2_0 I.k ∗ own c cc0_stg3_0 I.v ∗ own c cc0_scratch0 fo ∗ own c cc0_scratch1 fs
        ∗ (ownP c cc0_scratch0 (fun X => ∀ y : S16x512x64.Idx, (y 0).val < 15 → X y = OA I y) -∗ ownP c cc0_scratch1 (fun X => ∀ y : S512x16.Idx, (y 1).val < 15 → X y = SA I y) -∗
            own c cc0_stg0_0 I.x -∗ own c cc0_stg1_0 I.wq -∗ own c cc0_stg2_0 I.k -∗ own c cc0_stg3_0 I.v -∗
            wp frame (wpE (defs₀ (F := F)) 𝒱₀ (c : Thread nD τ) none) Set.univ (k maskV (vB I 1) (headCols 7 (qB I 1)) (headCols 7 (kB I 1))) Q))
      ⊢ wp frame (wpE (defs₀ (F := F)) 𝒱₀ (c : Thread nD τ) none) Set.univ
          (sec1 (iota .tc S512x512 32 [1] iota_S512x512_d1_w32) k0_pay1 k0_pay2 k0_pay3 k) Q := by
  unfold sec1
  iintro ⟨H0, H1, H2, H3, Ho, Hs, Hk⟩
  sl_exec_parts
  ihave Ho := (ownP_of c cc0_scratch0 (fun X => ∀ y : S16x512x64.Idx, (y 0).val < 15 → X y = OA I y) _) $$ Ho %(stepO I _ _ _ 14 _ _ rfl 15 rfl (stepO I _ _ _ 13 _ _ rfl 14 rfl (stepO I _ _ _ 12 _ _ rfl 13 rfl (stepO I _ _ _ 11 _ _ rfl 12 rfl (stepO I _ _ _ 10 _ _ rfl 11 rfl (stepO I _ _ _ 9 _ _ rfl 10 rfl (stepO I _ _ _ 8 _ _ rfl 9 rfl (stepO I _ _ _ 7 _ _ rfl 8 rfl (stepO I _ _ _ 6 _ _ rfl 7 rfl (stepO I _ _ _ 5 _ _ rfl 6 rfl (stepO I _ _ _ 4 _ _ rfl 5 rfl (stepO I _ _ _ 3 _ _ rfl 4 rfl (stepO I _ _ _ 2 _ _ rfl 3 rfl (stepO I _ _ _ 1 _ _ rfl 2 rfl (stepO I _ _ _ 0 _ _ rfl 1 rfl (fun y h => absurd h (Nat.not_lt_zero _)))))))))))))))))
  ihave Hs := (ownP_of c cc0_scratch1 (fun X => ∀ y : S512x16.Idx, (y 1).val < 15 → X y = SA I y) _) $$ Hs %(stepS I _ _ _ 14 _ _ rfl 15 rfl (stepS I _ _ _ 13 _ _ rfl 14 rfl (stepS I _ _ _ 12 _ _ rfl 13 rfl (stepS I _ _ _ 11 _ _ rfl 12 rfl (stepS I _ _ _ 10 _ _ rfl 11 rfl (stepS I _ _ _ 9 _ _ rfl 10 rfl (stepS I _ _ _ 8 _ _ rfl 9 rfl (stepS I _ _ _ 7 _ _ rfl 8 rfl (stepS I _ _ _ 6 _ _ rfl 7 rfl (stepS I _ _ _ 5 _ _ rfl 6 rfl (stepS I _ _ _ 4 _ _ rfl 5 rfl (stepS I _ _ _ 3 _ _ rfl 4 rfl (stepS I _ _ _ 2 _ _ rfl 3 rfl (stepS I _ _ _ 1 _ _ rfl 2 rfl (stepS I _ _ _ 0 _ _ rfl 1 rfl (fun y h => absurd h (Nat.not_lt_zero _)))))))))))))))))
  iapply Hk $$ Ho Hs H0 H1 H2 H3
end Cert.KProof
-- ==== Proof.Run2.lean ====
/- The run of the staging: the last head, the packed blocks for the other columns, and the barrier. -/
module
public import proofs.«01_k».proof.Proof.Slots
public import proofs.«01_k».proof.Proof.ContentsA
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- A slot of the row reduction's sources at the contents of the whole. -/
theorem slotA (I : Dev nD → Ins F) (c : Dev nD) (m : Fin 4) (hm : m ≠ 0) (f : (cc0_scratch2 : Ref sig .tc).ty.Contents (Elt F)) :
    (pts (aS m) c fullShare f : sProp 𝕄) ⊢ iprop(⌜∀ y, keyA 24 y → (Memref.whole cc0_scratch2).view.read (Elt F) f y = SLA I c y⌝ -∗ ptsP (aS m) c (fun X => ∀ i, Good68 i → X i = AS I c m i)) := by
  unfold ptsP
  iintro H %h
  iexists f
  isplitr
  · ipureintro
    intro i hi
    have h0 : (i 0).val < 68 := (i 0).isLt
    have hm0 : 1 ≤ m.val := Nat.one_le_iff_ne_zero.mpr fun e => hm (Fin.ext e)
    have hm4 := m.isLt
    rw [read_aS, h (ix4 m (i 0) (i 1) (i 2)) ⟨hm0, hi, show 8 * (m.val - 1) + 2 * ((i 0).val / 17) + (i 0).val % 17 / 16 < 24 by omega⟩]
    exact (congrArg (AS I c m) (eq_ix3 i)).symm
  · iexact H

variable (I : Dev nD → Ins F) (K : Dev nD × Fin 33 → ℕ)

/-- The staging: every slot of the row reduction holds the packed block of its column, and the barrier hands over the
    peers' landing slots. -/
theorem run2 (c : Dev nD) (l : List (GSem nD τ sig × ℕ)) (hl : ∀ p ∈ l, p.1.1.2 = .tc ∧ 1 < slv p.1.2)
    {α : Type} {Q : α → sProp 𝕄} (v29 v19 : BitVec 32) (k : BitVec 32 → Prog (TpuEff nD τ sig (Elt F) Λ₀ .tc) α) :
    iprop(recs I K ∗ ownP c cc0_scratch0 (fun X => ∀ y : S16x512x64.Idx, (y 0).val < 15 → X y = OA (I c) y)
        ∗ ownP c cc0_scratch1 (fun X => ∀ y : S512x16.Idx, (y 1).val < 15 → X y = SA (I c) y) ∗ (∃ fa, own (F := F) c cc0_scratch2 fa)
        ∗ cred (tallyAt (barCell c) () 6) ∗ owesE c l ∗ atPos ER (barCell c) 0 ∅ 0
        ∗ (ownP c cc0_scratch0 (fun X => ∀ y, X y = OA (I c) y) -∗ ownP c cc0_scratch1 (fun X => ∀ y, X y = SA (I c) y) -∗ ptsEx (F := F) (aS 0) c -∗ ptsP (aS 1) c (fun X => ∀ i, Good68 i → X i = AS I c 1 i) -∗ ptsP (aS 2) c (fun X => ∀ i, Good68 i → X i = AS I c 2 i) -∗ ptsP (aS 3) c (fun X => ∀ i, Good68 i → X i = AS I c 3 i) -∗
            owesE c l -∗ semVal (barCell c) 0 -∗ barPay (F := F) 0 c -∗ barPay (F := F) 1 c -∗ barPay (F := F) 2 c -∗ barPay (F := F) 3 c -∗ barPay (F := F) 4 c -∗ barPay (F := F) 5 c -∗
            ∀ v, wp frame (wpE (defs₀ (F := F)) 𝒱₀ (c : Thread nD τ) none) Set.univ (k v) Q))
      ⊢ wp frame (wpE (defs₀ (F := F)) 𝒱₀ (c : Thread nD τ) none) Set.univ
          (sec2 c v29 maskV (vB (I c) 1) (headCols 7 (qB (I c) 1)) (headCols 7 (kB (I c) 1)) v19 (SemArray.scalar (sig.barrier 0 rfl)) k) Q := by
  unfold sec2
  iintro ⟨#HR, Ho, Hs, ⟨%fa, Ha⟩, Hc, HO, Hat, Hk⟩
  ihave Ho := (ownP_out c cc0_scratch0 _) $$ Ho
  icases Ho with ⟨%fo, %ho, Ho⟩
  ihave Hs := (ownP_out c cc0_scratch1 _) $$ Hs
  icases Hs with ⟨%fs, %hs, Hs⟩
  sl_exec_parts
  have hO := stepO (I c) (Memref.whole cc0_scratch0).view fo [] 15 (inbC 15) _ rfl 16 rfl ho
  have hS := stepS (I c) (Memref.whole cc0_scratch1).view fs [] 15 inb_S512x16_S512x1_0_15 _ rfl 16 rfl hs
  replace hO := fun y : S16x512x64.Idx => hO y (y 0).isLt
  replace hS := fun y : S512x16.Idx => hS y (y 1).isLt
  ihave Ha := (split_aS c _) $$ Ha
  icases Ha with ⟨Ha0, Ha1, Ha2, Ha3⟩
  iapply (step_barrier I K c _ rfl l hl) $$ [Hc HO Hat]
  · isplitr; · iexact HR
    isplitl [Hc]; · iexact Hc
    isplitl [HO]; · iexact HO
    iexact Hat
  iintro ⟨HO, Hz, Hp0, Hp1, Hp2, Hp3, Hp4, Hp5⟩
  sl_exec_parts
  ihave Ha1 := (slotA I c 1 (by decide) _) $$ Ha1 %(stepAS I c _ _ _ 3 3 (by decide) _ hS 23 67 rfl rfl _ _ _ rfl 24 rfl (stepAO I c _ _ _ 3 3 (by decide) _ hO 22 51 rfl rfl _ _ _ rfl 23 rfl (stepAS I c _ _ _ 2 3 (by decide) _ hS 21 50 rfl rfl _ _ _ rfl 22 rfl (stepAO I c _ _ _ 2 3 (by decide) _ hO 20 34 rfl rfl _ _ _ rfl 21 rfl (stepAS I c _ _ _ 1 3 (by decide) _ hS 19 33 rfl rfl _ _ _ rfl 20 rfl (stepAO I c _ _ _ 1 3 (by decide) _ hO 18 17 rfl rfl _ _ _ rfl 19 rfl (stepAS I c _ _ _ 0 3 (by decide) _ hS 17 16 rfl rfl _ _ _ rfl 18 rfl (stepAO I c _ _ _ 0 3 (by decide) _ hO 16 0 rfl rfl _ _ _ rfl 17 rfl (stepAS I c _ _ _ 3 2 (by decide) _ hS 15 67 rfl rfl _ _ _ rfl 16 rfl (stepAO I c _ _ _ 3 2 (by decide) _ hO 14 51 rfl rfl _ _ _ rfl 15 rfl (stepAS I c _ _ _ 2 2 (by decide) _ hS 13 50 rfl rfl _ _ _ rfl 14 rfl (stepAO I c _ _ _ 2 2 (by decide) _ hO 12 34 rfl rfl _ _ _ rfl 13 rfl (stepAS I c _ _ _ 1 2 (by decide) _ hS 11 33 rfl rfl _ _ _ rfl 12 rfl (stepAO I c _ _ _ 1 2 (by decide) _ hO 10 17 rfl rfl _ _ _ rfl 11 rfl (stepAS I c _ _ _ 0 2 (by decide) _ hS 9 16 rfl rfl _ _ _ rfl 10 rfl (stepAO I c _ _ _ 0 2 (by decide) _ hO 8 0 rfl rfl _ _ _ rfl 9 rfl (stepAS I c _ _ _ 3 1 (by decide) _ hS 7 67 rfl rfl _ _ _ rfl 8 rfl (stepAO I c _ _ _ 3 1 (by decide) _ hO 6 51 rfl rfl _ _ _ rfl 7 rfl (stepAS I c _ _ _ 2 1 (by decide) _ hS 5 50 rfl rfl _ _ _ rfl 6 rfl (stepAO I c _ _ _ 2 1 (by decide) _ hO 4 34 rfl rfl _ _ _ rfl 5 rfl (stepAS I c _ _ _ 1 1 (by decide) _ hS 3 33 rfl rfl _ _ _ rfl 4 rfl (stepAO I c _ _ _ 1 1 (by decide) _ hO 2 17 rfl rfl _ _ _ rfl 3 rfl (stepAS I c _ _ _ 0 1 (by decide) _ hS 1 16 rfl rfl _ _ _ rfl 2 rfl (stepAO I c _ _ _ 0 1 (by decide) _ hO 0 0 rfl rfl _ _ _ rfl 1 rfl (fun y h => absurd h.2.2 (Nat.not_lt_zero _))))))))))))))))))))))))))
  ihave Ha2 := (slotA I c 2 (by decide) _) $$ Ha2 %(stepAS I c _ _ _ 3 3 (by decide) _ hS 23 67 rfl rfl _ _ _ rfl 24 rfl (stepAO I c _ _ _ 3 3 (by decide) _ hO 22 51 rfl rfl _ _ _ rfl 23 rfl (stepAS I c _ _ _ 2 3 (by decide) _ hS 21 50 rfl rfl _ _ _ rfl 22 rfl (stepAO I c _ _ _ 2 3 (by decide) _ hO 20 34 rfl rfl _ _ _ rfl 21 rfl (stepAS I c _ _ _ 1 3 (by decide) _ hS 19 33 rfl rfl _ _ _ rfl 20 rfl (stepAO I c _ _ _ 1 3 (by decide) _ hO 18 17 rfl rfl _ _ _ rfl 19 rfl (stepAS I c _ _ _ 0 3 (by decide) _ hS 17 16 rfl rfl _ _ _ rfl 18 rfl (stepAO I c _ _ _ 0 3 (by decide) _ hO 16 0 rfl rfl _ _ _ rfl 17 rfl (stepAS I c _ _ _ 3 2 (by decide) _ hS 15 67 rfl rfl _ _ _ rfl 16 rfl (stepAO I c _ _ _ 3 2 (by decide) _ hO 14 51 rfl rfl _ _ _ rfl 15 rfl (stepAS I c _ _ _ 2 2 (by decide) _ hS 13 50 rfl rfl _ _ _ rfl 14 rfl (stepAO I c _ _ _ 2 2 (by decide) _ hO 12 34 rfl rfl _ _ _ rfl 13 rfl (stepAS I c _ _ _ 1 2 (by decide) _ hS 11 33 rfl rfl _ _ _ rfl 12 rfl (stepAO I c _ _ _ 1 2 (by decide) _ hO 10 17 rfl rfl _ _ _ rfl 11 rfl (stepAS I c _ _ _ 0 2 (by decide) _ hS 9 16 rfl rfl _ _ _ rfl 10 rfl (stepAO I c _ _ _ 0 2 (by decide) _ hO 8 0 rfl rfl _ _ _ rfl 9 rfl (stepAS I c _ _ _ 3 1 (by decide) _ hS 7 67 rfl rfl _ _ _ rfl 8 rfl (stepAO I c _ _ _ 3 1 (by decide) _ hO 6 51 rfl rfl _ _ _ rfl 7 rfl (stepAS I c _ _ _ 2 1 (by decide) _ hS 5 50 rfl rfl _ _ _ rfl 6 rfl (stepAO I c _ _ _ 2 1 (by decide) _ hO 4 34 rfl rfl _ _ _ rfl 5 rfl (stepAS I c _ _ _ 1 1 (by decide) _ hS 3 33 rfl rfl _ _ _ rfl 4 rfl (stepAO I c _ _ _ 1 1 (by decide) _ hO 2 17 rfl rfl _ _ _ rfl 3 rfl (stepAS I c _ _ _ 0 1 (by decide) _ hS 1 16 rfl rfl _ _ _ rfl 2 rfl (stepAO I c _ _ _ 0 1 (by decide) _ hO 0 0 rfl rfl _ _ _ rfl 1 rfl (fun y h => absurd h.2.2 (Nat.not_lt_zero _))))))))))))))))))))))))))
  ihave Ha3 := (slotA I c 3 (by decide) _) $$ Ha3 %(stepAS I c _ _ _ 3 3 (by decide) _ hS 23 67 rfl rfl _ _ _ rfl 24 rfl (stepAO I c _ _ _ 3 3 (by decide) _ hO 22 51 rfl rfl _ _ _ rfl 23 rfl (stepAS I c _ _ _ 2 3 (by decide) _ hS 21 50 rfl rfl _ _ _ rfl 22 rfl (stepAO I c _ _ _ 2 3 (by decide) _ hO 20 34 rfl rfl _ _ _ rfl 21 rfl (stepAS I c _ _ _ 1 3 (by decide) _ hS 19 33 rfl rfl _ _ _ rfl 20 rfl (stepAO I c _ _ _ 1 3 (by decide) _ hO 18 17 rfl rfl _ _ _ rfl 19 rfl (stepAS I c _ _ _ 0 3 (by decide) _ hS 17 16 rfl rfl _ _ _ rfl 18 rfl (stepAO I c _ _ _ 0 3 (by decide) _ hO 16 0 rfl rfl _ _ _ rfl 17 rfl (stepAS I c _ _ _ 3 2 (by decide) _ hS 15 67 rfl rfl _ _ _ rfl 16 rfl (stepAO I c _ _ _ 3 2 (by decide) _ hO 14 51 rfl rfl _ _ _ rfl 15 rfl (stepAS I c _ _ _ 2 2 (by decide) _ hS 13 50 rfl rfl _ _ _ rfl 14 rfl (stepAO I c _ _ _ 2 2 (by decide) _ hO 12 34 rfl rfl _ _ _ rfl 13 rfl (stepAS I c _ _ _ 1 2 (by decide) _ hS 11 33 rfl rfl _ _ _ rfl 12 rfl (stepAO I c _ _ _ 1 2 (by decide) _ hO 10 17 rfl rfl _ _ _ rfl 11 rfl (stepAS I c _ _ _ 0 2 (by decide) _ hS 9 16 rfl rfl _ _ _ rfl 10 rfl (stepAO I c _ _ _ 0 2 (by decide) _ hO 8 0 rfl rfl _ _ _ rfl 9 rfl (stepAS I c _ _ _ 3 1 (by decide) _ hS 7 67 rfl rfl _ _ _ rfl 8 rfl (stepAO I c _ _ _ 3 1 (by decide) _ hO 6 51 rfl rfl _ _ _ rfl 7 rfl (stepAS I c _ _ _ 2 1 (by decide) _ hS 5 50 rfl rfl _ _ _ rfl 6 rfl (stepAO I c _ _ _ 2 1 (by decide) _ hO 4 34 rfl rfl _ _ _ rfl 5 rfl (stepAS I c _ _ _ 1 1 (by decide) _ hS 3 33 rfl rfl _ _ _ rfl 4 rfl (stepAO I c _ _ _ 1 1 (by decide) _ hO 2 17 rfl rfl _ _ _ rfl 3 rfl (stepAS I c _ _ _ 0 1 (by decide) _ hS 1 16 rfl rfl _ _ _ rfl 2 rfl (stepAO I c _ _ _ 0 1 (by decide) _ hO 0 0 rfl rfl _ _ _ rfl 1 rfl (fun y h => absurd h.2.2 (Nat.not_lt_zero _))))))))))))))))))))))))))
  ihave Ha0 := (ptsEx_of (aS 0) c _) $$ Ha0
  ihave Ho := (ownP_of c cc0_scratch0 (fun X => ∀ y, X y = OA (I c) y) _) $$ Ho %hO
  ihave Hs := (ownP_of c cc0_scratch1 (fun X => ∀ y, X y = SA (I c) y) _) $$ Hs %hS
  iapply Hk $$ Ho Hs Ha0 Ha1 Ha2 Ha3 HO Hz Hp0 Hp1 Hp2 Hp3 Hp4 Hp5 %_
end Cert.KProof
-- ==== Proof.Run3.lean ====
/- The copies of the row reduction and the packing of the own block. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The three copies of the row reduction start, the own packed block becomes the row sums, and the first arrival lands. -/
theorem run3 (c : Dev nD) (l : List (GSem nD τ sig × ℕ)) (hl : ∀ p ∈ l, p.1.1.2 = .tc ∧ 2 < slv p.1.2)
    {α : Type} {Q : α → sProp 𝕄} (v19 v29 v762 : BitVec 32) (k : BitVec 32 → BitVec 32 → Prog (TpuEff nD τ sig (Elt F) Λ₀ .tc) α) :
    iprop(recs I K ∗ ownP c cc0_scratch0 (fun X => ∀ y, X y = OA (I c) y) ∗ ownP c cc0_scratch1 (fun X => ∀ y, X y = SA (I c) y)
        ∗ (∃ f, own (F := F) c cc0_scratch4 f)
        ∗ ptsP (aS 1) c (fun X => ∀ i, Good68 i → X i = AS I c 1 i) ∗ ptsP (aS 2) c (fun X => ∀ i, Good68 i → X i = AS I c 2 i)
        ∗ ptsP (aS 3) c (fun X => ∀ i, Good68 i → X i = AS I c 3 i)
        ∗ ptsEx (F := F) (aR 1) (peer 0 1 c) ∗ ptsEx (F := F) (aR 2) (peer 0 2 c) ∗ ptsEx (F := F) (aR 3) (peer 0 3 c)
        ∗ sendTok 0 1 c ∗ sendTok 0 2 c ∗ sendTok 0 3 c ∗ recvTok 0 1 c
        ∗ owesE c ((recvCell 0 1 (peer 0 1 c), crd 0) :: (recvCell 0 2 (peer 0 2 c), crd 0) :: (recvCell 0 3 (peer 0 3 c), crd 0) :: l)
        ∗ (ownP c cc0_scratch0 (fun X => ∀ y, X y = OA (I c) y) -∗ ownP c cc0_scratch1 (fun X => ∀ y, X y = SA (I c) y)
            -∗ ownP c cc0_scratch4 (fun X => ∀ y, Good68 y → X y = GAn I c 0 y)
            -∗ cred (tallyAt (sendCell 0 1 c) () (crd 0)) -∗ cred (tallyAt (sendCell 0 2 c) () (crd 0)) -∗ cred (tallyAt (sendCell 0 3 c) () (crd 0))
            -∗ owesE c l -∗ semVal (recvCell 0 1 c) 0 -∗ ptsP (aR 1) c (fun X => ∀ i, Good68 i → X i = AS I (rowPeer (opp 1) c) 1 i)
            -∗ ∀ v w, wp frame (wpE (defs₀ (F := F)) 𝒱₀ (c : Thread nD τ) none) Set.univ (k v w) Q))
      ⊢ wp frame (wpE (defs₀ (F := F)) 𝒱₀ (c : Thread nD τ) none) Set.univ (sec3 c v19 v29 v762 k) Q := by
  unfold sec3
  iintro ⟨#HR, Ho, Hs, ⟨%fg, Hg⟩, Ha1, Ha2, Ha3, Hd1, Hd2, Hd3, ⟨Ht1, Hu1⟩, ⟨Ht2, Hu2⟩, ⟨Ht3, Hu3⟩, ⟨Hc, Hat⟩, HO, Hk⟩
  ihave Ho := (ownP_out c cc0_scratch0 _) $$ Ho
  icases Ho with ⟨%fo, %hO, Ho⟩
  ihave Hs := (ownP_out c cc0_scratch1 _) $$ Hs
  icases Hs with ⟨%fs, %hS, Hs⟩
  sl_exec_parts
  iapply (send_a I K c _ 1 (by decide) (dev7_eq c) _ _ rfl rfl _) $$ [Ha1 Hd1 Ht1 Hu1 HO]
  · isplitr; · iexact HR
    isplitl [Ha1]; · iexact Ha1
    isplitl [Hd1]; · iexact Hd1
    isplitl [HO]; · iexact HO
    isplitl [Ht1] <;> iassumption
  iintro ⟨Hc1, HO⟩
  sl_exec_parts
  iapply (send_a I K c _ 2 (by decide) (dev8_eq c) _ _ rfl rfl _) $$ [Ha2 Hd2 Ht2 Hu2 HO]
  · isplitr; · iexact HR
    isplitl [Ha2]; · iexact Ha2
    isplitl [Hd2]; · iexact Hd2
    isplitl [HO]; · iexact HO
    isplitl [Ht2] <;> iassumption
  iintro ⟨Hc2, HO⟩
  sl_exec_parts
  iapply (send_a I K c _ 3 (by decide) (dev9_eq c) _ _ rfl rfl _) $$ [Ha3 Hd3 Ht3 Hu3 HO]
  · isplitr; · iexact HR
    isplitl [Ha3]; · iexact Ha3
    isplitl [Hd3]; · iexact Hd3
    isplitl [HO]; · iexact HO
    isplitl [Ht3] <;> iassumption
  iintro ⟨Hc3, HO⟩
  sl_exec_parts
  iapply (step_recv I K c 0 1 (by decide) _ rfl (src := aS 1) (dst := aR 1) rfl l hl) $$ [Hc HO Hat]
  · isplitr; · iexact HR
    isplitl [Hc]; · iexact Hc
    isplitl [HO] <;> iassumption
  iintro ⟨HO, Hz, Hp⟩
  ihave Hp := (Entails.of_eq (recvPay_a I 1 c)) $$ Hp
  sl_exec_parts
  ihave Hg := (ownP_of c cc0_scratch4 (fun X => ∀ y, keyG 8 y → X y = GAn I c 0 y) _) $$ Hg %(stepGS I c _ _ _ 3 _ hS 7 67 rfl rfl _ _ _ rfl 8 rfl (stepGO I c _ _ _ 3 _ hO 6 51 rfl rfl _ _ _ rfl 7 rfl (stepGS I c _ _ _ 2 _ hS 5 50 rfl rfl _ _ _ rfl 6 rfl (stepGO I c _ _ _ 2 _ hO 4 34 rfl rfl _ _ _ rfl 5 rfl (stepGS I c _ _ _ 1 _ hS 3 33 rfl rfl _ _ _ rfl 4 rfl (stepGO I c _ _ _ 1 _ hO 2 17 rfl rfl _ _ _ rfl 3 rfl (stepGS I c _ _ _ 0 _ hS 1 16 rfl rfl _ _ _ rfl 2 rfl (stepGO I c _ _ _ 0 _ hO 0 0 rfl rfl _ _ _ rfl 1 rfl (fun y h => absurd h.2 (Nat.not_lt_zero _))))))))))
  ihave Hg := (ownP_mono c cc0_scratch4 _ (fun X => ∀ y, Good68 y → X y = GAn I c 0 y) (fun X h y hy => h y (keyG_all hy))) $$ Hg
  ihave Ho := (ownP_of c cc0_scratch0 (fun X => ∀ y, X y = OA (I c) y) _) $$ Ho %hO
  ihave Hs := (ownP_of c cc0_scratch1 (fun X => ∀ y, X y = SA (I c) y) _) $$ Hs %hS
  iapply Hk $$ Ho Hs Hg Hc1 Hc2 Hc3 HO Hz Hp %_ %_
end Cert.KProof
-- ==== Proof.Run4.lean ====
/- The arrivals of the row reduction. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The three arrivals of the row reduction are added to the row sums. -/
theorem run4 (c : Dev nD) (l : List (GSem nD τ sig × ℕ)) (hl : ∀ p ∈ l, p.1.1.2 = .tc ∧ 2 < slv p.1.2)
    {α : Type} {Q : α → sProp 𝕄} (v785 v19 v808 : BitVec 32) (k : Prog (TpuEff nD τ sig (Elt F) Λ₀ .tc) α) :
    iprop(recs I K ∗ ownP c cc0_scratch4 (fun X => ∀ y, Good68 y → X y = GAn I c 0 y)
        ∗ ptsP (aR 1) c (fun X => ∀ i, Good68 i → X i = AS I (rowPeer (opp 1) c) 1 i)
        ∗ recvTok 0 2 c ∗ recvTok 0 3 c ∗ owesE c l
        ∗ (ownP c cc0_scratch4 (fun X => ∀ y, Good68 y → X y = GA I c y)
            -∗ ptsEx (F := F) (aR 1) c -∗ ptsEx (F := F) (aR 2) c -∗ ptsEx (F := F) (aR 3) c
            -∗ owesE c l -∗ semVal (recvCell 0 2 c) 0 -∗ semVal (recvCell 0 3 c) 0
            -∗ wp frame (wpE (defs₀ (F := F)) 𝒱₀ (c : Thread nD τ) none) Set.univ k Q))
      ⊢ wp frame (wpE (defs₀ (F := F)) 𝒱₀ (c : Thread nD τ) none) Set.univ (sec4 v785 v19 v808 k) Q := by
  unfold sec4
  iintro ⟨#HR, Hg, Hr1, ⟨Hc2, Hat2⟩, ⟨Hc3, Hat3⟩, HO, Hk⟩
  ihave Hg := (ownP_out c cc0_scratch4 _) $$ Hg
  icases Hg with ⟨%fg, %hG, Hg⟩
  ihave Hr1 := (ptsP_out (aR 1) c _) $$ Hr1
  icases Hr1 with ⟨%f1, %h1, Hr1⟩
  unfold pts
  sl_exec_parts
  iapply (step_recv I K c 0 2 (by decide) _ rfl (src := aS 2) (dst := aR 2) rfl l hl) $$ [Hc2 HO Hat2]
  · isplitr; · iexact HR
    isplitl [Hc2]; · iexact Hc2
    isplitl [HO] <;> iassumption
  iintro ⟨HO, Hz2, Hr2⟩
  ihave Hr2 := (Entails.of_eq (recvPay_a I 2 c)) $$ Hr2
  ihave Hr2 := (ptsP_out (aR 2) c _) $$ Hr2
  icases Hr2 with ⟨%f2, %h2, Hr2⟩
  unfold pts
  sl_exec_parts
  iapply (step_recv I K c 0 3 (by decide) _ rfl (src := aS 3) (dst := aR 3) rfl l hl) $$ [Hc3 HO Hat3]
  · isplitr; · iexact HR
    isplitl [Hc3]; · iexact Hc3
    isplitl [HO] <;> iassumption
  iintro ⟨HO, Hz3, Hr3⟩
  ihave Hr3 := (Entails.of_eq (recvPay_a I 3 c)) $$ Hr3
  ihave Hr3 := (ptsP_out (aR 3) c _) $$ Hr3
  icases Hr3 with ⟨%f3, %h3, Hr3⟩
  unfold pts
  sl_exec_parts
  have hG1 := stepAcc I c (Memref.whole cc0_scratch4).view (Memref.whole cc0_scratch4).view.junk [] 0 _ hG (View.readAt (Elt F) (Memref.whole cc0_scratch3).view (Rect.unit (s := S4x68x32x64) ![1, 0, 0, 0] S1x68x32x64.size inb_S4x68x32x64_S1x68x32x64_1_0_0_0).toLoadRect f1) h1 inb_S68x32x64_S68x32x64_0_0_0 inb_S68x32x64_S68x32x64_0_0_0 _ rfl
  have hG2 := stepAcc I c (Memref.whole cc0_scratch4).view (Memref.whole cc0_scratch4).view.junk
    [⟨(Rect.unit (s := S68x32x64) ![0, 0, 0] S68x32x64.size inb_S68x32x64_S68x32x64_0_0_0), k0_pay114 (View.readAt (Elt F) (Memref.whole cc0_scratch4).view (Rect.unit (s := S68x32x64) ![0, 0, 0] S68x32x64.size inb_S68x32x64_S68x32x64_0_0_0).toLoadRect fg) (View.readAt (Elt F) (Memref.whole cc0_scratch3).view (Rect.unit (s := S4x68x32x64) ![1, 0, 0, 0] S1x68x32x64.size inb_S4x68x32x64_S1x68x32x64_1_0_0_0).toLoadRect f1)⟩]
    1 _ hG1 (View.readAt (Elt F) (Memref.whole cc0_scratch3).view (Rect.unit (s := S4x68x32x64) ![2, 0, 0, 0] S1x68x32x64.size inb_S4x68x32x64_S1x68x32x64_2_0_0_0).toLoadRect f2) h2 inb_S68x32x64_S68x32x64_0_0_0 inb_S68x32x64_S68x32x64_0_0_0 _ rfl
  ihave Hg := (ownP_of c cc0_scratch4 (fun X => ∀ y, Good68 y → X y = GA I c y) _) $$ Hg %(stepAcc I c _ _ _ 2 _ hG2 (View.readAt (Elt F) (Memref.whole cc0_scratch3).view (Rect.unit (s := S4x68x32x64) ![3, 0, 0, 0] S1x68x32x64.size inb_S4x68x32x64_S1x68x32x64_3_0_0_0).toLoadRect f3) h3 inb_S68x32x64_S68x32x64_0_0_0 inb_S68x32x64_S68x32x64_0_0_0 _ rfl)
  ihave Hr1 := (ptsEx_of' (aR 1) c f1) $$ Hr1
  ihave Hr2 := (ptsEx_of' (aR 2) c f2) $$ Hr2
  ihave Hr3 := (ptsEx_of' (aR 3) c f3) $$ Hr3
  iapply Hk $$ Hg Hr1 Hr2 Hr3 HO Hz2 Hz3
end Cert.KProof
-- ==== Proof.Run5.lean ====
/- The packing of the column reduction. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- A slot of the column reduction's sources at the contents of the whole. -/
theorem slotB (I : Dev nD → Ins F) (c : Dev nD) (m : Fin 4) (hm : m ≠ 0) (f : (cc0_scratch5 : Ref sig .tc).ty.Contents (Elt F)) :
    (pts (bS m) c fullShare f : sProp 𝕄) ⊢ iprop(⌜∀ y, keyB 4 y → (Memref.whole cc0_scratch5).view.read (Elt F) f y = SLB I c y⌝ -∗ ptsP (bS m) c (fun X => ∀ i, Good17 i → X i = BS I c m i)) := by
  unfold ptsP
  iintro H %h
  iexists f
  isplitr
  · ipureintro
    intro i hi
    have hm0 : 1 ≤ m.val := Nat.one_le_iff_ne_zero.mpr fun e => hm (Fin.ext e)
    rw [read_bS, h (ix4 m (i 0) (i 1) (i 2)) ⟨hm0, hi, m.isLt⟩]
    exact (congrArg (BS I c m) (eq_ix3 i)).symm
  · iexact H

/-- The packed slots of the column reduction. -/
theorem run5 (c : Dev nD)
    {α : Type} {Q : α → sProp 𝕄} (v19 v29 : BitVec 32) (k : BitVec 32 → Prog (TpuEff nD τ sig (Elt F) Λ₀ .tc) α) :
    iprop(ownP c cc0_scratch4 (fun X => ∀ y, Good68 y → X y = GA I c y) ∗ (∃ f, own (F := F) c cc0_scratch5 f)
        ∗ (ownP c cc0_scratch4 (fun X => ∀ y, Good68 y → X y = GA I c y)
            -∗ ptsEx (F := F) (bS 0) c -∗ ptsP (bS 1) c (fun X => ∀ i, Good17 i → X i = BS I c 1 i)
            -∗ ptsP (bS 2) c (fun X => ∀ i, Good17 i → X i = BS I c 2 i) -∗ ptsP (bS 3) c (fun X => ∀ i, Good17 i → X i = BS I c 3 i)
            -∗ ∀ v, wp frame (wpE (defs₀ (F := F)) 𝒱₀ (c : Thread nD τ) none) Set.univ (k v) Q))
      ⊢ wp frame (wpE (defs₀ (F := F)) 𝒱₀ (c : Thread nD τ) none) Set.univ (sec5 c v19 v29 k) Q := by
  unfold sec5
  iintro ⟨Hg, ⟨%fb, Hb⟩, Hk⟩
  ihave Hg := (ownP_out c cc0_scratch4 _) $$ Hg
  icases Hg with ⟨%fg, %hG, Hg⟩
  sl_exec_parts
  ihave Hb := (ownP_of c cc0_scratch5 (fun X => ∀ y, keyB 4 y → X y = SLB I c y) _) $$ Hb %(stepB I c _ _ _ 3 (by decide) _ hG _ _ _ rfl 4 rfl (stepB I c _ _ _ 2 (by decide) _ hG _ _ _ rfl 3 rfl (stepB I c _ _ _ 1 (by decide) _ hG _ _ _ rfl 2 rfl (fun y h => absurd h.2.2 (Nat.not_lt.mpr h.1)))))
  ihave Hb := (ownP_out c cc0_scratch5 _) $$ Hb
  icases Hb with ⟨%fb', %hB, Hb⟩
  ihave Hb := (split_bS c _) $$ Hb
  icases Hb with ⟨Hb0, Hb1, Hb2, Hb3⟩
  ihave Hb0 := (ptsEx_of (bS 0) c _) $$ Hb0
  ihave Hb1 := (slotB I c 1 (by decide) _) $$ Hb1 %hB
  ihave Hb2 := (slotB I c 2 (by decide) _) $$ Hb2 %hB
  ihave Hb3 := (slotB I c 3 (by decide) _) $$ Hb3 %hB
  ihave Hg := (ownP_of c cc0_scratch4 (fun X => ∀ y, Good68 y → X y = GA I c y) _) $$ Hg %hG
  iapply Hk $$ Hg Hb0 Hb1 Hb2 Hb3 %_
end Cert.KProof
-- ==== Proof.Run6.lean ====
/- The copies and the arrivals of the column reduction. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The three copies of the column reduction start, and its arrivals complete the full sums. -/
theorem run6 (c : Dev nD) (l : List (GSem nD τ sig × ℕ)) (hl : ∀ p ∈ l, p.1.1.2 = .tc ∧ 3 < slv p.1.2)
    {α : Type} {Q : α → sProp 𝕄} (v19 v29 v985 : BitVec 32) (k : FVec F S17x32x64 .f32 → FVec F S17x32x64 .bf16 → Prog (TpuEff nD τ sig (Elt F) Λ₀ .tc) α) :
    iprop(recs I K ∗ ownP c cc0_scratch4 (fun X => ∀ y, Good68 y → X y = GA I c y)
        ∗ ptsP (bS 1) c (fun X => ∀ i, Good17 i → X i = BS I c 1 i) ∗ ptsP (bS 2) c (fun X => ∀ i, Good17 i → X i = BS I c 2 i)
        ∗ ptsP (bS 3) c (fun X => ∀ i, Good17 i → X i = BS I c 3 i)
        ∗ ptsEx (F := F) (bR 1) (peer 1 1 c) ∗ ptsEx (F := F) (bR 2) (peer 1 2 c) ∗ ptsEx (F := F) (bR 3) (peer 1 3 c)
        ∗ sendTok 1 1 c ∗ sendTok 1 2 c ∗ sendTok 1 3 c ∗ recvTok 1 1 c ∗ recvTok 1 2 c ∗ recvTok 1 3 c
        ∗ owesE c ((recvCell 1 1 (peer 1 1 c), crd 1) :: (recvCell 1 2 (peer 1 2 c), crd 1) :: (recvCell 1 3 (peer 1 3 c), crd 1) :: l)
        ∗ (ownP c cc0_scratch4 (fun X => ∀ y, Good68 y → X y = GA I c y)
            -∗ ptsEx (F := F) (bR 1) c -∗ ptsEx (F := F) (bR 2) c -∗ ptsEx (F := F) (bR 3) c
            -∗ cred (tallyAt (sendCell 1 1 c) () (crd 1)) -∗ cred (tallyAt (sendCell 1 2 c) () (crd 1)) -∗ cred (tallyAt (sendCell 1 3 c) () (crd 1))
            -∗ owesE c l -∗ semVal (recvCell 1 1 c) 0 -∗ semVal (recvCell 1 2 c) 0 -∗ semVal (recvCell 1 3 c) 0
            -∗ ∀ v w, ⌜∀ y, Good17 y → k0_pay122 v w y = CS I c y⌝ -∗ wp frame (wpE (defs₀ (F := F)) 𝒱₀ (c : Thread nD τ) none) Set.univ (k v w) Q))
      ⊢ wp frame (wpE (defs₀ (F := F)) 𝒱₀ (c : Thread nD τ) none) Set.univ (sec6 c v19 v29 v985 k) Q := by
  unfold sec6
  iintro ⟨#HR, Hg, Hb1, Hb2, Hb3, Hd1, Hd2, Hd3, ⟨Ht1, Hu1⟩, ⟨Ht2, Hu2⟩, ⟨Ht3, Hu3⟩, ⟨He1, Hat1⟩, ⟨He2, Hat2⟩, ⟨He3, Hat3⟩, HO, Hk⟩
  ihave Hg := (ownP_out c cc0_scratch4 _) $$ Hg
  icases Hg with ⟨%fg, %hG, Hg⟩
  sl_exec_parts
  iapply (send_b I K c _ 1 (by decide) (dev10_eq c) _ _ rfl rfl _) $$ [Hb1 Hd1 Ht1 Hu1 HO]
  · isplitr; · iexact HR
    isplitl [Hb1]; · iexact Hb1
    isplitl [Hd1]; · iexact Hd1
    isplitl [HO]; · iexact HO
    isplitl [Ht1] <;> iassumption
  iintro ⟨Hc1, HO⟩
  sl_exec_parts
  iapply (send_b I K c _ 2 (by decide) (dev11_eq c) _ _ rfl rfl _) $$ [Hb2 Hd2 Ht2 Hu2 HO]
  · isplitr; · iexact HR
    isplitl [Hb2]; · iexact Hb2
    isplitl [Hd2]; · iexact Hd2
    isplitl [HO]; · iexact HO
    isplitl [Ht2] <;> iassumption
  iintro ⟨Hc2, HO⟩
  sl_exec_parts
  iapply (send_b I K c _ 3 (by decide) (dev12_eq c) _ _ rfl rfl _) $$ [Hb3 Hd3 Ht3 Hu3 HO]
  · isplitr; · iexact HR
    isplitl [Hb3]; · iexact Hb3
    isplitl [Hd3]; · iexact Hd3
    isplitl [HO]; · iexact HO
    isplitl [Ht3] <;> iassumption
  iintro ⟨Hc3, HO⟩
  sl_exec_parts
  iapply (step_recv I K c 1 1 (by decide) _ rfl (src := bS 1) (dst := bR 1) rfl l hl) $$ [He1 HO Hat1]
  · isplitr; · iexact HR
    isplitl [He1]; · iexact He1
    isplitl [HO] <;> iassumption
  iintro ⟨HO, Hz1, Hr1⟩
  ihave Hr1 := (Entails.of_eq (recvPay_b I 1 c)) $$ Hr1
  ihave Hr1 := (ptsP_out (bR 1) c _) $$ Hr1
  icases Hr1 with ⟨%f1, %h1, Hr1⟩
  unfold pts
  sl_exec_parts
  iapply (step_recv I K c 1 2 (by decide) _ rfl (src := bS 2) (dst := bR 2) rfl l hl) $$ [He2 HO Hat2]
  · isplitr; · iexact HR
    isplitl [He2]; · iexact He2
    isplitl [HO] <;> iassumption
  iintro ⟨HO, Hz2, Hr2⟩
  ihave Hr2 := (Entails.of_eq (recvPay_b I 2 c)) $$ Hr2
  ihave Hr2 := (ptsP_out (bR 2) c _) $$ Hr2
  icases Hr2 with ⟨%f2, %h2, Hr2⟩
  unfold pts
  sl_exec_parts
  iapply (step_recv I K c 1 3 (by decide) _ rfl (src := bS 3) (dst := bR 3) rfl l hl) $$ [He3 HO Hat3]
  · isplitr; · iexact HR
    isplitl [He3]; · iexact He3
    isplitl [HO] <;> iassumption
  iintro ⟨HO, Hz3, Hr3⟩
  ihave Hr3 := (Entails.of_eq (recvPay_b I 3 c)) $$ Hr3
  ihave Hr3 := (ptsP_out (bR 3) c _) $$ Hr3
  icases Hr3 with ⟨%f3, %h3, Hr3⟩
  unfold pts
  sl_exec_parts
  ihave Hg := (ownP_of c cc0_scratch4 (fun X => ∀ y, Good68 y → X y = GA I c y) _) $$ Hg %hG
  ihave Hr1 := (ptsEx_of' (bR 1) c f1) $$ Hr1
  ihave Hr2 := (ptsEx_of' (bR 2) c f2) $$ Hr2
  ihave Hr3 := (ptsEx_of' (bR 3) c f3) $$ Hr3
  iapply Hk $$ Hg Hr1 Hr2 Hr3 Hc1 Hc2 Hc3 HO Hz1 Hz2 Hz3 %_ %_ %(addCS I c 2 _ (addCS I c 1 _ (addCS I c 0 _ (own17 I c _ hG _) _ h1) _ h2) _ h3)
end Cert.KProof
-- ==== Proof.Run7.lean ====
/- The own block of the context. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- The sixteen pairs' quotients fill the own block of the context. -/
theorem run7 (I : Dev nD → Ins F) (c : Dev nD) (v1068 : FVec F S17x32x64 .f32) (v1078 : FVec F S17x32x64 .bf16)
    (hT : ∀ y, Good17 y → k0_pay122 v1068 v1078 y = CS I c y)
    {α : Type} {Q : α → sProp 𝕄} (v19 : BitVec 32) (k : BitVec 32 → BitVec 32 → BitVec 1 → BitVec 1 → BitVec 1 → Prog (TpuEff nD τ sig (Elt F) Λ₀ .tc) α) :
    iprop((∃ f, own (F := F) c cc0_scratch7 f)
        ∗ (own (F := F) c cc0_scratch7 (CB I c) -∗ ∀ v1 v2 v3 v4 v5, wp frame (wpE (defs₀ (F := F)) 𝒱₀ (c : Thread nD τ) none) Set.univ (k v1 v2 v3 v4 v5) Q))
      ⊢ wp frame (wpE (defs₀ (F := F)) 𝒱₀ (c : Thread nD τ) none) Set.univ (sec7 v1068 v1078 v19 k) Q := by
  unfold sec7
  iintro ⟨⟨%fc, Hc⟩, Hk⟩
  sl_exec_parts
  ihave Hc := (ownP_of c cc0_scratch7 (fun X => ∀ y : S16x32x64.Idx, (y 0).val < 16 → X y = CB I c y) _) $$ Hc %(stepC I c _ _ _ 15 _ hT _ _ _ _ rfl 16 rfl (stepC I c _ _ _ 14 _ hT _ _ _ _ rfl 15 rfl (stepC I c _ _ _ 13 _ hT _ _ _ _ rfl 14 rfl (stepC I c _ _ _ 12 _ hT _ _ _ _ rfl 13 rfl (stepC I c _ _ _ 11 _ hT _ _ _ _ rfl 12 rfl (stepC I c _ _ _ 10 _ hT _ _ _ _ rfl 11 rfl (stepC I c _ _ _ 9 _ hT _ _ _ _ rfl 10 rfl (stepC I c _ _ _ 8 _ hT _ _ _ _ rfl 9 rfl (stepC I c _ _ _ 7 _ hT _ _ _ _ rfl 8 rfl (stepC I c _ _ _ 6 _ hT _ _ _ _ rfl 7 rfl (stepC I c _ _ _ 5 _ hT _ _ _ _ rfl 6 rfl (stepC I c _ _ _ 4 _ hT _ _ _ _ rfl 5 rfl (stepC I c _ _ _ 3 _ hT _ _ _ _ rfl 4 rfl (stepC I c _ _ _ 2 _ hT _ _ _ _ rfl 3 rfl (stepC I c _ _ _ 1 _ hT _ _ _ _ rfl 2 rfl (stepC I c _ _ _ 0 _ hT _ _ _ _ rfl 1 rfl (fun y h => absurd h (Nat.not_lt_zero _))))))))))))))))))
  ihave Hc := (ownP_mono c cc0_scratch7 _ (fun X => X = CB I c) (fun X h => funext fun y => h y (y 0).isLt)) $$ Hc
  ihave Hc := (ownP_eq c cc0_scratch7 _) $$ Hc
  iapply Hk $$ Hc %_ %_ %_ %_ %_
end Cert.KProof
-- ==== Proof.Run8.lean ====
/- The gather along a column. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The own block of the context goes to the column's other devices, and theirs arrive. -/
theorem run8 (c : Dev nD) (l : List (GSem nD τ sig × ℕ)) (hl : ∀ p ∈ l, p.1.1.2 = .tc ∧ 4 < slv p.1.2)
    {α : Type} {Q : α → sProp 𝕄} (v19 v29 v1243 v1244 : BitVec 32) (v1245 v1246 v1247 : BitVec 1) (v2 : BitVec 32) (k : BitVec 32 → Prog (TpuEff nD τ sig (Elt F) Λ₀ .tc) α) :
    iprop(recs I K ∗ ((Memref.whole cc0_scratch7).view.loc (c : Thread nD τ) ↦{qs 0} (CB I c)) ∗ pts dS c (qs 1) (CB I c) ∗ pts dS c (qs 2) (CB I c) ∗ pts dS c (qs 3) (CB I c)
        ∗ (∃ f, own (F := F) c cc0_scratch9 f) ∗ (∃ f, own (F := F) c cc0_scratch11 f)
        ∗ ptsEx (F := F) (dR 1) (peer 2 1 c) ∗ ptsEx (F := F) (dR 2) (peer 2 2 c) ∗ ptsEx (F := F) (dR 3) (peer 2 3 c)
        ∗ sendTok 2 1 c ∗ sendTok 2 2 c ∗ sendTok 2 3 c ∗ recvTok 2 1 c ∗ recvTok 2 2 c ∗ recvTok 2 3 c
        ∗ owesE c ((recvCell 2 1 (peer 2 1 c), crd 2) :: (recvCell 2 2 (peer 2 2 c), crd 2) :: (recvCell 2 3 (peer 2 3 c), crd 2) :: l)
        ∗ (((Memref.whole cc0_scratch7).view.loc (c : Thread nD τ) ↦{qs 0} (CB I c)) -∗ own (F := F) c cc0_scratch9 (CG I c) -∗ ownP c cc0_scratch11 (fun X => ∀ y, keyF (colDevs c) y → X y = CF I y)
            -∗ ptsEx (F := F) (dR 1) c -∗ ptsEx (F := F) (dR 2) c -∗ ptsEx (F := F) (dR 3) c
            -∗ cred (tallyAt (sendCell 2 1 c) () (crd 2)) -∗ cred (tallyAt (sendCell 2 2 c) () (crd 2)) -∗ cred (tallyAt (sendCell 2 3 c) () (crd 2))
            -∗ owesE c l -∗ semVal (recvCell 2 1 c) 0 -∗ semVal (recvCell 2 2 c) 0 -∗ semVal (recvCell 2 3 c) 0
            -∗ ∀ v, wp frame (wpE (defs₀ (F := F)) 𝒱₀ (c : Thread nD τ) none) Set.univ (k v) Q))
      ⊢ wp frame (wpE (defs₀ (F := F)) 𝒱₀ (c : Thread nD τ) none) Set.univ (sec8 c v19 v29 v1243 v1244 v1245 v1246 v1247 v2 k) Q := by
  unfold sec8
  iintro ⟨#HR, Hb0, Hb1, Hb2, Hb3, ⟨%fg, Hg⟩, ⟨%ff, Hf⟩, Hd1, Hd2, Hd3, ⟨Ht1, Hu1⟩, ⟨Ht2, Hu2⟩, ⟨Ht3, Hu3⟩, ⟨He1, Hat1⟩, ⟨He2, Hat2⟩, ⟨He3, Hat3⟩, HO, Hk⟩
  sl_exec_parts
  iapply (send_d I K c _ 1 (by decide) (dev13_eq c) _ _ rfl rfl _) $$ [Hb1 Hd1 Ht1 Hu1 HO]
  · isplitr; · iexact HR
    isplitl [Hb1]; · iexact Hb1
    isplitl [Hd1]; · iexact Hd1
    isplitl [HO]; · iexact HO
    isplitl [Ht1] <;> iassumption
  iintro ⟨Hc1, HO⟩
  sl_exec_parts
  iapply (send_d I K c _ 2 (by decide) (dev14_eq c) _ _ rfl rfl _) $$ [Hb2 Hd2 Ht2 Hu2 HO]
  · isplitr; · iexact HR
    isplitl [Hb2]; · iexact Hb2
    isplitl [Hd2]; · iexact Hd2
    isplitl [HO]; · iexact HO
    isplitl [Ht2] <;> iassumption
  iintro ⟨Hc2, HO⟩
  sl_exec_parts
  iapply (send_d I K c _ 3 (by decide) (dev15_eq c) _ _ rfl rfl _) $$ [Hb3 Hd3 Ht3 Hu3 HO]
  · isplitr; · iexact HR
    isplitl [Hb3]; · iexact Hb3
    isplitl [Hd3]; · iexact Hd3
    isplitl [HO]; · iexact HO
    isplitl [Ht3] <;> iassumption
  iintro ⟨Hc3, HO⟩
  sl_exec_parts
  iapply (step_recv I K c 2 1 (by decide) _ rfl (src := dS) (dst := dR 1) rfl l hl) $$ [He1 HO Hat1]
  · isplitr; · iexact HR
    isplitl [He1]; · iexact He1
    isplitl [HO] <;> iassumption
  iintro ⟨HO, Hz1, Hr1⟩
  ihave Hr1 := (Entails.of_eq (recvPay_d I 1 c)) $$ Hr1
  ihave Hr1 := (ptsP_out (dR 1) c _) $$ Hr1
  icases Hr1 with ⟨%f1, %h1, Hr1⟩
  unfold pts
  sl_exec_parts
  iapply (step_recv I K c 2 2 (by decide) _ rfl (src := dS) (dst := dR 2) rfl l hl) $$ [He2 HO Hat2]
  · isplitr; · iexact HR
    isplitl [He2]; · iexact He2
    isplitl [HO] <;> iassumption
  iintro ⟨HO, Hz2, Hr2⟩
  ihave Hr2 := (Entails.of_eq (recvPay_d I 2 c)) $$ Hr2
  ihave Hr2 := (ptsP_out (dR 2) c _) $$ Hr2
  icases Hr2 with ⟨%f2, %h2, Hr2⟩
  unfold pts
  sl_exec_parts
  iapply (step_recv I K c 2 3 (by decide) _ rfl (src := dS) (dst := dR 3) rfl l hl) $$ [He3 HO Hat3]
  · isplitr; · iexact HR
    isplitl [He3]; · iexact He3
    isplitl [HO] <;> iassumption
  iintro ⟨HO, Hz3, Hr3⟩
  ihave Hr3 := (Entails.of_eq (recvPay_d I 3 c)) $$ Hr3
  ihave Hr3 := (ptsP_out (dR 3) c _) $$ Hr3
  icases Hr3 with ⟨%f3, %h3, Hr3⟩
  unfold pts
  sl_exec_parts
  ihave Hg := (ownP_of c cc0_scratch9 (fun X => ∀ y, keyE [rowIx (colPeer (opp 3) c), rowIx (colPeer (opp 2) c), rowIx (colPeer (opp 1) c), rowIx c] y → X y = CG I c y) _) $$ Hg %(stepE' I c _ _ _ _ (colPeer (opp 3) c) (inCol_colPeer c _) _ (off9_eq c 3 (by decide)) _ _ (castSlot _ _ h3) (stepE' I c _ _ _ _ (colPeer (opp 2) c) (inCol_colPeer c _) _ (off9_eq c 2 (by decide)) _ _ (castSlot _ _ h2) (stepE' I c _ _ _ _ (colPeer (opp 1) c) (inCol_colPeer c _) _ (off9_eq c 1 (by decide)) _ _ (castSlot _ _ h1) (stepE' I c _ _ _ [] c (inCol_self c) _ (off7_eq c) _ _ (castWhole _ _ rfl _) (fun y h => absurd h (by rintro ⟨_, h, _⟩; exact absurd h List.not_mem_nil))))))
  ihave Hg := (ownP_mono c cc0_scratch9 _ (fun X => X = CG I c) (fun X h => funext fun y => h y (keyE_all c y))) $$ Hg
  ihave Hg := (ownP_eq c cc0_scratch9 _) $$ Hg
  ihave Hf := (ownP_of c cc0_scratch11 (fun X => ∀ y, keyF (colDevs c) y → X y = CF I y) _) $$ Hf %(stepF I _ _ _ _ (colPeer (opp 3) c) _ (off10_eq c 3 (by decide)) _ _ (castSlot _ _ h3) (stepF I _ _ _ _ (colPeer (opp 2) c) _ (off10_eq c 2 (by decide)) _ _ (castSlot _ _ h2) (stepF I _ _ _ _ (colPeer (opp 1) c) _ (off10_eq c 1 (by decide)) _ _ (castSlot _ _ h1) (stepF I _ _ _ [] c _ (off8_eq c) _ _ (castWhole _ _ rfl _) (fun y h => absurd h (by rintro ⟨_, h, _⟩; exact absurd h List.not_mem_nil))))))
  ihave Hr1 := (ptsEx_of' (dR 1) c f1) $$ Hr1
  ihave Hr2 := (ptsEx_of' (dR 2) c f2) $$ Hr2
  ihave Hr3 := (ptsEx_of' (dR 3) c f3) $$ Hr3
  iapply Hk $$ Hb0 Hg Hf Hr1 Hr2 Hr3 Hc1 Hc2 Hc3 HO Hz1 Hz2 Hz3 %_
end Cert.KProof
-- ==== Proof.Run9.lean ====
/- The gather along a row, and the output projection. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The context of a column goes to the row's other devices, theirs arrive, and the output is the projection of the whole
    context. -/
theorem run9 (c : Dev nD)
    {α : Type} {Q : α → sProp 𝕄} (v19 v29 v1427 : BitVec 32) (k : Prog (TpuEff nD τ sig (Elt F) Λ₀ .tc) α) :
    iprop(recs I K ∗ pts eS c (qs 1) (CG I c) ∗ pts eS c (qs 2) (CG I c) ∗ pts eS c (qs 3) (CG I c)
        ∗ ownP c cc0_scratch11 (fun X => ∀ y, keyF (colDevs c) y → X y = CF I y)
        ∗ own c cc0_stg4_0 (I c).wo ∗ (∃ f, own (F := F) c cc0_stg5_0 f)
        ∗ ptsEx (F := F) (eR 1) (peer 3 1 c) ∗ ptsEx (F := F) (eR 2) (peer 3 2 c) ∗ ptsEx (F := F) (eR 3) (peer 3 3 c)
        ∗ sendTok 3 1 c ∗ sendTok 3 2 c ∗ sendTok 3 3 c ∗ recvTok 3 1 c ∗ recvTok 3 2 c ∗ recvTok 3 3 c
        ∗ owesE c ((recvCell 3 1 (peer 3 1 c), crd 3) :: (recvCell 3 2 (peer 3 2 c), crd 3) :: (recvCell 3 3 (peer 3 3 c), crd 3) :: [])
        ∗ sentTok 0 1 c ∗ sentTok 0 2 c
        ∗ ((∃ f, own (F := F) c cc0_scratch11 f) -∗ own c cc0_stg4_0 (I c).wo -∗ own c cc0_stg5_0 (OUT I c)
            -∗ ptsEx (F := F) (eR 1) c -∗ ptsEx (F := F) (eR 2) c -∗ ptsEx (F := F) (eR 3) c
            -∗ cred (tallyAt (sendCell 3 1 c) () (crd 3)) -∗ cred (tallyAt (sendCell 3 2 c) () (crd 3)) -∗ cred (tallyAt (sendCell 3 3 c) () (crd 3))
            -∗ owesE c [] -∗ semVal (sendCell 0 1 c) 0 -∗ semVal (sendCell 0 2 c) 0 -∗ ptsEx (F := F) (aS 1) c -∗ ptsEx (F := F) (aS 2) c -∗ semVal (recvCell 3 1 c) 0 -∗ semVal (recvCell 3 2 c) 0 -∗ semVal (recvCell 3 3 c) 0
            -∗ wp frame (wpE (defs₀ (F := F)) 𝒱₀ (c : Thread nD τ) none) Set.univ k Q))
      ⊢ wp frame (wpE (defs₀ (F := F)) 𝒱₀ (c : Thread nD τ) none) Set.univ (sec9 c v19 v29 v1427 (fun v1592 v1610 => sec10 c v1592 v1610 k)) Q := by
  unfold sec9
  iintro ⟨#HR, Hb1, Hb2, Hb3, Hf, Hw, ⟨%fo, Ho⟩, Hd1, Hd2, Hd3, ⟨Ht1, Hu1⟩, ⟨Ht2, Hu2⟩, ⟨Ht3, Hu3⟩, ⟨He1, Hat1⟩, ⟨He2, Hat2⟩, ⟨He3, Hat3⟩, HO, ⟨Hq1, Hqt1⟩, ⟨Hq2, Hqt2⟩, Hk⟩
  ihave Hf := (ownP_out c cc0_scratch11 _) $$ Hf
  icases Hf with ⟨%ff, %hF, Hf⟩
  sl_exec_parts
  iapply (send_e I K c _ 1 (by decide) (dev16_eq c) _ _ rfl rfl _) $$ [Hb1 Hd1 Ht1 Hu1 HO]
  · isplitr; · iexact HR
    isplitl [Hb1]; · iexact Hb1
    isplitl [Hd1]; · iexact Hd1
    isplitl [HO]; · iexact HO
    isplitl [Ht1] <;> iassumption
  iintro ⟨Hc1, HO⟩
  sl_exec_parts
  iapply (send_e I K c _ 2 (by decide) (dev17_eq c) _ _ rfl rfl _) $$ [Hb2 Hd2 Ht2 Hu2 HO]
  · isplitr; · iexact HR
    isplitl [Hb2]; · iexact Hb2
    isplitl [Hd2]; · iexact Hd2
    isplitl [HO]; · iexact HO
    isplitl [Ht2] <;> iassumption
  iintro ⟨Hc2, HO⟩
  sl_exec_parts
  iapply (send_e I K c _ 3 (by decide) (dev18_eq c) _ _ rfl rfl _) $$ [Hb3 Hd3 Ht3 Hu3 HO]
  · isplitr; · iexact HR
    isplitl [Hb3]; · iexact Hb3
    isplitl [Hd3]; · iexact Hd3
    isplitl [HO]; · iexact HO
    isplitl [Ht3] <;> iassumption
  iintro ⟨Hc3, HO⟩
  sl_exec_parts
  iapply (step_recv I K c 3 1 (by decide) _ rfl (src := eS) (dst := eR 1) rfl [] (fun p hp => absurd hp List.not_mem_nil)) $$ [He1 HO Hat1]
  · isplitr; · iexact HR
    isplitl [He1]; · iexact He1
    isplitl [HO] <;> iassumption
  iintro ⟨HO, Hz1, Hr1⟩
  ihave Hr1 := (Entails.of_eq (recvPay_e I 1 c)) $$ Hr1
  ihave Hr1 := (ptsP_out (eR 1) c _) $$ Hr1
  icases Hr1 with ⟨%f1, %h1, Hr1⟩
  unfold pts
  sl_exec_parts
  iapply (step_recv I K c 3 2 (by decide) _ rfl (src := eS) (dst := eR 2) rfl [] (fun p hp => absurd hp List.not_mem_nil)) $$ [He2 HO Hat2]
  · isplitr; · iexact HR
    isplitl [He2]; · iexact He2
    isplitl [HO] <;> iassumption
  iintro ⟨HO, Hz2, Hr2⟩
  ihave Hr2 := (Entails.of_eq (recvPay_e I 2 c)) $$ Hr2
  ihave Hr2 := (ptsP_out (eR 2) c _) $$ Hr2
  icases Hr2 with ⟨%f2, %h2, Hr2⟩
  unfold pts
  sl_exec_parts
  iapply (step_recv I K c 3 3 (by decide) _ rfl (src := eS) (dst := eR 3) rfl [] (fun p hp => absurd hp List.not_mem_nil)) $$ [He3 HO Hat3]
  · isplitr; · iexact HR
    isplitl [He3]; · iexact He3
    isplitl [HO] <;> iassumption
  iintro ⟨HO, Hz3, Hr3⟩
  ihave Hr3 := (Entails.of_eq (recvPay_e I 3 c)) $$ Hr3
  ihave Hr3 := (ptsP_out (eR 3) c _) $$ Hr3
  icases Hr3 with ⟨%f3, %h3, Hr3⟩
  unfold pts
  sl_exec_parts
  ihave Hf := (own_fact c cc0_scratch11 (fun X => ∀ y, keyF (allDevs c) y → X y = CF I y) (CF I) (fun X h => funext fun y => h y (keyF_all c y)) _) $$ Hf %(stepQ I c _ _ _ _ 3 3 (by decide) f3 h3 12#32 3#32 rfl rfl _ ![3, 48, 0, 0] rfl _ (stepQ I c _ _ _ _ 3 2 (by decide) f3 h3 8#32 3#32 rfl rfl _ ![3, 32, 0, 0] rfl _ (stepQ I c _ _ _ _ 3 1 (by decide) f3 h3 4#32 3#32 rfl rfl _ ![3, 16, 0, 0] rfl _ (stepQ I c _ _ _ _ 3 0 (by decide) f3 h3 0#32 3#32 rfl rfl _ ![3, 0, 0, 0] rfl _ (stepQ I c _ _ _ _ 2 3 (by decide) f2 h2 12#32 2#32 rfl rfl _ ![2, 48, 0, 0] rfl _ (stepQ I c _ _ _ _ 2 2 (by decide) f2 h2 8#32 2#32 rfl rfl _ ![2, 32, 0, 0] rfl _ (stepQ I c _ _ _ _ 2 1 (by decide) f2 h2 4#32 2#32 rfl rfl _ ![2, 16, 0, 0] rfl _ (stepQ I c _ _ _ _ 2 0 (by decide) f2 h2 0#32 2#32 rfl rfl _ ![2, 0, 0, 0] rfl _ (stepQ I c _ _ _ _ 1 3 (by decide) f1 h1 12#32 1#32 rfl rfl _ ![1, 48, 0, 0] rfl _ (stepQ I c _ _ _ _ 1 2 (by decide) f1 h1 8#32 1#32 rfl rfl _ ![1, 32, 0, 0] rfl _ (stepQ I c _ _ _ _ 1 1 (by decide) f1 h1 4#32 1#32 rfl rfl _ ![1, 16, 0, 0] rfl _ (stepQ I c _ _ _ _ 1 0 (by decide) f1 h1 0#32 1#32 rfl rfl _ ![1, 0, 0, 0] rfl _ hF))))))))))))
  icases Hf with ⟨%hE, Hf⟩
  ihave Ho := (ownP_of c cc0_stg5_0 (fun X => ∀ y, X y = OUT I c y) _) $$ Ho %(out_pieces' I c _ _ _ _ hE _ _ _ _ _ _ _ _ _ _ _ _ _ _ _ _ (load_row _ 0 _) (load_row _ 1 _) (load_row _ 2 _) (load_row _ 3 _) (load_row _ 4 _) (load_row _ 5 _) (load_row _ 6 _) (load_row _ 7 _) (load_row _ 8 _) (load_row _ 9 _) (load_row _ 10 _) (load_row _ 11 _) (load_row _ 12 _) (load_row _ 13 _) (load_row _ 14 _) (load_row _ 15 _) _ rfl _ _)
  ihave Ho := (ownP_mono c cc0_stg5_0 _ (fun X => X = OUT I c) (fun X h => funext h)) $$ Ho
  ihave Ho := (ownP_eq c cc0_stg5_0 _) $$ Ho
  ihave Hr1 := (ptsEx_of' (eR 1) c f1) $$ Hr1
  ihave Hr2 := (ptsEx_of' (eR 2) c f2) $$ Hr2
  ihave Hr3 := (ptsEx_of' (eR 3) c f3) $$ Hr3
  iapply (step_sent I K c 0 1 (by decide) _ rfl (src := aR 1) (dst := aS 1) rfl) $$ [Hq1 HO Hqt1]
  · isplitr; · iexact HR
    isplitl [Hq1]; · iexact Hq1
    isplitl [HO] <;> iassumption
  iintro ⟨HO, Hy1, Hs1⟩
  ihave Hs1 := (Entails.of_eq (sendPay_a I 1 c)) $$ Hs1
  sl_exec_parts
  iapply (step_sent I K c 0 2 (by decide) _ rfl (src := aR 2) (dst := aS 2) rfl) $$ [Hq2 HO Hqt2]
  · isplitr; · iexact HR
    isplitl [Hq2]; · iexact Hq2
    isplitl [HO] <;> iassumption
  iintro ⟨HO, Hy2, Hs2⟩
  ihave Hs2 := (Entails.of_eq (sendPay_a I 2 c)) $$ Hs2
  sl_exec_parts
  iapply Hk $$ [Hf] Hw Ho Hr1 Hr2 Hr3 Hc1 Hc2 Hc3 HO Hy1 Hy2 Hs1 Hs2 Hz1 Hz2 Hz3
  iexists _; iexact Hf
end Cert.KProof
-- ==== Proof.Run11.lean ====
/- The copies complete. -/
module
public import proofs.«01_k».proof.Proof.Kits
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

variable (I : Dev nD → Ins F) (K : Dev nD × Fin 33 → ℕ)

/-- The waits for the copies' completions, but for the first two and the last: each gives back its source. -/
theorem run11 (c : Dev nD) {Q : PUnit → sProp 𝕄} :
    iprop(recs I K ∗ sentTok 0 3 c ∗ sentTok 1 1 c ∗ sentTok 1 2 c ∗ sentTok 1 3 c ∗ sentTok 2 1 c ∗ sentTok 2 2 c ∗ sentTok 2 3 c ∗ sentTok 3 1 c ∗ sentTok 3 2 c ∗ owesE c []
        ∗ (ptsEx (F := F) (aS 3) c -∗ ptsEx (F := F) (bS 1) c -∗ ptsEx (F := F) (bS 2) c -∗ ptsEx (F := F) (bS 3) c -∗ pts dS c (qs 1) (CB I c) -∗ pts dS c (qs 2) (CB I c) -∗ pts dS c (qs 3) (CB I c) -∗ pts eS c (qs 1) (CG I c) -∗ pts eS c (qs 2) (CG I c) -∗ semVal (sendCell 0 3 c) 0 -∗ semVal (sendCell 1 1 c) 0 -∗ semVal (sendCell 1 2 c) 0 -∗ semVal (sendCell 1 3 c) 0 -∗ semVal (sendCell 2 1 c) 0 -∗ semVal (sendCell 2 2 c) 0 -∗ semVal (sendCell 2 3 c) 0 -∗ semVal (sendCell 3 1 c) 0 -∗ semVal (sendCell 3 2 c) 0 -∗ owesE c [] -∗ Q ⟨⟩))
      ⊢ wp frame (wpE (defs₀ (F := F)) 𝒱₀ (c : Thread nD τ) none) Set.univ sec11 Q := by
  unfold sec11
  iintro ⟨#HR, ⟨Hq03, Ht03⟩, ⟨Hq11, Ht11⟩, ⟨Hq12, Ht12⟩, ⟨Hq13, Ht13⟩, ⟨Hq21, Ht21⟩, ⟨Hq22, Ht22⟩, ⟨Hq23, Ht23⟩, ⟨Hq31, Ht31⟩, ⟨Hq32, Ht32⟩, HO, Hk⟩
  sl_exec_parts
  iapply (step_sent I K c 0 3 (by decide) _ rfl (src := aR 3) (dst := aS 3) rfl) $$ [Hq03 HO Ht03]
  · isplitr; · iexact HR
    isplitl [Hq03]; · iexact Hq03
    isplitl [HO] <;> iassumption
  iintro ⟨HO, Hy03, Hs03⟩
  ihave Hs03 := (Entails.of_eq (sendPay_a I 3 c)) $$ Hs03
  sl_exec_parts
  iapply (step_sent I K c 1 1 (by decide) _ rfl (src := bR 1) (dst := bS 1) rfl) $$ [Hq11 HO Ht11]
  · isplitr; · iexact HR
    isplitl [Hq11]; · iexact Hq11
    isplitl [HO] <;> iassumption
  iintro ⟨HO, Hy11, Hs11⟩
  ihave Hs11 := (Entails.of_eq (sendPay_b I 1 c)) $$ Hs11
  sl_exec_parts
  iapply (step_sent I K c 1 2 (by decide) _ rfl (src := bR 2) (dst := bS 2) rfl) $$ [Hq12 HO Ht12]
  · isplitr; · iexact HR
    isplitl [Hq12]; · iexact Hq12
    isplitl [HO] <;> iassumption
  iintro ⟨HO, Hy12, Hs12⟩
  ihave Hs12 := (Entails.of_eq (sendPay_b I 2 c)) $$ Hs12
  sl_exec_parts
  iapply (step_sent I K c 1 3 (by decide) _ rfl (src := bR 3) (dst := bS 3) rfl) $$ [Hq13 HO Ht13]
  · isplitr; · iexact HR
    isplitl [Hq13]; · iexact Hq13
    isplitl [HO] <;> iassumption
  iintro ⟨HO, Hy13, Hs13⟩
  ihave Hs13 := (Entails.of_eq (sendPay_b I 3 c)) $$ Hs13
  sl_exec_parts
  iapply (step_sent I K c 2 1 (by decide) _ rfl (src := dR 1) (dst := dS) rfl) $$ [Hq21 HO Ht21]
  · isplitr; · iexact HR
    isplitl [Hq21]; · iexact Hq21
    isplitl [HO] <;> iassumption
  iintro ⟨HO, Hy21, Hs21⟩
  ihave Hs21 := (Entails.of_eq (sendPay_d I 1 c)) $$ Hs21
  sl_exec_parts
  iapply (step_sent I K c 2 2 (by decide) _ rfl (src := dR 2) (dst := dS) rfl) $$ [Hq22 HO Ht22]
  · isplitr; · iexact HR
    isplitl [Hq22]; · iexact Hq22
    isplitl [HO] <;> iassumption
  iintro ⟨HO, Hy22, Hs22⟩
  ihave Hs22 := (Entails.of_eq (sendPay_d I 2 c)) $$ Hs22
  sl_exec_parts
  iapply (step_sent I K c 2 3 (by decide) _ rfl (src := dR 3) (dst := dS) rfl) $$ [Hq23 HO Ht23]
  · isplitr; · iexact HR
    isplitl [Hq23]; · iexact Hq23
    isplitl [HO] <;> iassumption
  iintro ⟨HO, Hy23, Hs23⟩
  ihave Hs23 := (Entails.of_eq (sendPay_d I 3 c)) $$ Hs23
  sl_exec_parts
  iapply (step_sent I K c 3 1 (by decide) _ rfl (src := eR 1) (dst := eS) rfl) $$ [Hq31 HO Ht31]
  · isplitr; · iexact HR
    isplitl [Hq31]; · iexact Hq31
    isplitl [HO] <;> iassumption
  iintro ⟨HO, Hy31, Hs31⟩
  ihave Hs31 := (Entails.of_eq (sendPay_e I 1 c)) $$ Hs31
  sl_exec_parts
  iapply (step_sent I K c 3 2 (by decide) _ rfl (src := eR 2) (dst := eS) rfl) $$ [Hq32 HO Ht32]
  · isplitr; · iexact HR
    isplitl [Hq32]; · iexact Hq32
    isplitl [HO] <;> iassumption
  iintro ⟨HO, Hy32, Hs32⟩
  ihave Hs32 := (Entails.of_eq (sendPay_e I 2 c)) $$ Hs32
  sl_exec_parts
  rw [wp_ret]
  imodintro
  iapply Hk $$ Hs03 Hs11 Hs12 Hs13 Hs21 Hs22 Hs23 Hs31 Hs32 Hy03 Hy11 Hy12 Hy13 Hy21 Hy22 Hy23 Hy31 Hy32 HO
end Cert.KProof
-- ==== Proof.Body.lean ====
/- The body at a device. -/
module
public import proofs.«01_k».proof.Proof.Run0
public import proofs.«01_k».proof.Proof.Run1
public import proofs.«01_k».proof.Proof.Run2
public import proofs.«01_k».proof.Proof.Run3
public import proofs.«01_k».proof.Proof.Run4
public import proofs.«01_k».proof.Proof.Run5
public import proofs.«01_k».proof.Proof.Run6
public import proofs.«01_k».proof.Proof.Run7
public import proofs.«01_k».proof.Proof.Run8
public import proofs.«01_k».proof.Proof.Run9
public import proofs.«01_k».proof.Proof.Run11
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-- The duties of the barrier that `c` discharges. -/
def barToks (c : Dev nD) : sProp 𝕄 :=
  iprop(dutyTok ER (barCell (sigTo 0 c)) 0 0 ∗ dutyTok ER (barCell (sigTo 1 c)) 0 1 ∗ dutyTok ER (barCell (sigTo 2 c)) 0 2 ∗ dutyTok ER (barCell (sigTo 3 c)) 0 3 ∗ dutyTok ER (barCell (sigTo 4 c)) 0 4 ∗ dutyTok ER (barCell (sigTo 5 c)) 0 5)
/-- The duties that the copies of `c` discharge. -/
def sendToks (c : Dev nD) : sProp 𝕄 :=
  iprop(sendTok 0 1 c ∗ sendTok 0 2 c ∗ sendTok 0 3 c ∗ sendTok 1 1 c ∗ sendTok 1 2 c ∗ sendTok 1 3 c ∗ sendTok 2 1 c ∗ sendTok 2 2 c ∗ sendTok 2 3 c ∗ sendTok 3 1 c ∗ sendTok 3 2 c ∗ sendTok 3 3 c)
/-- What the waits of `c` for arrivals consume. -/
def recvToks (c : Dev nD) : sProp 𝕄 :=
  iprop(recvTok 0 1 c ∗ recvTok 0 2 c ∗ recvTok 0 3 c ∗ recvTok 1 1 c ∗ recvTok 1 2 c ∗ recvTok 1 3 c ∗ recvTok 2 1 c ∗ recvTok 2 2 c ∗ recvTok 2 3 c ∗ recvTok 3 1 c ∗ recvTok 3 2 c ∗ recvTok 3 3 c)
/-- The positions of the completions of `c`. -/
def sentPos (c : Dev nD) : sProp 𝕄 :=
  iprop(atPos ER (sendCell 0 1 c) 0 ∅ 0 ∗ atPos ER (sendCell 0 2 c) 0 ∅ 0 ∗ atPos ER (sendCell 0 3 c) 0 ∅ 0 ∗ atPos ER (sendCell 1 1 c) 0 ∅ 0 ∗ atPos ER (sendCell 1 2 c) 0 ∅ 0 ∗ atPos ER (sendCell 1 3 c) 0 ∅ 0 ∗ atPos ER (sendCell 2 1 c) 0 ∅ 0 ∗ atPos ER (sendCell 2 2 c) 0 ∅ 0 ∗ atPos ER (sendCell 2 3 c) 0 ∅ 0 ∗ atPos ER (sendCell 3 1 c) 0 ∅ 0 ∗ atPos ER (sendCell 3 2 c) 0 ∅ 0 ∗ atPos ER (sendCell 3 3 c) 0 ∅ 0)
/-- The completion semaphores at rest. -/
def sentVals (c : Dev nD) : sProp 𝕄 :=
  iprop(semVal (sendCell 0 1 c) 0 ∗ semVal (sendCell 0 2 c) 0 ∗ semVal (sendCell 0 3 c) 0 ∗ semVal (sendCell 1 1 c) 0 ∗ semVal (sendCell 1 2 c) 0 ∗ semVal (sendCell 1 3 c) 0 ∗ semVal (sendCell 2 1 c) 0 ∗ semVal (sendCell 2 2 c) 0 ∗ semVal (sendCell 2 3 c) 0 ∗ semVal (sendCell 3 1 c) 0 ∗ semVal (sendCell 3 2 c) 0 ∗ semVal (sendCell 3 3 c) 0)
/-- The arrival semaphores at rest. -/
def recvVals (c : Dev nD) : sProp 𝕄 :=
  iprop(semVal (recvCell 0 1 c) 0 ∗ semVal (recvCell 0 2 c) 0 ∗ semVal (recvCell 0 3 c) 0 ∗ semVal (recvCell 1 1 c) 0 ∗ semVal (recvCell 1 2 c) 0 ∗ semVal (recvCell 1 3 c) 0 ∗ semVal (recvCell 2 1 c) 0 ∗ semVal (recvCell 2 2 c) 0 ∗ semVal (recvCell 2 3 c) 0 ∗ semVal (recvCell 3 1 c) 0 ∗ semVal (recvCell 3 2 c) 0 ∗ semVal (recvCell 3 3 c) 0)
/-- The scratch buffers. -/
def bufs (c : Dev nD) : sProp 𝕄 :=
  iprop((∃ f, own (F := F) c cc0_scratch0 f) ∗ (∃ f, own (F := F) c cc0_scratch1 f) ∗ (∃ f, own (F := F) c cc0_scratch2 f) ∗ (∃ f, own (F := F) c cc0_scratch3 f) ∗ (∃ f, own (F := F) c cc0_scratch4 f) ∗ (∃ f, own (F := F) c cc0_scratch5 f) ∗ (∃ f, own (F := F) c cc0_scratch6 f) ∗ (∃ f, own (F := F) c cc0_scratch7 f) ∗ (∃ f, own (F := F) c cc0_scratch8 f) ∗ (∃ f, own (F := F) c cc0_scratch9 f) ∗ (∃ f, own (F := F) c cc0_scratch10 f) ∗ (∃ f, own (F := F) c cc0_scratch11 f))

/-- A buffer owned with a property of its contents. -/
theorem ownP_ex (c : Dev nD) (r : Ref sig .tc) (P : (r.ty.shape.Idx → Elt F r.ty.elt) → Prop) : (ownP c r P : sProp 𝕄) ⊢ iprop(∃ f, own c r f) := by
  unfold ownP
  iintro ⟨%f, %h, H⟩
  iexists f; iexact H
/-- The cells of the last phase lie above level four, -/
theorem hl4 (c : Dev nD) : ∀ p ∈ sends c 3, p.1.1.2 = .tc ∧ 4 < slv p.1.2 := by
  unfold sends
  intro p hp
  simp only [List.mem_cons, List.not_mem_nil, or_false] at hp
  rcases hp with rfl | rfl | rfl <;> exact ⟨rfl, lt_of_lt_of_eq (show 4 < (3 : Fin 4).val + 2 by decide) (slv_recv 3 _).symm⟩
/-- those of the last two above level three, -/
theorem hl3 (c : Dev nD) : ∀ p ∈ sends c 2 ++ sends c 3, p.1.1.2 = .tc ∧ 3 < slv p.1.2 := by
  intro p hp
  rcases List.mem_append.mp hp with hp | hp
  · unfold sends at hp
    simp only [List.mem_cons, List.not_mem_nil, or_false] at hp
    rcases hp with rfl | rfl | rfl <;> exact ⟨rfl, lt_of_lt_of_eq (show 3 < (2 : Fin 4).val + 2 by decide) (slv_recv 2 _).symm⟩
  · exact ⟨(hl4 c p hp).1, by have := (hl4 c p hp).2; omega⟩
/-- those of the last three above level two, -/
theorem hl2 (c : Dev nD) : ∀ p ∈ sends c 1 ++ (sends c 2 ++ sends c 3), p.1.1.2 = .tc ∧ 2 < slv p.1.2 := by
  intro p hp
  rcases List.mem_append.mp hp with hp | hp
  · unfold sends at hp
    simp only [List.mem_cons, List.not_mem_nil, or_false] at hp
    rcases hp with rfl | rfl | rfl <;> exact ⟨rfl, lt_of_lt_of_eq (show 2 < (1 : Fin 4).val + 2 by decide) (slv_recv 1 _).symm⟩
  · exact ⟨(hl3 c p hp).1, by have := (hl3 c p hp).2; omega⟩
/-- and all of them above level one. -/
theorem hl1 (c : Dev nD) : ∀ p ∈ oweSends c, p.1.1.2 = .tc ∧ 1 < slv p.1.2 := by
  unfold oweSends
  intro p hp
  rcases List.mem_append.mp hp with hp | hp
  · unfold sends at hp
    simp only [List.mem_cons, List.not_mem_nil, or_false] at hp
    rcases hp with rfl | rfl | rfl <;> exact ⟨rfl, lt_of_lt_of_eq (show 1 < (0 : Fin 4).val + 2 by decide) (slv_recv 0 _).symm⟩
  · exact ⟨(hl2 c p hp).1, by have := (hl2 c p hp).2; omega⟩

variable (I : Dev nD → Ins F) (K : Dev nD × Fin 33 → ℕ)

/-- The body at a device: from the buffers, the duties it discharges and the positions of its cells, to the result. -/
theorem body_run (c : Dev nD) {Q : PUnit → sProp 𝕄} :
    iprop(recs I K ∗ owesE c (oweAll c) ∗ barToks c ∗ sendToks c ∗ recvToks c ∗ sentPos c
        ∗ cred (tallyAt (barCell c) () 6) ∗ atPos ER (barCell c) 0 ∅ 0
        ∗ own c cc0_stg0_0 (I c).x ∗ own c cc0_stg1_0 (I c).wq ∗ own c cc0_stg2_0 (I c).k ∗ own c cc0_stg3_0 (I c).v
        ∗ own c cc0_stg4_0 (I c).wo ∗ (∃ f, own (F := F) c cc0_stg5_0 f) ∗ bufs c
        ∗ (owesE c [] -∗ semVal (barCell c) 0 -∗ sentVals c -∗ recvVals c
            -∗ own c cc0_stg0_0 (I c).x -∗ own c cc0_stg1_0 (I c).wq -∗ own c cc0_stg2_0 (I c).k -∗ own c cc0_stg3_0 (I c).v
            -∗ own c cc0_stg4_0 (I c).wo -∗ own c cc0_stg5_0 (OUT I c) -∗ bufs c -∗ Q ⟨⟩))
      ⊢ wp frame (wpE (defs₀ (F := F)) 𝒱₀ (c : Thread nD τ) none) Set.univ
          (cc0__body_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19) Q := by
  unfold cc0__body_skel
  rw [k0_part56_eq_skeleton, part56_eq]
  unfold barToks sendToks recvToks sentPos bufs
  iintro ⟨#HR, HO, ⟨D0, D1, D2, D3, D4, D5⟩, ⟨St01, St02, St03, St11, St12, St13, St21, St22, St23, St31, St32, St33⟩, ⟨Rt01, Rt02, Rt03, Rt11, Rt12, Rt13, Rt21, Rt22, Rt23, Rt31, Rt32, Rt33⟩, ⟨Ps01, Ps02, Ps03, Ps11, Ps12, Ps13, Ps21, Ps22, Ps23, Ps31, Ps32, Ps33⟩, Cb, Pb, X0, X1, X2, X3, X4, X5, ⟨B0, B1, B2, B3, B4, B5, B6, B7, B8, B9, B10, B11⟩, Hk⟩
  rw [wp_bind]
  unfold chain
  icases B3 with ⟨%f3, B3⟩
  ihave B3 := (split_aR c f3) $$ B3
  icases B3 with ⟨aR0, aR1, aR2, aR3⟩
  icases B6 with ⟨%f6, B6⟩
  ihave B6 := (split_bR c f6) $$ B6
  icases B6 with ⟨bR0, bR1, bR2, bR3⟩
  icases B8 with ⟨%f8, B8⟩
  ihave B8 := (split_dR c f8) $$ B8
  icases B8 with ⟨dR0, dR1, dR2, dR3⟩
  icases B10 with ⟨%f10, B10⟩
  ihave B10 := (split_eR c f10) $$ B10
  icases B10 with ⟨eR0, eR1, eR2, eR3⟩
  ihave aR0 := (ptsEx_of (aR 0) c _) $$ aR0
  ihave aR1 := (ptsEx_of (aR 1) c _) $$ aR1
  ihave aR2 := (ptsEx_of (aR 2) c _) $$ aR2
  ihave aR3 := (ptsEx_of (aR 3) c _) $$ aR3
  ihave bR0 := (ptsEx_of (bR 0) c _) $$ bR0
  ihave bR1 := (ptsEx_of (bR 1) c _) $$ bR1
  ihave bR2 := (ptsEx_of (bR 2) c _) $$ bR2
  ihave bR3 := (ptsEx_of (bR 3) c _) $$ bR3
  ihave dR0 := (ptsEx_of (dR 0) c _) $$ dR0
  ihave dR1 := (ptsEx_of (dR 1) c _) $$ dR1
  ihave dR2 := (ptsEx_of (dR 2) c _) $$ dR2
  ihave dR3 := (ptsEx_of (dR 3) c _) $$ dR3
  ihave eR0 := (ptsEx_of (eR 0) c _) $$ eR0
  ihave eR1 := (ptsEx_of (eR 1) c _) $$ eR1
  ihave eR2 := (ptsEx_of (eR 2) c _) $$ eR2
  ihave eR3 := (ptsEx_of (eR 3) c _) $$ eR3
  iapply (run0 I K c (oweSends c))
  isplitr; · iexact HR
  isplitl [HO]; · iexact HO
  isplitl [D0]; · iexact D0
  isplitl [D1]; · iexact D1
  isplitl [D2]; · iexact D2
  isplitl [D3]; · iexact D3
  isplitl [D4]; · iexact D4
  isplitl [D5]; · iexact D5
  isplitl [aR3]; · iexact aR3
  isplitl [eR3]; · iexact eR3
  isplitl [bR3]; · iexact bR3
  isplitl [dR3]; · iexact dR3
  isplitl [aR2]; · iexact aR2
  isplitl [eR2]; · iexact eR2
  isplitl [bR2]; · iexact bR2
  isplitl [dR2]; · iexact dR2
  isplitl [aR1]; · iexact aR1
  isplitl [eR1]; · iexact eR1
  isplitl [bR1]; · iexact bR1
  isplitl [dR1]; · iexact dR1
  iintro HO %v2 %v19 %v29
  icases B0 with ⟨%fo, B0⟩
  icases B1 with ⟨%fs, B1⟩
  iapply (run1 (I c) c fo fs)
  isplitl [X0]; · iexact X0
  isplitl [X1]; · iexact X1
  isplitl [X2]; · iexact X2
  isplitl [X3]; · iexact X3
  isplitl [B0]; · iexact B0
  isplitl [B1]; · iexact B1
  iintro B0 B1 X0 X1 X2 X3
  iapply (run2 I K c (oweSends c) (hl1 c))
  isplitr; · iexact HR
  isplitl [B0]; · iexact B0
  isplitl [B1]; · iexact B1
  isplitl [B2]; · iexact B2
  isplitl [Cb]; · iexact Cb
  isplitl [HO]; · iexact HO
  isplitl [Pb]; · iexact Pb
  iintro B0 B1 aS0 aS1 aS2 aS3 HO Vb Y0 Y1 Y2 Y3 Y4 Y5 %v762
  ihave Y0 := (bar0 c) $$ Y0
  icases Y0 with ⟨aR3, eR3⟩
  ihave Y1 := (bar1 c) $$ Y1
  icases Y1 with ⟨bR3, dR3⟩
  ihave Y2 := (bar2 c) $$ Y2
  icases Y2 with ⟨aR2, eR2⟩
  ihave Y3 := (bar3 c) $$ Y3
  icases Y3 with ⟨bR2, dR2⟩
  ihave Y4 := (bar4 c) $$ Y4
  icases Y4 with ⟨aR1, eR1⟩
  ihave Y5 := (bar5 c) $$ Y5
  icases Y5 with ⟨bR1, dR1⟩
  iapply (run3 I K c (sends c 1 ++ (sends c 2 ++ sends c 3)) (hl2 c))
  isplitr; · iexact HR
  isplitl [B0]; · iexact B0
  isplitl [B1]; · iexact B1
  isplitl [B4]; · iexact B4
  isplitl [aS1]; · iexact aS1
  isplitl [aS2]; · iexact aS2
  isplitl [aS3]; · iexact aS3
  isplitl [aR1]; · iexact aR1
  isplitl [aR2]; · iexact aR2
  isplitl [aR3]; · iexact aR3
  isplitl [St01]; · iexact St01
  isplitl [St02]; · iexact St02
  isplitl [St03]; · iexact St03
  isplitl [Rt01]; · iexact Rt01
  isplitl [HO]; · iexact HO
  iintro B0 B1 B4 Cs01 Cs02 Cs03 HO Vr01 aR1 %v785 %v808
  iapply (run4 I K c (sends c 1 ++ (sends c 2 ++ sends c 3)) (hl2 c))
  isplitr; · iexact HR
  isplitl [B4]; · iexact B4
  isplitl [aR1]; · iexact aR1
  isplitl [Rt02]; · iexact Rt02
  isplitl [Rt03]; · iexact Rt03
  isplitl [HO]; · iexact HO
  iintro B4 aR1 aR2 aR3 HO Vr02 Vr03
  iapply (run5 I c)
  isplitl [B4]; · iexact B4
  isplitl [B5]; · iexact B5
  iintro B4 bS0 bS1 bS2 bS3 %v985
  iapply (run6 I K c (sends c 2 ++ sends c 3) (hl3 c))
  isplitr; · iexact HR
  isplitl [B4]; · iexact B4
  isplitl [bS1]; · iexact bS1
  isplitl [bS2]; · iexact bS2
  isplitl [bS3]; · iexact bS3
  isplitl [bR1]; · iexact bR1
  isplitl [bR2]; · iexact bR2
  isplitl [bR3]; · iexact bR3
  isplitl [St11]; · iexact St11
  isplitl [St12]; · iexact St12
  isplitl [St13]; · iexact St13
  isplitl [Rt11]; · iexact Rt11
  isplitl [Rt12]; · iexact Rt12
  isplitl [Rt13]; · iexact Rt13
  isplitl [HO]; · iexact HO
  iintro B4 bR1 bR2 bR3 Cs11 Cs12 Cs13 HO Vr11 Vr12 Vr13 %v1068 %v1078 %hT
  iapply (run7 I c v1068 v1078 hT)
  isplitl [B7]; · iexact B7
  iintro B7 %v1243 %v1244 %v1245 %v1246 %v1247
  ihave B7 := (split_dS c _) $$ B7
  icases B7 with ⟨dS0, dS1, dS2, dS3⟩
  ihave dS0 := (Entails.of_eq (load_dS c (qs 0) (CB I c))) $$ dS0
  iapply (run8 I K c (sends c 3) (hl4 c))
  isplitr; · iexact HR
  isplitl [dS0]; · iexact dS0
  isplitl [dS1]; · iexact dS1
  isplitl [dS2]; · iexact dS2
  isplitl [dS3]; · iexact dS3
  isplitl [B9]; · iexact B9
  isplitl [B11]; · iexact B11
  isplitl [dR1]; · iexact dR1
  isplitl [dR2]; · iexact dR2
  isplitl [dR3]; · iexact dR3
  isplitl [St21]; · iexact St21
  isplitl [St22]; · iexact St22
  isplitl [St23]; · iexact St23
  isplitl [Rt21]; · iexact Rt21
  isplitl [Rt22]; · iexact Rt22
  isplitl [Rt23]; · iexact Rt23
  isplitl [HO]; · iexact HO
  iintro dS0 B9 B11 dR1 dR2 dR3 Cs21 Cs22 Cs23 HO Vr21 Vr22 Vr23 %v1427
  ihave B9 := (split_eS c _) $$ B9
  icases B9 with ⟨eS0, eS1, eS2, eS3⟩
  iapply (run9 I K c)
  isplitr; · iexact HR
  isplitl [eS1]; · iexact eS1
  isplitl [eS2]; · iexact eS2
  isplitl [eS3]; · iexact eS3
  isplitl [B11]; · iexact B11
  isplitl [X4]; · iexact X4
  isplitl [X5]; · iexact X5
  isplitl [eR1]; · iexact eR1
  isplitl [eR2]; · iexact eR2
  isplitl [eR3]; · iexact eR3
  isplitl [St31]; · iexact St31
  isplitl [St32]; · iexact St32
  isplitl [St33]; · iexact St33
  isplitl [Rt31]; · iexact Rt31
  isplitl [Rt32]; · iexact Rt32
  isplitl [Rt33]; · iexact Rt33
  isplitl [HO]; · iexact HO
  isplitl [Cs01 Ps01]
  · isplitl [Cs01]; · iexact Cs01
    iexact Ps01
  isplitl [Cs02 Ps02]
  · isplitl [Cs02]; · iexact Cs02
    iexact Ps02
  iintro B11 X4 X5 eR1 eR2 eR3 Cs31 Cs32 Cs33 HO Vs01 Vs02 aS1 aS2 Vr31 Vr32 Vr33
  iapply (run11 I K c)
  isplitr; · iexact HR
  isplitl [Cs03 Ps03]
  · isplitl [Cs03]; · iexact Cs03
    iexact Ps03
  isplitl [Cs11 Ps11]
  · isplitl [Cs11]; · iexact Cs11
    iexact Ps11
  isplitl [Cs12 Ps12]
  · isplitl [Cs12]; · iexact Cs12
    iexact Ps12
  isplitl [Cs13 Ps13]
  · isplitl [Cs13]; · iexact Cs13
    iexact Ps13
  isplitl [Cs21 Ps21]
  · isplitl [Cs21]; · iexact Cs21
    iexact Ps21
  isplitl [Cs22 Ps22]
  · isplitl [Cs22]; · iexact Cs22
    iexact Ps22
  isplitl [Cs23 Ps23]
  · isplitl [Cs23]; · iexact Cs23
    iexact Ps23
  isplitl [Cs31 Ps31]
  · isplitl [Cs31]; · iexact Cs31
    iexact Ps31
  isplitl [Cs32 Ps32]
  · isplitl [Cs32]; · iexact Cs32
    iexact Ps32
  isplitl [HO]; · iexact HO
  iintro aS3 bS1 bS2 bS3 dS1 dS2 dS3 eS1 eS2 Vs03 Vs11 Vs12 Vs13 Vs21 Vs22 Vs23 Vs31 Vs32 HO
  simp only [Prog.lift, Prog.bind_op, Prog.bind_ret, Prog.pure_eq_ret]
  iapply (step_sent I K c 3 3 (by decide) _ rfl (src := eR 3) (dst := eS) rfl) $$ [Cs33 HO Ps33]
  · isplitr; · iexact HR
    isplitl [Cs33]; · iexact Cs33
    isplitl [HO] <;> iassumption
  iintro ⟨HO, Vs33, eS3⟩
  ihave eS3 := (Entails.of_eq (sendPay_e I 3 c)) $$ eS3
  rw [wp_ret]
  imodintro
  ihave dS0 := (Entails.of_eq (load_dS c (qs 0) (CB I c)).symm) $$ dS0
  ihave B7 := (join_dS c (CB I c)) $$ [dS0 dS1 dS2 dS3]
  · isplitl [dS0]; · iexact dS0
    isplitl [dS1]; · iexact dS1
    isplitl [dS2] <;> iassumption
  ihave B9 := (join_eS c (CG I c)) $$ [eS0 eS1 eS2 eS3]
  · isplitl [eS0]; · iexact eS0
    isplitl [eS1]; · iexact eS1
    isplitl [eS2] <;> iassumption
  ihave B2 := (join_aS c) $$ [aS0 aS1 aS2 aS3]
  · isplitl [aS0]; · iexact aS0
    isplitl [aS1]; · iexact aS1
    isplitl [aS2] <;> iassumption
  ihave B3 := (join_aR c) $$ [aR0 aR1 aR2 aR3]
  · isplitl [aR0]; · iexact aR0
    isplitl [aR1]; · iexact aR1
    isplitl [aR2] <;> iassumption
  ihave B5 := (join_bS c) $$ [bS0 bS1 bS2 bS3]
  · isplitl [bS0]; · iexact bS0
    isplitl [bS1]; · iexact bS1
    isplitl [bS2] <;> iassumption
  ihave B6 := (join_bR c) $$ [bR0 bR1 bR2 bR3]
  · isplitl [bR0]; · iexact bR0
    isplitl [bR1]; · iexact bR1
    isplitl [bR2] <;> iassumption
  ihave B8 := (join_dR c) $$ [dR0 dR1 dR2 dR3]
  · isplitl [dR0]; · iexact dR0
    isplitl [dR1]; · iexact dR1
    isplitl [dR2] <;> iassumption
  ihave B10 := (join_eR c) $$ [eR0 eR1 eR2 eR3]
  · isplitl [eR0]; · iexact eR0
    isplitl [eR1]; · iexact eR1
    isplitl [eR2] <;> iassumption
  ihave B0 := (ownP_ex c cc0_scratch0 _) $$ B0
  ihave B1 := (ownP_ex c cc0_scratch1 _) $$ B1
  ihave B4 := (ownP_ex c cc0_scratch4 _) $$ B4
  iapply Hk $$ [HO] [Vb] [Vs01 Vs02 Vs03 Vs11 Vs12 Vs13 Vs21 Vs22 Vs23 Vs31 Vs32 Vs33] [Vr01 Vr02 Vr03 Vr11 Vr12 Vr13 Vr21 Vr22 Vr23 Vr31 Vr32 Vr33] [X0] [X1] [X2] [X3] [X4] [X5] [B0 B1 B2 B3 B4 B5 B6 B7 B8 B9 B10 B11]
  · iexact HO
  · iexact Vb
  · unfold sentVals
    isplitl [Vs01]; · iexact Vs01
    isplitl [Vs02]; · iexact Vs02
    isplitl [Vs03]; · iexact Vs03
    isplitl [Vs11]; · iexact Vs11
    isplitl [Vs12]; · iexact Vs12
    isplitl [Vs13]; · iexact Vs13
    isplitl [Vs21]; · iexact Vs21
    isplitl [Vs22]; · iexact Vs22
    isplitl [Vs23]; · iexact Vs23
    isplitl [Vs31]; · iexact Vs31
    isplitl [Vs32]; · iexact Vs32
    iexact Vs33
  · unfold recvVals
    isplitl [Vr01]; · iexact Vr01
    isplitl [Vr02]; · iexact Vr02
    isplitl [Vr03]; · iexact Vr03
    isplitl [Vr11]; · iexact Vr11
    isplitl [Vr12]; · iexact Vr12
    isplitl [Vr13]; · iexact Vr13
    isplitl [Vr21]; · iexact Vr21
    isplitl [Vr22]; · iexact Vr22
    isplitl [Vr23]; · iexact Vr23
    isplitl [Vr31]; · iexact Vr31
    isplitl [Vr32]; · iexact Vr32
    iexact Vr33
  · iexact X0
  · iexact X1
  · iexact X2
  · iexact X3
  · iexact X4
  · iexact X5
  · try unfold bufs
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexists _; iexact B7
    isplitl [B8]; · iexact B8
    isplitl [B9]; · iexists _; iexact B9
    isplitl [B10]; · iexact B10
    iexact B11

end Cert.KProof
-- ==== Proof.Ghost.lean ====
/- The launch's ghost state: the cells, the duties and who pays them. -/
module
public import proofs.«01_k».proof.Proof.Body
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-! ## The launch's ghost state -/

omit [FloatOps F] in
/-- The first two of a list. -/
theorem list_two {A : Type} (a b : A) (l : List A) (Φ : A → sProp 𝕄) : bigSepL (a :: b :: l) Φ = iprop(Φ a ∗ bigSepL (b :: l) Φ) := bigSepL_cons_cons ..

/-- The kernel's own semaphores. -/
abbrev osem : Fin 32 → SemLoc sig := fun k => .dma (dsem k)
set_option maxRecDepth 8000 in
/-- The kernel's own semaphores. -/
theorem ownSemFacts : Pipeline.OwnSemFacts cfg0.spec osem := by decide +kernel

/-- The cells of a device are distinct, -/
theorem csem_injective : Function.Injective csem := by
  intro a b h
  by_contra hn
  revert a b
  decide +kernel
/-- and so are those of the mesh, -/
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- The protocol's cells. -/
def protoCells : Finset (GSem nD τ sig) := Finset.univ.map ⟨kcell, kcell_injective⟩

/-- The duties of the device's own cells: one of each transfer semaphore, six of the barrier. -/
def tokOf (cj : Dev nD × (Fin 32 ⊕ Fin 6)) : GSem nD τ sig × ℕ × Fin 6 := match cj.2 with
  | .inl k => (dcell k cj.1, 0, 0)
  | .inr i => (barCell cj.1, 0, i)
/-- and the copy cells, -/
theorem dsem_injective {k k' : Fin 32} (h : dsem k = dsem k') : k = k' := by
  apply Fin.ext
  have := congrArg Fin.val h
  dsimp only at this
  omega
/-- and the tokens. -/
theorem tokOf_injective : Function.Injective tokOf := by
  rintro ⟨c, j⟩ ⟨c', j'⟩ h
  have h1 : c = c' := by
    have := congrArg (fun x : GSem nD τ sig × ℕ × Fin 6 => x.1.1.1) h
    rcases j with k | i <;> rcases j' with k' | i' <;> exact this
  subst h1
  have hs := congrArg (fun x : GSem nD τ sig × ℕ × Fin 6 => x.1.2) h
  have hd := congrArg (fun x : GSem nD τ sig × ℕ × Fin 6 => x.2.2) h
  rcases j with k | i <;> rcases j' with k' | i'
  · have : k = k' := dsem_injective (SemLoc.dma.inj hs)
    rw [this]
  · exact absurd hs (fun e => by cases e)
  · exact absurd hs (fun e => by cases e)
  · have : i = i' := hd
    rw [this]
/-- All duties. -/
def protoToks : Finset (GSem nD τ sig × ℕ × Fin 6) := Finset.univ.map ⟨tokOf, tokOf_injective⟩

/-- The launch's element: the pipeline's part and the protocol's. -/
def u₀ : UU :=
  (initOf (Pipeline.cells cfgs cellOf_inj) (Pipeline.launchToks cfgs cellOf_inj), initOf protoCells protoToks)

/-- The token of one duty of device `c`'s own cells. -/
def tk (c : Dev nD) (j : Fin 32 ⊕ Fin 6) : sProp 𝕄 := dutyTok ER (tokOf (c, j)).1 (tokOf (c, j)).2.1 (tokOf (c, j)).2.2

/-- The peers as permutations of the mesh, -/
def peerE (s m : Fin 4) : Dev nD ≃ Dev nD := ⟨peer s m, peer s (opp m), peer_opp s m, peer_opp' s m⟩
/-- and the signals' targets. -/
def sigE (i : Fin 6) : Dev nD ≃ Dev nD := ⟨sigTo i, sigFrom i, sigFrom_sigTo i, sigTo_sigFrom i⟩
/-- Whose duty `j` a device pays. -/
def payee : Fin 32 ⊕ Fin 6 → (Dev nD ≃ Dev nD)
  | .inl k => if k.val % 8 < 4 then Equiv.refl _ else peerE ⟨k.val / 8 % 4, Nat.mod_lt _ (by decide)⟩ ⟨k.val % 4, Nat.mod_lt _ (by decide)⟩
  | .inr i => sigE i

/-- A sending cell is paid by its own device, -/
theorem payee_send (s m : Fin 4) : payee (.inl (sendK s m)) = Equiv.refl _ := if_pos (by revert s m; decide)
/-- a receiving cell by the peer. -/
theorem payee_recv (s m : Fin 4) : payee (.inl (recvK s m)) = peerE s m :=
  (if_neg (by revert s m; decide)).trans (congrArg₂ peerE (by revert s m; decide) (by revert s m; decide))
omit [FloatOps F] in
/-- The token of a sending cell, -/
theorem tk_send (s m : Fin 4) (c : Dev nD) : tk (F := F) (payee (.inl (sendK s m)) c) (.inl (sendK s m)) = dutyTok ER (sendCell s m c) 0 0 := by
  rw [payee_send]; rfl
omit [FloatOps F] in
/-- of a receiving cell, -/
theorem tk_recv (s m : Fin 4) (c : Dev nD) : tk (F := F) (payee (.inl (recvK s m)) c) (.inl (recvK s m)) = dutyTok ER (recvCell s m (peer s m c)) 0 0 := by
  rw [payee_recv]; rfl
omit [FloatOps F] in
/-- and of a barrier signal. -/
theorem tk_bar (i : Fin 6) (c : Dev nD) : tk (F := F) (payee (.inr i) c) (.inr i) = dutyTok ER (barCell (sigTo i c)) 0 i := rfl

/-- The duties a device pays. -/
def payAll (c : Dev nD) : sProp 𝕄 := bigSep Finset.univ fun j => tk (payee j c) j

omit [FloatOps F] in
/-- The tokens go to those who pay. -/
theorem toks_dealt : (bigSep Finset.univ fun c : Dev nD => bigSep Finset.univ fun j => (tk c j : sProp 𝕄)) ⊢ bigSep Finset.univ fun c : Dev nD => payAll c := by
  unfold payAll
  rw [bigSep_univ_comm, bigSep_univ_comm (fun (c : Dev nD) j => (tk (payee j c) j : sProp 𝕄))]
  exact bigSep_mono fun j _ => Entails.of_eq (bigSep_univ_equiv (payee j) (fun c => (tk c j : sProp 𝕄)))

set_option maxRecDepth 8000 in
omit [FloatOps F] in
/-- A device's tokens: those of the barrier and those of the copies. -/
theorem payAll_split (c : Dev nD) : payAll (F := F) c ⊢ iprop(barToks c ∗ sendToks c) := by
  unfold payAll
  rw [bigSep_univ_eq_bigSepL [.inl (sendK 0 0), .inl (sendK 0 1), .inl (sendK 0 2), .inl (sendK 0 3), .inl (sendK 1 0), .inl (sendK 1 1), .inl (sendK 1 2), .inl (sendK 1 3), .inl (sendK 2 0), .inl (sendK 2 1), .inl (sendK 2 2), .inl (sendK 2 3), .inl (sendK 3 0), .inl (sendK 3 1), .inl (sendK 3 2), .inl (sendK 3 3), .inl (recvK 0 0), .inl (recvK 0 1), .inl (recvK 0 2), .inl (recvK 0 3), .inl (recvK 1 0), .inl (recvK 1 1), .inl (recvK 1 2), .inl (recvK 1 3), .inl (recvK 2 0), .inl (recvK 2 1), .inl (recvK 2 2), .inl (recvK 2 3), .inl (recvK 3 0), .inl (recvK 3 1), .inl (recvK 3 2), .inl (recvK 3 3), .inr 0, .inr 1, .inr 2, .inr 3, .inr 4, .inr 5] (by decide +kernel) (by decide +kernel)]
  simp only [list_two, bigSepL_singleton, tk_send, tk_recv, tk_bar]
  unfold barToks sendToks
  iintro ⟨s00, s01, s02, s03, s10, s11, s12, s13, s20, s21, s22, s23, s30, s31, s32, s33, r00, r01, r02, r03, r10, r11, r12, r13, r20, r21, r22, r23, r30, r31, r32, r33, b0, b1, b2, b3, b4, b5⟩
  isplitl [b0 b1 b2 b3 b4 b5]
  ·
    isplitl [b0]; · iexact b0
    isplitl [b1]; · iexact b1
    isplitl [b2]; · iexact b2
    isplitl [b3]; · iexact b3
    isplitl [b4]; · iexact b4
    iexact b5
  isplitl [s01 r01]; · (isplitl [s01] <;> iassumption)
  isplitl [s02 r02]; · (isplitl [s02] <;> iassumption)
  isplitl [s03 r03]; · (isplitl [s03] <;> iassumption)
  isplitl [s11 r11]; · (isplitl [s11] <;> iassumption)
  isplitl [s12 r12]; · (isplitl [s12] <;> iassumption)
  isplitl [s13 r13]; · (isplitl [s13] <;> iassumption)
  isplitl [s21 r21]; · (isplitl [s21] <;> iassumption)
  isplitl [s22 r22]; · (isplitl [s22] <;> iassumption)
  isplitl [s23 r23]; · (isplitl [s23] <;> iassumption)
  isplitl [s31 r31]; · (isplitl [s31] <;> iassumption)
  isplitl [s32 r32]; · (isplitl [s32] <;> iassumption)
  isplitl [s33] <;> iassumption

/-- The positions of a device's cells. -/
def posAll (c : Dev nD) : sProp 𝕄 := bigSep Finset.univ fun k : Fin 33 => atPos ER (kcell (c, k)) 0 ∅ 0
/-- The positions of the arrivals, -/
def recvPos (c : Dev nD) : sProp 𝕄 := iprop(atPos ER (recvCell 0 1 c) 0 ∅ 0 ∗ atPos ER (recvCell 0 2 c) 0 ∅ 0 ∗ atPos ER (recvCell 0 3 c) 0 ∅ 0 ∗ atPos ER (recvCell 1 1 c) 0 ∅ 0 ∗ atPos ER (recvCell 1 2 c) 0 ∅ 0 ∗ atPos ER (recvCell 1 3 c) 0 ∅ 0 ∗ atPos ER (recvCell 2 1 c) 0 ∅ 0 ∗ atPos ER (recvCell 2 2 c) 0 ∅ 0 ∗ atPos ER (recvCell 2 3 c) 0 ∅ 0 ∗ atPos ER (recvCell 3 1 c) 0 ∅ 0 ∗ atPos ER (recvCell 3 2 c) 0 ∅ 0 ∗ atPos ER (recvCell 3 3 c) 0 ∅ 0)
/-- of the semaphores that no copy uses. -/
def idlePos (c : Dev nD) : sProp 𝕄 := iprop(atPos ER (sendCell 0 0 c) 0 ∅ 0 ∗ atPos ER (sendCell 1 0 c) 0 ∅ 0 ∗ atPos ER (sendCell 2 0 c) 0 ∅ 0 ∗ atPos ER (sendCell 3 0 c) 0 ∅ 0 ∗ atPos ER (recvCell 0 0 c) 0 ∅ 0 ∗ atPos ER (recvCell 1 0 c) 0 ∅ 0 ∗ atPos ER (recvCell 2 0 c) 0 ∅ 0 ∗ atPos ER (recvCell 3 0 c) 0 ∅ 0)
/-- These semaphores at rest. -/
def idleVals (c : Dev nD) : sProp 𝕄 := iprop(semVal (sendCell 0 0 c) 0 ∗ semVal (sendCell 1 0 c) 0 ∗ semVal (sendCell 2 0 c) 0 ∗ semVal (sendCell 3 0 c) 0 ∗ semVal (recvCell 0 0 c) 0 ∗ semVal (recvCell 1 0 c) 0 ∗ semVal (recvCell 2 0 c) 0 ∗ semVal (recvCell 3 0 c) 0)

omit [FloatOps F] in
/-- The position at a copy cell, -/
theorem pos_dma (k : Fin 32) (c : Dev nD) : (atPos ER (kcell (c, k.castSucc)) 0 ∅ 0 : sProp 𝕄) = atPos ER (dcell k c) 0 ∅ 0 := by
  unfold kcell; rw [csem_dma]
omit [FloatOps F] in
/-- and at the barrier cell. -/
theorem pos_bar (c : Dev nD) : (atPos ER (kcell (c, Fin.last 32)) 0 ∅ 0 : sProp 𝕄) = atPos ER (barCell c) 0 ∅ 0 := by
  unfold kcell; rw [csem_bar]

set_option maxRecDepth 8000 in
omit [FloatOps F] in
/-- A device's positions, by kind of cell. -/
theorem posAll_split (c : Dev nD) : posAll (F := F) c ⊢ iprop(sentPos c ∗ recvPos c ∗ idlePos c ∗ atPos ER (barCell c) 0 ∅ 0) := by
  unfold posAll
  rw [bigSep_univ_eq_bigSepL [(sendK 0 0).castSucc, (sendK 0 1).castSucc, (sendK 0 2).castSucc, (sendK 0 3).castSucc, (sendK 1 0).castSucc, (sendK 1 1).castSucc, (sendK 1 2).castSucc, (sendK 1 3).castSucc, (sendK 2 0).castSucc, (sendK 2 1).castSucc, (sendK 2 2).castSucc, (sendK 2 3).castSucc, (sendK 3 0).castSucc, (sendK 3 1).castSucc, (sendK 3 2).castSucc, (sendK 3 3).castSucc, (recvK 0 0).castSucc, (recvK 0 1).castSucc, (recvK 0 2).castSucc, (recvK 0 3).castSucc, (recvK 1 0).castSucc, (recvK 1 1).castSucc, (recvK 1 2).castSucc, (recvK 1 3).castSucc, (recvK 2 0).castSucc, (recvK 2 1).castSucc, (recvK 2 2).castSucc, (recvK 2 3).castSucc, (recvK 3 0).castSucc, (recvK 3 1).castSucc, (recvK 3 2).castSucc, (recvK 3 3).castSucc, Fin.last 32] (by decide +kernel) (by decide +kernel)]
  simp only [list_two, bigSepL_singleton, pos_dma, pos_bar]
  unfold sentPos recvPos idlePos
  iintro ⟨s00, s01, s02, s03, s10, s11, s12, s13, s20, s21, s22, s23, s30, s31, s32, s33, r00, r01, r02, r03, r10, r11, r12, r13, r20, r21, r22, r23, r30, r31, r32, r33, b⟩
  isplitl [s01 s02 s03 s11 s12 s13 s21 s22 s23 s31 s32 s33]
  ·
    isplitl [s01]; · iexact s01
    isplitl [s02]; · iexact s02
    isplitl [s03]; · iexact s03
    isplitl [s11]; · iexact s11
    isplitl [s12]; · iexact s12
    isplitl [s13]; · iexact s13
    isplitl [s21]; · iexact s21
    isplitl [s22]; · iexact s22
    isplitl [s23]; · iexact s23
    isplitl [s31]; · iexact s31
    isplitl [s32]; · iexact s32
    iexact s33
  isplitl [r01 r02 r03 r11 r12 r13 r21 r22 r23 r31 r32 r33]
  ·
    isplitl [r01]; · iexact r01
    isplitl [r02]; · iexact r02
    isplitl [r03]; · iexact r03
    isplitl [r11]; · iexact r11
    isplitl [r12]; · iexact r12
    isplitl [r13]; · iexact r13
    isplitl [r21]; · iexact r21
    isplitl [r22]; · iexact r22
    isplitl [r23]; · iexact r23
    isplitl [r31]; · iexact r31
    isplitl [r32]; · iexact r32
    iexact r33
  isplitl [s00 s10 s20 s30 r00 r10 r20 r30]
  ·
    isplitl [s00]; · iexact s00
    isplitl [s10]; · iexact s10
    isplitl [s20]; · iexact s20
    isplitl [s30]; · iexact s30
    isplitl [r00]; · iexact r00
    isplitl [r10]; · iexact r10
    isplitl [r20]; · iexact r20
    iexact r30
  iexact b

omit [FloatOps F] in
/-- The counter of a copy cell, -/
theorem val_dma (k : Fin 32) (c : Dev nD) : (semVal (kcell (c, k.castSucc)) 0 : sProp 𝕄) = semVal (dcell k c) 0 := by
  unfold kcell; rw [csem_dma]
omit [FloatOps F] in
/-- and of the barrier cell. -/
theorem val_bar (c : Dev nD) : (semVal (kcell (c, Fin.last 32)) 0 : sProp 𝕄) = semVal (barCell c) 0 := by
  unfold kcell; rw [csem_bar]
omit [FloatOps F] in
/-- The only semaphore that outlives the call is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

set_option maxRecDepth 8000 in
omit [FloatOps F] in
/-- All the protocol's semaphores at rest. -/
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, Pipeline.ownSems0_eq_of_list c osem [sendK 0 0, sendK 0 1, sendK 0 2, sendK 0 3, sendK 1 0, sendK 1 1, sendK 1 2, sendK 1 3, sendK 2 0, sendK 2 1, sendK 2 2, sendK 2 3, sendK 3 0, sendK 3 1, sendK 3 2, sendK 3 3, recvK 0 0, recvK 0 1, recvK 0 2, recvK 0 3, recvK 1 0, recvK 1 1, recvK 1 2, recvK 1 3, recvK 2 0, recvK 2 1, recvK 2 2, recvK 2 3, recvK 3 0, recvK 3 1, recvK 3 2, recvK 3 3] (by decide +kernel) (by decide +kernel),
    bigSep_univ_eq_bigSepL [(sendK 0 0).castSucc, (sendK 0 1).castSucc, (sendK 0 2).castSucc, (sendK 0 3).castSucc, (sendK 1 0).castSucc, (sendK 1 1).castSucc, (sendK 1 2).castSucc, (sendK 1 3).castSucc, (sendK 2 0).castSucc, (sendK 2 1).castSucc, (sendK 2 2).castSucc, (sendK 2 3).castSucc, (sendK 3 0).castSucc, (sendK 3 1).castSucc, (sendK 3 2).castSucc, (sendK 3 3).castSucc, (recvK 0 0).castSucc, (recvK 0 1).castSucc, (recvK 0 2).castSucc, (recvK 0 3).castSucc, (recvK 1 0).castSucc, (recvK 1 1).castSucc, (recvK 1 2).castSucc, (recvK 1 3).castSucc, (recvK 2 0).castSucc, (recvK 2 1).castSucc, (recvK 2 2).castSucc, (recvK 2 3).castSucc, (recvK 3 0).castSucc, (recvK 3 1).castSucc, (recvK 3 2).castSucc, (recvK 3 3).castSucc, Fin.last 32] (by decide +kernel) (by decide +kernel)]
  simp only [list_two, bigSepL_singleton, val_dma, val_bar]
  iintro ⟨⟨s00, s01, s02, s03, s10, s11, s12, s13, s20, s21, s22, s23, s30, s31, s32, s33, r00, r01, r02, r03, r10, r11, r12, r13, r20, r21, r22, r23, r30, r31, r32, r33⟩, b⟩
  isplitl [s00]; · iexact s00
  isplitl [s01]; · iexact s01
  isplitl [s02]; · iexact s02
  isplitl [s03]; · iexact s03
  isplitl [s10]; · iexact s10
  isplitl [s11]; · iexact s11
  isplitl [s12]; · iexact s12
  isplitl [s13]; · iexact s13
  isplitl [s20]; · iexact s20
  isplitl [s21]; · iexact s21
  isplitl [s22]; · iexact s22
  isplitl [s23]; · iexact s23
  isplitl [s30]; · iexact s30
  isplitl [s31]; · iexact s31
  isplitl [s32]; · iexact s32
  isplitl [s33]; · iexact s33
  isplitl [r00]; · iexact r00
  isplitl [r01]; · iexact r01
  isplitl [r02]; · iexact r02
  isplitl [r03]; · iexact r03
  isplitl [r10]; · iexact r10
  isplitl [r11]; · iexact r11
  isplitl [r12]; · iexact r12
  isplitl [r13]; · iexact r13
  isplitl [r20]; · iexact r20
  isplitl [r21]; · iexact r21
  isplitl [r22]; · iexact r22
  isplitl [r23]; · iexact r23
  isplitl [r30]; · iexact r30
  isplitl [r31]; · iexact r31
  isplitl [r32]; · iexact r32
  isplitl [r33]; · iexact r33
  iexact b

set_option maxRecDepth 8000 in
omit [FloatOps F] in
/-- The transfer semaphores at rest are the three families. -/
theorem ownSems_join (c : Dev nD) : iprop(sentVals (F := F) c ∗ recvVals c ∗ idleVals c)
    ⊢ (Pipeline.ownSems0 (Ix := Unit) (Name := ℕ) (U := UU) (Lvl := ℕ) (Val := Elt F) (τ := τ) osem c : sProp 𝕄) := by
  rw [Pipeline.ownSems0_eq_of_list c osem [sendK 0 0, sendK 0 1, sendK 0 2, sendK 0 3, sendK 1 0, sendK 1 1, sendK 1 2, sendK 1 3, sendK 2 0, sendK 2 1, sendK 2 2, sendK 2 3, sendK 3 0, sendK 3 1, sendK 3 2, sendK 3 3, recvK 0 0, recvK 0 1, recvK 0 2, recvK 0 3, recvK 1 0, recvK 1 1, recvK 1 2, recvK 1 3, recvK 2 0, recvK 2 1, recvK 2 2, recvK 2 3, recvK 3 0, recvK 3 1, recvK 3 2, recvK 3 3] (by decide +kernel) (by decide +kernel)]
  simp only [list_two, bigSepL_singleton]
  unfold sentVals recvVals idleVals
  iintro ⟨⟨s01, s02, s03, s11, s12, s13, s21, s22, s23, s31, s32, s33⟩, ⟨r01, r02, r03, r11, r12, r13, r21, r22, r23, r31, r32, r33⟩, IN2⟩
  icases IN2 with ⟨s00, s10, s20, s30, r00, r10, r20, r30⟩
  isplitl [s00]; · iexact s00
  isplitl [s01]; · iexact s01
  isplitl [s02]; · iexact s02
  isplitl [s03]; · iexact s03
  isplitl [s10]; · iexact s10
  isplitl [s11]; · iexact s11
  isplitl [s12]; · iexact s12
  isplitl [s13]; · iexact s13
  isplitl [s20]; · iexact s20
  isplitl [s21]; · iexact s21
  isplitl [s22]; · iexact s22
  isplitl [s23]; · iexact s23
  isplitl [s30]; · iexact s30
  isplitl [s31]; · iexact s31
  isplitl [s32]; · iexact s32
  isplitl [s33]; · iexact s33
  isplitl [r00]; · iexact r00
  isplitl [r01]; · iexact r01
  isplitl [r02]; · iexact r02
  isplitl [r03]; · iexact r03
  isplitl [r10]; · iexact r10
  isplitl [r11]; · iexact r11
  isplitl [r12]; · iexact r12
  isplitl [r13]; · iexact r13
  isplitl [r20]; · iexact r20
  isplitl [r21]; · iexact r21
  isplitl [r22]; · iexact r22
  isplitl [r23]; · iexact r23
  isplitl [r30]; · iexact r30
  isplitl [r31]; · iexact r31
  isplitl [r32]; · iexact r32
  iexact r33

variable (I : Dev nD → Ins F)

/-- The launch element's part for device `c`. -/
def G (c : Dev nD) : sProp 𝕄 :=
  iprop((bigSep Finset.univ fun k : Fin 33 => roundState ER (Rd I) (kcell (c, k)) 0)
    ∗ (bigSep Finset.univ fun k : Fin 33 => iprop(atPos ER (kcell (c, k)) 0 ∅ 0 ∗ reached ER (kcell (c, k)) 0)) ∗ bigSep Finset.univ fun j => tk c j)

/-- The cells' invariants and that each has reached its round. -/
def recs₀ (K : Dev nD × Fin 33 → ℕ) : sProp 𝕄 :=
  bigSep Finset.univ (fun ck : Dev nD × Fin 33 => iprop(cellInv ER (Rd I) (K ck) (kcell ck) ∗ reached ER (kcell ck) 0))
instance recs₀_persistent (K : Dev nD × Fin 33 → ℕ) : BI.Persistent (recs₀ I K) := by unfold recs₀; infer_instance
/-- The records of the cells' invariants. -/
theorem recs_of (K : Dev nD × Fin 33 → ℕ) : iprop(recs₀ I K ∗ levAts L lv) ⊢ recs I K := by
  unfold recs recs₀ levs; iintro H; iexact H

/-- What the global step makes of it. -/
def G' (c : Dev nD) : sProp 𝕄 := iprop(∃ K, recs₀ I K ∗ posAll c ∗ payAll c)

/-- The protocol is funded once, -/
theorem fund_proto : BI.own (ER (initOf protoCells protoToks)) ⊢ (|==> bigSep Finset.univ (G I) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => bigSep Finset.univ fun j => tk c j := by
    unfold protoToks; rw [bigSep_map, bigSep_univ_prod]; rfl
  iintro HX
  imod (Rounds.fund ER (Rd I) protoCells protoToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- a cell is open at its first round, -/
theorem inv_reached (g : GSem nD τ sig) : (iprop((∃ κ : ℕ, cellInv ER (Rd I) κ g) ∗ reached ER g 0) : sProp 𝕄) ⊢ iprop(∃ κ : ℕ, cellInv ER (Rd I) κ g ∗ reached ER g 0) := by
  iintro ⟨⟨%κ, H⟩, Hr⟩
  iexists κ
  isplitl [H] <;> iassumption

/-- a device's cells are allocated, -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k)) ∗ reached ER (kcell (c, k)) 0))
          ∗ posAll c ∗ bigSep Finset.univ fun j => tk c j) := by
  unfold G posAll
  rw [bigSep_sep']
  iintro ⟨Hos, Hus, Hst, ⟨Hat, Hr⟩, Htok⟩
  ihave Hv := (sems_all (F := F) c) $$ [Hos Hus]
  · isplitl [Hos] <;> iassumption
  imod (show iprop((bigSep Finset.univ fun k : Fin 33 => semVal (kcell (c, k)) 0) ∗ bigSep Finset.univ fun k : Fin 33 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv Hr]
  · iapply (show iprop((bigSep Finset.univ fun k : Fin 33 => iprop(∃ κ : ℕ, cellInv ER (Rd I) κ (kcell (c, k)))) ∗ bigSep Finset.univ fun k : Fin 33 => reached ER (kcell (c, k)) 0)
        ⊢ (bigSep Finset.univ fun k => iprop(∃ κ : ℕ, cellInv ER (Rd I) κ (kcell (c, k)) ∗ reached ER (kcell (c, k)) 0) : sProp 𝕄) from by
      rw [← bigSep_sep']
      exact bigSep_mono fun k _ => inv_reached I (kcell (c, k)))
    isplitl [Hinv] <;> iassumption
  isplitl [Hat]; · iexact Hat
  iexact Htok

/-- what is persistent goes to each device, -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- and each device is dealt its part. -/
theorem deal :
    (bigSep Finset.univ fun c : Dev nD => iprop((bigSep Finset.univ fun k => iprop(∃ κ : ℕ, cellInv ER (Rd I) κ (kcell (c, k)) ∗ reached ER (kcell (c, k)) 0))
          ∗ posAll c ∗ bigSep Finset.univ fun j => tk c j) : sProp 𝕄)
      ⊢ bigSep Finset.univ (G' I) := by
  rw [bigSep_sep', bigSep_sep', ← bigSep_univ_prod (fun ck : Dev nD × Fin 33 => iprop(∃ κ : ℕ, cellInv ER (Rd I) κ (kcell ck) ∗ reached ER (kcell ck) 0))]
  iintro ⟨HI, Hat, Htok⟩
  ihave HK := (BI.bigSep_exists_pi Finset.univ (fun (ck : Dev nD × Fin 33) (κ : ℕ) => (iprop(cellInv ER (Rd I) κ (kcell ck) ∗ reached ER (kcell ck) 0) : sProp 𝕄))) $$ HI
  icases HK with ⟨%K, HI⟩
  ihave HI := (show (bigSep Finset.univ fun ck : Dev nD × Fin 33 => iprop(cellInv ER (Rd I) (K ck) (kcell ck) ∗ reached ER (kcell ck) 0)) ⊢ recs₀ I K from by unfold recs₀; exact Entails.rfl) $$ HI
  icases HI with #HI
  ihave Htk := (toks_dealt (F := F)) $$ Htok
  iapply (share_out (R := recs₀ I K) (Φ := fun c => iprop(posAll c ∗ payAll c)) fun c => by
    unfold G'
    iintro ⟨HI, H⟩
    iexists K
    isplitl [HI] <;> iassumption)
  isplitr; · iexact HI
  rw [bigSep_sep']
  isplitl [Hat] <;> iassumption

/-- The global step: every cell's invariant is allocated, and the duties are dealt out. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (deal I))

end Cert.KProof
-- ==== Proof.Credit.lean ====
/- The credits at launch. -/
module
public import proofs.«01_k».proof.Proof.Ghost
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]
local notation "𝕄" => MT nD τ sig Unit (Elt F) ℕ UU ℕ

/-! ## What the devices owe at launch, as credits of the waits -/

/-- What a list of debts owes a cell. -/
theorem owe_at (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, tallyAt_apply, ih, List.map_cons, List.sum_cons, Nat.add_comm]
    congr 1
    by_cases h : g = p.1
    · rw [if_pos h, if_pos ⟨h, rfl⟩]
    · rw [if_neg h, if_neg fun e => h e.1]

/-- The receiving cells are distinct, -/
theorem recvK_inj {s m s' m' : Fin 4} (h : recvK s m = recvK s' m') : s = s' ∧ m = m' := by revert s m s' m'; decide +kernel
/-- on the mesh too, -/
theorem recv_iff (s m s' m' : Fin 4) (c c' : Dev nD) : (recvCell s m c = recvCell s' m' c') ↔ (s = s' ∧ m = m' ∧ c = c') := by
  constructor
  · intro h
    have h1 : c = c' := congrArg (fun g : GSem nD τ sig => g.1.1) h
    have h2 := recvK_inj (dsem_injective (SemLoc.dma.inj (congrArg Prod.snd h)))
    exact ⟨h2.1, h2.2, h1⟩
  · rintro ⟨rfl, rfl, rfl⟩; rfl
/-- and none is a barrier cell; -/
theorem recv_bar (s m : Fin 4) (c c' : Dev nD) : (recvCell s m c = barCell c') ↔ False := ⟨fun h => (nomatch (congrArg Prod.snd h)), False.elim⟩
/-- the same, read the other way. -/
theorem bar_recv (s m : Fin 4) (c c' : Dev nD) : (barCell c' = recvCell s m c) ↔ False := ⟨fun h => (nomatch (congrArg Prod.snd h)), False.elim⟩
/-- The devices' barrier cells are distinct. -/
theorem bar_iff (c c' : Dev nD) : (barCell c = barCell c') ↔ c = c' :=
  ⟨fun h => congrArg (fun g : GSem nD τ sig => g.1.1) h, fun h => h ▸ rfl⟩

/-- What a device owes a receiving cell of phase 0, distance 1, at launch. -/
theorem owed_01 (d c : Dev nD) : O₀ d (recvCell 0 1 c) () = if c = peer 0 1 d then crd ((0 : Fin 4) : ℕ) else 0 := by
  unfold O₀; rw [owe_at]; unfold oweAll oweSends sends
  simp [recv_iff, recv_bar]
/-- What a device owes a receiving cell of phase 0, distance 2, at launch. -/
theorem owed_02 (d c : Dev nD) : O₀ d (recvCell 0 2 c) () = if c = peer 0 2 d then crd ((0 : Fin 4) : ℕ) else 0 := by
  unfold O₀; rw [owe_at]; unfold oweAll oweSends sends
  simp [recv_iff, recv_bar]
/-- What a device owes a receiving cell of phase 0, distance 3, at launch. -/
theorem owed_03 (d c : Dev nD) : O₀ d (recvCell 0 3 c) () = if c = peer 0 3 d then crd ((0 : Fin 4) : ℕ) else 0 := by
  unfold O₀; rw [owe_at]; unfold oweAll oweSends sends
  simp [recv_iff, recv_bar]
/-- What a device owes a receiving cell of phase 1, distance 1, at launch. -/
theorem owed_11 (d c : Dev nD) : O₀ d (recvCell 1 1 c) () = if c = peer 1 1 d then crd ((1 : Fin 4) : ℕ) else 0 := by
  unfold O₀; rw [owe_at]; unfold oweAll oweSends sends
  simp [recv_iff, recv_bar]
/-- What a device owes a receiving cell of phase 1, distance 2, at launch. -/
theorem owed_12 (d c : Dev nD) : O₀ d (recvCell 1 2 c) () = if c = peer 1 2 d then crd ((1 : Fin 4) : ℕ) else 0 := by
  unfold O₀; rw [owe_at]; unfold oweAll oweSends sends
  simp [recv_iff, recv_bar]
/-- What a device owes a receiving cell of phase 1, distance 3, at launch. -/
theorem owed_13 (d c : Dev nD) : O₀ d (recvCell 1 3 c) () = if c = peer 1 3 d then crd ((1 : Fin 4) : ℕ) else 0 := by
  unfold O₀; rw [owe_at]; unfold oweAll oweSends sends
  simp [recv_iff, recv_bar]
/-- What a device owes a receiving cell of phase 2, distance 1, at launch. -/
theorem owed_21 (d c : Dev nD) : O₀ d (recvCell 2 1 c) () = if c = peer 2 1 d then crd ((2 : Fin 4) : ℕ) else 0 := by
  unfold O₀; rw [owe_at]; unfold oweAll oweSends sends
  simp [recv_iff, recv_bar]
/-- What a device owes a receiving cell of phase 2, distance 2, at launch. -/
theorem owed_22 (d c : Dev nD) : O₀ d (recvCell 2 2 c) () = if c = peer 2 2 d then crd ((2 : Fin 4) : ℕ) else 0 := by
  unfold O₀; rw [owe_at]; unfold oweAll oweSends sends
  simp [recv_iff, recv_bar]
/-- What a device owes a receiving cell of phase 2, distance 3, at launch. -/
theorem owed_23 (d c : Dev nD) : O₀ d (recvCell 2 3 c) () = if c = peer 2 3 d then crd ((2 : Fin 4) : ℕ) else 0 := by
  unfold O₀; rw [owe_at]; unfold oweAll oweSends sends
  simp [recv_iff, recv_bar]
/-- What a device owes a receiving cell of phase 3, distance 1, at launch. -/
theorem owed_31 (d c : Dev nD) : O₀ d (recvCell 3 1 c) () = if c = peer 3 1 d then crd ((3 : Fin 4) : ℕ) else 0 := by
  unfold O₀; rw [owe_at]; unfold oweAll oweSends sends
  simp [recv_iff, recv_bar]
/-- What a device owes a receiving cell of phase 3, distance 2, at launch. -/
theorem owed_32 (d c : Dev nD) : O₀ d (recvCell 3 2 c) () = if c = peer 3 2 d then crd ((3 : Fin 4) : ℕ) else 0 := by
  unfold O₀; rw [owe_at]; unfold oweAll oweSends sends
  simp [recv_iff, recv_bar]
/-- What a device owes a receiving cell of phase 3, distance 3, at launch. -/
theorem owed_33 (d c : Dev nD) : O₀ d (recvCell 3 3 c) () = if c = peer 3 3 d then crd ((3 : Fin 4) : ℕ) else 0 := by
  unfold O₀; rw [owe_at]; unfold oweAll oweSends sends
  simp [recv_iff, recv_bar]
/-- What a device owes a barrier cell at launch. -/
theorem owed_bar (d c : Dev nD) : O₀ d (barCell c) () = (if c = sigTo 0 d then 1 else 0) + (if c = sigTo 1 d then 1 else 0) + (if c = sigTo 2 d then 1 else 0)
    + (if c = sigTo 3 d then 1 else 0) + (if c = sigTo 4 d then 1 else 0) + (if c = sigTo 5 d then 1 else 0) := by
  unfold O₀; rw [owe_at]; unfold oweAll oweSends sends
  simp [bar_iff, bar_recv, Nat.add_assoc]

/-- One device among the mesh is mapped to `c`. -/
theorem sum_one (e : Dev nD ≃ Dev nD) (c : Dev nD) (n : ℕ) : (∑ d : Dev nD, if c = e d then n else 0) = n := by
  rw [Finset.sum_congr rfl fun d _ => if_congr (show c = e d ↔ d = e.symm c from ⟨fun h => by rw [h, e.symm_apply_apply], fun h => by rw [h, e.apply_symm_apply]⟩) rfl rfl,
    Finset.sum_ite_eq' Finset.univ (e.symm c) fun _ => n, if_pos (Finset.mem_univ _)]

/-- The credit that the launch gives a receiving cell. -/
theorem launch_recv (s m : Fin 4) (h : ∀ d c, O₀ d (recvCell s m c) () = if c = peer s m d then crd s.val else 0) (c : Dev nD) :
    tallyOn (recvCell s m c) (launchCredit (Pipeline.owing O₀) 0 (recvCell s m c)) = (tallyAt (recvCell s m c) () (crd s.val) : CellTallies nD τ sig Unit) := by
  unfold tallyAt; refine congrArg _ (Finsupp.ext fun u => ?_); cases u
  rw [Pipeline.launchCredit_owing, Finsupp.single_eq_same, Finset.sum_congr rfl fun d _ => h d c]
  exact sum_one (peerE s m) c _

/-- The credit that the launch gives a barrier cell. -/
theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib]
  rw [show (∑ d : Dev nD, if c = sigTo 0 d then 1 else 0) = 1 from sum_one (sigE 0) c 1, show (∑ d : Dev nD, if c = sigTo 1 d then 1 else 0) = 1 from sum_one (sigE 1) c 1,
    show (∑ d : Dev nD, if c = sigTo 2 d then 1 else 0) = 1 from sum_one (sigE 2) c 1, show (∑ d : Dev nD, if c = sigTo 3 d then 1 else 0) = 1 from sum_one (sigE 3) c 1,
    show (∑ d : Dev nD, if c = sigTo 4 d then 1 else 0) = 1 from sum_one (sigE 4) c 1, show (∑ d : Dev nD, if c = sigTo 5 d then 1 else 0) = 1 from sum_one (sigE 5) c 1]

omit [FloatOps F] in
/-- A conjunction over listed cells. -/
theorem univ_list (l : List (SemLoc sig)) (hl : l.Nodup) (Φ : SemLoc sig → sProp 𝕄) : bigSep Finset.univ Φ ⊢ bigSepL l Φ :=
  (BI.bigSep_subset (Finset.subset_univ l.toFinset)).trans (Entails.of_eq (bigSep_eq_bigSepL_of_eq l rfl hl Φ))

/-- The credits of the arrivals. -/
def recvCreds (c : Dev nD) : sProp 𝕄 := iprop(cred (tallyAt (recvCell 0 1 c) () (crd ((0 : Fin 4) : ℕ))) ∗ cred (tallyAt (recvCell 0 2 c) () (crd ((0 : Fin 4) : ℕ))) ∗ cred (tallyAt (recvCell 0 3 c) () (crd ((0 : Fin 4) : ℕ))) ∗ cred (tallyAt (recvCell 1 1 c) () (crd ((1 : Fin 4) : ℕ))) ∗ cred (tallyAt (recvCell 1 2 c) () (crd ((1 : Fin 4) : ℕ))) ∗ cred (tallyAt (recvCell 1 3 c) () (crd ((1 : Fin 4) : ℕ))) ∗ cred (tallyAt (recvCell 2 1 c) () (crd ((2 : Fin 4) : ℕ))) ∗ cred (tallyAt (recvCell 2 2 c) () (crd ((2 : Fin 4) : ℕ))) ∗ cred (tallyAt (recvCell 2 3 c) () (crd ((2 : Fin 4) : ℕ))) ∗ cred (tallyAt (recvCell 3 1 c) () (crd ((3 : Fin 4) : ℕ))) ∗ cred (tallyAt (recvCell 3 2 c) () (crd ((3 : Fin 4) : ℕ))) ∗ cred (tallyAt (recvCell 3 3 c) () (crd ((3 : Fin 4) : ℕ))))

set_option maxRecDepth 8000 in
omit [FloatOps F] in
/-- The credit that a device holds at launch. -/
theorem creds (c : Dev nD) : (Pipeline.launchCred O₀ c : sProp 𝕄) ⊢ iprop(cred (tallyAt (barCell c) () 6) ∗ recvCreds c) := by
  unfold Pipeline.launchCred recvCreds
  refine (univ_list [SemLoc.reg barS, SemLoc.dma (dsem (recvK 0 1)), SemLoc.dma (dsem (recvK 0 2)), SemLoc.dma (dsem (recvK 0 3)), SemLoc.dma (dsem (recvK 1 1)), SemLoc.dma (dsem (recvK 1 2)), SemLoc.dma (dsem (recvK 1 3)), SemLoc.dma (dsem (recvK 2 1)), SemLoc.dma (dsem (recvK 2 2)), SemLoc.dma (dsem (recvK 2 3)), SemLoc.dma (dsem (recvK 3 1)), SemLoc.dma (dsem (recvK 3 2)), SemLoc.dma (dsem (recvK 3 3))] (by decide +kernel) _).trans ?_
  simp only [list_two, bigSepL_singleton]
  rw [launch_bar, launch_recv 0 1 owed_01, launch_recv 0 2 owed_02, launch_recv 0 3 owed_03, launch_recv 1 1 owed_11, launch_recv 1 2 owed_12, launch_recv 1 3 owed_13, launch_recv 2 1 owed_21, launch_recv 2 2 owed_22, launch_recv 2 3 owed_23, launch_recv 3 1 owed_31, launch_recv 3 2 owed_32, launch_recv 3 3 owed_33]

omit [FloatOps F] in
/-- A credit and a position are what a wait for an arrival consumes. -/
theorem recvToks_of (c : Dev nD) : iprop(recvCreds (F := F) c ∗ recvPos c) ⊢ recvToks c := by
  unfold recvCreds recvPos recvToks
  iintro ⟨⟨c01, c02, c03, c11, c12, c13, c21, c22, c23, c31, c32, c33⟩, PN⟩
  icases PN with ⟨p01, p02, p03, p11, p12, p13, p21, p22, p23, p31, p32, p33⟩
  isplitl [c01 p01]
  · isplitl [c01]; · iexact c01
    iexact p01
  isplitl [c02 p02]
  · isplitl [c02]; · iexact c02
    iexact p02
  isplitl [c03 p03]
  · isplitl [c03]; · iexact c03
    iexact p03
  isplitl [c11 p11]
  · isplitl [c11]; · iexact c11
    iexact p11
  isplitl [c12 p12]
  · isplitl [c12]; · iexact c12
    iexact p12
  isplitl [c13 p13]
  · isplitl [c13]; · iexact c13
    iexact p13
  isplitl [c21 p21]
  · isplitl [c21]; · iexact c21
    iexact p21
  isplitl [c22 p22]
  · isplitl [c22]; · iexact c22
    iexact p22
  isplitl [c23 p23]
  · isplitl [c23]; · iexact c23
    iexact p23
  isplitl [c31 p31]
  · isplitl [c31]; · iexact c31
    iexact p31
  isplitl [c32 p32]
  · isplitl [c32]; · iexact c32
    iexact p32
  isplitl [c33]; · iexact c33
  iexact p33

end Cert.KProof
-- ==== Proof.Launch.lean ====
/- The launch. -/
module
public import proofs.«01_k».proof.Proof.Credit
public import proofs.«01_k».proof.Proof.Gen.KernelIdeal.Frame
public import Idealize.ShloMosaic.Lib.Pipeline.CollectiveSegs
public import Idealize.ShloMosaic.Lib.Quiescent
@[expose] public section
noncomputable section
namespace Cert.KProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]
local notation "𝕄" => MT nD τ sig Unit (Elt F) ℕ UU ℕ

variable (m : (ℓ : Loc nD τ sig) → Buf (Elt F) ℓ) (ρ : Dev nD → PrngReg)

/-! ## The launch -/

/-- The memory at launch. -/
abbrev s₀ : MemSt nD τ sig (Elt F) := ⟨m, fun _ => 0, ρ⟩

/-- The arrays that a device holds at launch. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- What a device holds when its body starts, -/
def start (c : Dev nD) : sProp 𝕄 :=
  iprop(G' (ins m) c ∗ cred (tallyAt (barCell c) () 6) ∗ recvCreds c ∗ levAts L lv)
/-- That with its buffers, -/
def Φ₀ (c : Dev nD) : sProp 𝕄 := iprop(start m c ∗ bufs c)
/-- and when it ends. -/
def Φ₁ (c : Dev nD) : sProp 𝕄 := iprop(semVal (barCell c) 0 ∗ (Pipeline.ownSems0 (Ix := Unit) (Name := ℕ) (U := UU) (Lvl := ℕ) (Val := Elt F) (τ := τ) osem c) ∗ bufs (F := F) c)

/-- The windows' data: the inputs stay, the output is the computed result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => OUT (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The grid has one point. -/
theorem pt_zero (t : Fin cfg0.N) : t = t0_0 := fin_N0 t

/-- A staging buffer at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A staging buffer held with its contents. -/
theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- What the body's run takes, -/
def pre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- and what it leaves. -/
def post (c : Dev nD) : sProp 𝕄 :=
  iprop(Φ₁ c ∗ (dats m ρ 0 c).owesAt () t0_0.succ
    ∗ stg c cc0_stg0_0 (ins m c).x ∗ stg c cc0_stg1_0 (ins m c).wq ∗ stg c cc0_stg2_0 (ins m c).k ∗ stg c cc0_stg3_0 (ins m c).v ∗ stg c cc0_stg4_0 (ins m c).wo ∗ stg c cc0_stg5_0 (OUT (ins m) c))

variable (I : Dev nD → Ins F) (K : Dev nD × Fin 33 → ℕ) in
/-- A semaphore that no copy uses comes to rest at once. -/
theorem idle_close (k : Fin 32) (hk : k.val % 4 = 0) (c : Dev nD) : iprop(recs I K ∗ atPos ER (dcell k c) 0 ∅ 0) ⊢ (|={Set.univ}=> semVal (dcell k c) 0 : sProp 𝕄) := by
  iintro ⟨HR, Hat⟩
  ihave H := (recs_dma I K k c) $$ HR
  icases H with ⟨HI, -⟩
  iapply (Rounds.cell_close ER (Rd I) (Set.mem_univ (K (c, k.castSucc))) (fun h => h) (R := 0) (duties_slot0 I k hk c))
  isplitl [HI] <;> iassumption

/-- Window 0 holds its array when the body starts. -/
theorem before_0 (c : Dev nD) (d) : (dats m ρ 0 c).before (0 : Fin 6) t0_0 d = (ins m c).x := by
  unfold Dat.before; rw [if_pos (fetch0_0 t0_0)]; rfl
/-- Window 1 holds its array when the body starts. -/
theorem before_1 (c : Dev nD) (d) : (dats m ρ 0 c).before (1 : Fin 6) t0_0 d = (ins m c).wq := by
  unfold Dat.before; rw [if_pos (fetch0_1 t0_0)]; rfl
/-- Window 2 holds its array when the body starts. -/
theorem before_2 (c : Dev nD) (d) : (dats m ρ 0 c).before (2 : Fin 6) t0_0 d = (ins m c).k := by
  unfold Dat.before; rw [if_pos (fetch0_2 t0_0)]; rfl
/-- Window 3 holds its array when the body starts. -/
theorem before_3 (c : Dev nD) (d) : (dats m ρ 0 c).before (3 : Fin 6) t0_0 d = (ins m c).v := by
  unfold Dat.before; rw [if_pos (fetch0_3 t0_0)]; rfl
/-- Window 4 holds its array when the body starts. -/
theorem before_4 (c : Dev nD) (d) : (dats m ρ 0 c).before (4 : Fin 6) t0_0 d = (ins m c).wo := by
  unfold Dat.before; rw [if_pos (fetch0_4 t0_0)]; rfl
set_option maxRecDepth 8000 in
/-- The body keeps the windows' data. -/
theorem body_sound (c : Dev nD) :
    pre m ρ c ⊢ wp frame (wpE (defs₀ (F := F)) 𝒱₀ (c : Thread nD τ) none) Set.univ (cc0__body_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19) (fun _ => post m ρ c) := by
  unfold pre Φ₀ start G'
  iintro ⟨⟨⟨⟨%K, HR, Hpos, Hpay⟩, Hb, Hrc, Hlev⟩, Hbufs⟩, Ho, ⟨%d0, %g0, %e0, X0⟩, ⟨%d1, %g1, %e1, X1⟩, ⟨%d2, %g2, %e2, X2⟩, ⟨%d3, %g3, %e3, X3⟩, ⟨%d4, %g4, %e4, X4⟩, ⟨%d5, %g5, %e5, X5⟩⟩
  rw [before_0] at e0; subst e0
  rw [before_1] at e1; subst e1
  rw [before_2] at e2; subst e2
  rw [before_3] at e3; subst e3
  rw [before_4] at e4; subst e4
  ihave HR := (recs_of (ins m) K) $$ [HR Hlev]
  · isplitl [HR] <;> iassumption
  icases HR with #HR
  ihave Hpos := (posAll_split c) $$ Hpos
  icases Hpos with ⟨Hsp, Hrp, Hip, Pb⟩
  ihave Hpay := (payAll_split c) $$ Hpay
  icases Hpay with ⟨Hbt, Hst⟩
  ihave Hrt := (recvToks_of c) $$ [Hrc Hrp]
  · isplitl [Hrc] <;> iassumption
  unfold idlePos
  icases Hip with ⟨s00, s10, s20, s30, r00, r10, r20, r30⟩
  imod (idle_close (ins m) K (sendK 0 0) (by decide) c) $$ [s00] with s00
  · isplitr; · iexact HR
    iexact s00
  imod (idle_close (ins m) K (sendK 1 0) (by decide) c) $$ [s10] with s10
  · isplitr; · iexact HR
    iexact s10
  imod (idle_close (ins m) K (sendK 2 0) (by decide) c) $$ [s20] with s20
  · isplitr; · iexact HR
    iexact s20
  imod (idle_close (ins m) K (sendK 3 0) (by decide) c) $$ [s30] with s30
  · isplitr; · iexact HR
    iexact s30
  imod (idle_close (ins m) K (recvK 0 0) (by decide) c) $$ [r00] with r00
  · isplitr; · iexact HR
    iexact r00
  imod (idle_close (ins m) K (recvK 1 0) (by decide) c) $$ [r10] with r10
  · isplitr; · iexact HR
    iexact r10
  imod (idle_close (ins m) K (recvK 2 0) (by decide) c) $$ [r20] with r20
  · isplitr; · iexact HR
    iexact r20
  imod (idle_close (ins m) K (recvK 3 0) (by decide) c) $$ [r30] with r30
  · isplitr; · iexact HR
    iexact r30
  unfold Dat.owesAt Pipeline.owesWithin
  icases Ho with ⟨%W, %hW, HO⟩
  ihave HO := (show iprop(owes (c : Thread nD τ) ((dats m ρ 0 c).owed t0_0.castSucc) W) ⊢ owesE (F := F) c (oweAll c) from by
    unfold owesE; iintro H; iexists W; iexact H) $$ HO
  iapply (body_run (ins m) K c)
  isplitr; · iexact HR
  isplitl [HO]; · iexact HO
  isplitl [Hbt]; · iexact Hbt
  isplitl [Hst]; · iexact Hst
  isplitl [Hrt]; · iexact Hrt
  isplitl [Hsp]; · iexact Hsp
  isplitl [Hb]; · iexact Hb
  isplitl [Pb]; · iexact Pb
  isplitl [X0]; · iexact X0
  isplitl [X1]; · iexact X1
  isplitl [X2]; · iexact X2
  isplitl [X3]; · iexact X3
  isplitl [X4]; · iexact X4
  isplitl [X5]; · iexists g5; iexact X5
  isplitl [Hbufs]; · iexact Hbufs
  iintro HO Vb Hsv Hrv X0 X1 X2 X3 X4 X5 Hbufs
  unfold post Φ₁
  isplitl [Vb Hsv Hrv s00 s10 s20 s30 r00 r10 r20 r30 Hbufs]
  · isplitl [Vb]; · iexact Vb
    isplitr [Hbufs]
    · iapply (ownSems_join c)
      isplitl [Hsv]; · iexact Hsv
      isplitl [Hrv]; · iexact Hrv
      unfold idleVals
      isplitl [s00]; · iexact s00
      isplitl [s10]; · iexact s10
      isplitl [s20]; · iexact s20
      isplitl [s30]; · iexact s30
      isplitl [r00]; · iexact r00
      isplitl [r10]; · iexact r10
      isplitl [r20]; · iexact r20
      iexact r30
    iexact Hbufs
  isplitl [HO]
  · unfold owesE Dat.owesAt Pipeline.owesWithin
    icases HO with ⟨%W', HO⟩
    iexists W'
    isplitr; · ipureintro; exact fun _ _ => Or.inl trivial
    iexact HO
  isplitl [X0]; · iexists _; isplitr; · (ipureintro; rfl)
                  iexact X0
  isplitl [X1]; · iexists _; isplitr; · (ipureintro; rfl)
                  iexact X1
  isplitl [X2]; · iexists _; isplitr; · (ipureintro; rfl)
                  iexact X2
  isplitl [X3]; · iexists _; isplitr; · (ipureintro; rfl)
                  iexact X3
  isplitl [X4]; · iexists _; isplitr; · (ipureintro; rfl)
                  iexact X4
  iexists _; isplitr; · (ipureintro; rfl)
  iexact X5

set_option maxRecDepth 65536 in
/-- The launch's obligation at a device. -/
theorem body_obligation (c : Dev nD) : BodyObligation (dats (F := F) m ρ 0 c) (defs₀ (F := F)) 𝒱₀ () Set.univ := fun t => by
  rw [pt_zero t]
  rw [bigSep_W0, bigSep_W0]
  simp only [owns_stg]
  show pre m ρ c ⊢ wp frame (wpE (defs₀ (F := F)) 𝒱₀ (c : Thread nD τ) none) Set.univ (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19) (fun _ => post m ρ c)
  rw [cc0__body_eq_skeleton]
  exact body_sound m ρ c

/-- Every window is held whole. -/
theorem share_eq (c : Dev nD) (w : Fin cfg0.W) : (dats m ρ 0 c).share w = fullShare := by unfold Dat.share; split <;> rfl

/-- The launch gives what the body starts with, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- with the buffers, -/
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

/-- and takes back what it leaves. -/
theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ bufs
  exact Entails.rfl

/-- Every debt lies above level zero, -/
theorem all_above (c : Dev nD) : ∀ p ∈ oweAll c, p.1.1.2 = .tc ∧ 0 < slv p.1.2 := by
  unfold oweAll
  intro p hp
  simp only [List.mem_cons] at hp
  rcases hp with rfl | rfl | rfl | rfl | rfl | rfl | hp
  iterate 6 exact ⟨rfl, Nat.one_pos⟩
  exact ⟨(hl1 c p hp).1, by have := (hl1 c p hp).2; omega⟩

/-- so the pipeline's waits are allowed. -/
theorem waits (c : Dev nD) : (levAts L lv : sProp 𝕄) ⊢ Pipeline.cellsWaits cfgs (dats m ρ) () 0 c :=
  Pipeline.cellsWaits_intro cfgs (dats m ρ) () 0 c fun w s t => by
    have hs : slv (SemLoc.dma ((cfg0.win w).sem s)) = 0 := by fin_cases w <;> fin_cases s <;> decide
    have hz := mayWait (F := F) c (SemLoc.dma ((cfg0.win w).sem s))
    unfold levs at hz
    rcases t with ⟨_ | _, ht⟩
    · exact hz (oweAll c) (fun p hp => by rw [hs]; exact all_above c p hp)
    · exact hz [] (fun p hp => absurd hp List.not_mem_nil)

/-- A window's array when the run ends. -/
def finalA (c : Dev nD) (w : Fin cfg0.W) : Buf (Elt F) ((cfg0.win w).arr.view.loc (c : Thread nD τ)) := (dats m ρ 0 c).arrAt w cfg0.N

/-- What the run ends in. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On the mesh of sixteen devices, for any float values and any memory, @main terminates; every device's arrays end as the
    windows' data say, and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_proto (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof
-- ==== Proof.Frames.lean ====
/- The frames of the kernel. -/
module
public import proofs.«01_k».proof.Proof.Launch
@[expose] public section
noncomputable section
namespace Cert.KProof
open Cert.KernelIdeal Cert.KernelIdeal.Gen
open Idealize.ShloMosaic
open Idealize.ShloMosaic.TcCoe
open Idealize.SL.Sem
variable {F : FTy → Type} [FloatOps F]

/-- The kernel runs, leaves its arguments as they were, and ends with every semaphore counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c 0).trans ((dats m ρ 0 c).arrAt_in 0 rfl _), (h.1 c 1).trans ((dats m ρ 0 c).arrAt_in 1 rfl _),
     (h.1 c 2).trans ((dats m ρ 0 c).arrAt_in 2 rfl _), (h.1 c 3).trans ((dats m ρ 0 c).arrAt_in 3 rfl _),
     (h.1 c 4).trans ((dats m ρ 0 c).arrAt_in 4 rfl _)⟩, h.2⟩) (run_main m ρ)

end Cert.KProof
-- ==== Proof.Both.lean ====
module
public import proofs.«01_k».proof.Proof.Frames
public import proofs.«01_k».proof.Defs
public import proofs.«01_k».proof.Proof.Gen.Kernel
public import proofs.«01_k».proof.Proof.Gen.KernelIdeal

/-! The two frames of the kernel: over the real numbers, and over the words of the machine. Both come from
the one run over any float values. -/

@[expose] public section
noncomputable section
namespace Cert.KProof
open Idealize.ShloMosaic Idealize.SL.Sem

set_option maxRecDepth 65536

/-- The two programs have the same text, so the same code at every label. -/
theorem code_eq : Cert.Kernel.defs (F := Bits) = Cert.KernelIdeal.defs (F := Bits) := by
  have e : Cert.Kernel.defs₀ (F := Bits) = Cert.KernelIdeal.defs₀ (F := Bits) :=
    congrArg Defs.onTc (funext fun l => by
      match l with
      | 0 => rfl
      | ⟨_ + 1, h⟩ => exact absurd h (Nat.not_lt.2 (Nat.le_add_left _ _)))
  exact congrArg (Pipeline.defs Cert.KernelIdeal.pcfgs) e

/-- The kernel over the reals ends, with its arguments unchanged and every semaphore at zero. -/
theorem frame_ideal : Cert.quiescent_KernelIdeal (hKernelIdeal := Cert.KernelIdeal.Gen.facts) :=
  fun m ρ _ => frame_any (F := Ideal) m ρ

/-- The kernel over machine words ends, with its arguments unchanged and every semaphore at zero. -/
theorem frame_kernel : Cert.quiescent_Kernel (hKernel := Cert.Kernel.Gen.facts) := by
  intro m ρ _
  have h := frame_any (F := Bits) m ρ
  rw [← code_eq] at h
  exact h

end Cert.KProof
-- ==== Proof.Softmax.lean ====
module
public import Idealize.ShloMosaic.PureOps.Ideal
public import Idealize.ShloMosaic.PureOps.Ideal.Laws

/-! The one equation of extended reals that the value claim rests on: a masked sum of values, weighted by the exponentials
of real scores and divided by the sum of the weights, is the sum of the values weighted by the quotients that a
softmax takes after the largest admitted score is subtracted. The values may be infinite. -/

@[expose] public section
noncomputable section
namespace Cert.KProof
open Idealize.ShloMosaic

/-- Multiplication by a nonnegative real goes into a finite sum of extended reals. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score, or minus infinity where the mask refuses it. -/
def masked {ι : Type*} (P : ι → Prop) [DecidablePred P] (s : ι → EReal) (t : ι) : EReal := if P t then s t else ⊥
/-- The exponential of a score, or zero where the mask refuses it. -/
def expo {ι : Type*} (P : ι → Prop) [DecidablePred P] (s : ι → EReal) (t : ι) : EReal := if P t then Ideal.exp (s t) else 0

/-- The largest of the admitted real scores is a real number. -/
theorem fold_max_real {ι : Type*} [Fintype ι] (P : ι → Prop) [DecidablePred P] (s : ι → ℝ) (hP : ∃ t, P t) :
    ∃ μ : ℝ, Finset.univ.fold max ⊥ (masked P fun t => (s t : EReal)) = (μ : EReal) := by
  classical
  have h : ∀ A : Finset ι, A.fold max ⊥ (masked P fun t => (s t : EReal)) = ⊥ ∧ (∀ t ∈ A, ¬ P t)
      ∨ ∃ μ : ℝ, A.fold max ⊥ (masked P fun t => (s t : EReal)) = (μ : EReal) := by
    intro A
    induction A using Finset.induction_on with
    | empty => exact .inl ⟨rfl, by simp⟩
    | insert a A ha ih =>
      rw [Finset.fold_insert ha]
      by_cases hp : P a
      · right
        rcases ih with ⟨e, _⟩ | ⟨μ, e⟩
        · exact ⟨s a, by rw [e, masked, if_pos hp]; exact max_bot_right _⟩
        · exact ⟨max (s a) μ, by rw [e, masked, if_pos hp]; exact (EReal.coe_strictMono.monotone.map_max).symm⟩
      · rw [masked, if_neg hp, max_bot_left]
        rcases ih with ⟨e, h⟩ | ⟨μ, e⟩
        · refine .inl ⟨e, fun t ht => ?_⟩
          rcases Finset.mem_insert.1 ht with rfl | ht
          · exact hp
          · exact h t ht
        · exact .inr ⟨μ, e⟩
  rcases h Finset.univ with ⟨_, h⟩ | h
  · obtain ⟨t, ht⟩ := hP
    exact absurd ht (h t (Finset.mem_univ _))
  · exact h

/-- The weighted mean is the same whether or not the largest score is subtracted first, and whether the division comes
    after the sum or before it. -/
theorem softmax_mean {ι : Type*} [Fintype ι] (P : ι → Prop) [DecidablePred P] (s : ι → ℝ) (v : ι → EReal) (hP : ∃ t, P t) :
    Ideal.div (∑ t, expo P (fun t => (s t : EReal)) t * v t) (∑ t, expo P (fun t => (s t : EReal)) t)
      = ∑ t, v t * Ideal.div (Ideal.exp (masked P (fun t => (s t : EReal)) t - Finset.univ.fold max ⊥ (masked P fun t => (s t : EReal))))
          (∑ t, Ideal.exp (masked P (fun t => (s t : EReal)) t - Finset.univ.fold max ⊥ (masked P fun t => (s t : EReal)))) := by
  classical
  obtain ⟨μ, hμ⟩ := fold_max_real P s hP
  rw [hμ]
  let w : ι → ℝ := fun t => if P t then Real.exp (s t) else 0
  have hw : ∀ t, expo P (fun t => (s t : EReal)) t = (w t : EReal) := by
    intro t
    by_cases hp : P t
    · simp only [expo, w, if_pos hp]; rfl
    · simp only [expo, w, if_neg hp]; rfl
  have he : ∀ t, Ideal.exp (masked P (fun t => (s t : EReal)) t - (μ : EReal)) = ((w t * Real.exp (-μ) : ℝ) : EReal) := by
    intro t
    by_cases hp : P t
    · simp only [masked, w, if_pos hp]
      rw [← EReal.coe_sub, ← Real.exp_add, ← sub_eq_add_neg]; rfl
    · simp only [masked, w, if_neg hp, zero_mul]
      rw [EReal.bot_sub]; rfl
  have hnn : ∀ t, 0 ≤ w t := by
    intro t
    by_cases hp : P t
    · simp only [w, if_pos hp]; exact (Real.exp_pos _).le
    · simp only [w, if_neg hp]; exact le_refl _
  have hpos : 0 < ∑ t, w t := by
    obtain ⟨t, ht⟩ := hP
    refine Finset.sum_pos' (fun t _ => hnn t) ⟨t, Finset.mem_univ _, ?_⟩
    simp only [w, if_pos ht]; exact Real.exp_pos _
  have hE : 0 < Real.exp (-μ) := Real.exp_pos _
  have hS : ∑ t, w t * Real.exp (-μ) ≠ 0 := by rw [← Finset.sum_mul]; exact (mul_pos hpos hE).ne'
  simp only [hw, he]
  rw [← coe_sum, ← coe_sum, Ideal.div_coe hpos.ne', sum_mul_real _ _ (by positivity)]
  refine Finset.sum_congr rfl fun t _ => ?_
  rw [Ideal.div_coe hS, ← EReal.coe_mul, mul_comm (w t : EReal) (v t), mul_assoc, ← EReal.coe_mul, ← Finset.sum_mul]
  congr 2
  field_simp

end Cert.KProof
-- ==== Proof.ValueK.lean ====
module
public import proofs.«01_k».proof.Proof.Spec
public import proofs.«01_k».proof.Proof.Softmax
public import Idealize.ShloMosaic.Lib.Pointwise

@[expose] public section
noncomputable section
namespace Cert.KProof
open Cert.KernelIdeal Cert.KernelIdeal.Gen
open Idealize.ShloMosaic
open Idealize.ShloMosaic.TcCoe

/-- The column of a head's coordinate among the 512 columns. -/
def hCol (h : Fin 8) (d : Fin 64) : Fin 512 := ⟨64 * h.val + d.val, by have := h.isLt; have := d.isLt; omega⟩

/-- The query's weights, read whole. -/
theorem wqAll_at (I : Ins Ideal) (k : Fin 768) (n : Fin 512) : wqAll I (ix2 k n) = I.wq (ix2 k n) := by
  pointwise [wqAll]
/-- The output's weights, read whole. -/
theorem woAll_at (wo : Vec Ideal S512x768 .f32) (k : Fin 512) (n : Fin 768) : woAll wo (ix2 k n) = wo (ix2 k n) := by
  pointwise [woAll]
/-- One batch of the input. -/
theorem xRow_at (I : Ins Ideal) (b : Fin 2) (r : Fin 512) (k : Fin 768) : xRow I b (ix3 0 r k) = I.x (ix3 b r k) := by
  pointwise [xRow]
/-- One batch of the keys or the values. -/
theorem kvRow_at (X : Vec Ideal S2x512x8x64 .f32) (b : Fin 2) (r : Fin 512) (h : Fin 8) (d : Fin 64) :
    kvRow X b (ix4 0 r h d) = X (ix4 b r h d) := by
  pointwise [kvRow]

/-- The queries of a batch. -/
theorem qB_at (I : Ins Ideal) (b : Fin 2) (r n : Fin 512) :
    qB I b (ix2 r n) = ∑ k : Fin 768, I.x (ix3 b r k) * I.wq (ix2 k n) := by
  unfold qB
  pointwise [k0_pay8, k0_pay7]
  simp only [wqAll_at, xRow_at]

/-- The keys of a batch, a head after a head along the columns. -/
theorem kB_at (I : Ins Ideal) (b : Fin 2) (r : Fin 512) (h : Fin 8) (d : Fin 64) :
    kB I b (ix2 r (hCol h d)) = I.k (ix4 b r h d) := by
  unfold kB
  pointwise [k0_pay9, hCol]
  exact kvRow_at I.k b r h d

/-- The values of a batch, a head after a head along the columns. -/
theorem vB_at (I : Ins Ideal) (b : Fin 2) (r : Fin 512) (h : Fin 8) (d : Fin 64) :
    vB I b (ix2 r (hCol h d)) = I.v (ix4 b r h d) := by
  unfold vB
  pointwise [k0_pay10, hCol]
  exact kvRow_at I.v b r h d

/-- A head's columns. -/
theorem headCols_at {φ : FTy} (h : Fin 8) (M : FVec Ideal S512x512 φ) (r : Fin 512) (d : Fin 64) :
    headCols h M (ix2 r d) = M (ix2 r (hCol h d)) := by
  pointwise [headCols, hCol]

/-- A head's weighted values. -/
theorem headO_at (w : FVec Ideal S512x512 .f32) (v : FVec Ideal S512x512 .bf16) (h : Fin 8) (r : Fin 512) (d : Fin 64) :
    headO w v h (ix2 r d) = ∑ t : Fin 512, w (ix2 r t) * v (ix2 t (hCol h d)) := by
  pointwise [headO, headCols_at]

/-- A head's sums of weights. -/
theorem headS_at (w : FVec Ideal S512x512 .f32) (r : Fin 512) : headS w (ix1 r) = ∑ t : Fin 512, w (ix2 r t) := by
  pointwise [headS]

/-- A word divided by sixty-four, rounding down, as the kernel spells it. -/
def wDiv (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- A word modulo four, with the sign of four, as the kernel spells it. -/
def wMod (x y : BitVec 32) : BitVec 32 :=
  Scalar.select
    (IntOp.andi (IntOp.xori (IntOp.cmpi .slt (IntOp.remsi .vector x y) 0#32) (Scalar.cmpi .slt y 0#32))
      (IntOp.cmpi .ne (IntOp.remsi .vector x y) 0#32))
    (IntOp.addi (IntOp.remsi .vector x y) y) (IntOp.remsi .vector x y)

/-- The kernel's words for a position's block modulo four. -/
theorem wMod_wDiv (n : Fin 512) : wMod (wDiv (BitVec.ofNat 32 n.val)) 4#32 = BitVec.ofNat 32 (n.val / 64 % 4) := by
  revert n
  decide +kernel

/-- The mask admits a query and a key whose blocks of sixty-four positions agree modulo four. -/
theorem maskV_at (r t : Fin 512) : maskV (ix2 r t) = if r.val / 64 % 4 = t.val / 64 % 4 then 1#1 else 0#1 := by
  have e : maskV (ix2 r t) = IntOp.cmpi .eq (wMod (wDiv (BitVec.ofNat 32 r.val)) 4#32) (wMod (wDiv (BitVec.ofNat 32 t.val)) 4#32) := by
    pointwise [maskV, k0_pay6, k0_pay4, k0_pay1, k0_pay2, k0_pay3, k0_pay5]
    rfl
  rw [e, wMod_wDiv, wMod_wDiv]
  have h : ∀ a b : Fin 4, IntOp.cmpi .eq (BitVec.ofNat 32 a.val) (BitVec.ofNat 32 b.val) = if a.val = b.val then 1#1 else 0#1 := by decide
  exact h ⟨r.val / 64 % 4, Nat.mod_lt _ (by decide)⟩ ⟨t.val / 64 % 4, Nat.mod_lt _ (by decide)⟩

/-- The factor on the scores. -/
def eighth : EReal := Ideal.ofBits .f32 0x3E000000#32

/-- The factor is a real number. -/
theorem eighth_real : ∃ r : ℝ, eighth = (r : EReal) := by
  refine ⟨1 / 8, ?_⟩
  simp [eighth, Ideal.ofBits, Ideal.ieee, -EReal.coe_mul]; norm_num

/-- Which keys of its own block a query row admits. -/
def Near (r t : Fin 512) : Prop := r.val / 64 % 4 = t.val / 64 % 4
instance (r : Fin 512) : DecidablePred (Near r) := fun t => inferInstanceAs (Decidable (_ = _))

/-- The masked weights of one head at an entry. -/
theorem weights_at (q k : FVec Ideal S512x512 .bf16) (h : Fin 8) (r t : Fin 512) :
    weights q k h (ix2 r t) = expo (Near r) (fun t => (∑ d : Fin 64, q (ix2 r (hCol h d)) * k (ix2 t (hCol h d))) * eighth) t := by
  pointwise [weights, headCols_at]
  rw [maskV_at, expo]
  by_cases e : Near r t
  · rw [if_pos e, if_pos (show r.val / 64 % 4 = t.val / 64 % 4 from e)]; rfl
  · rw [if_neg e, if_neg (show ¬ r.val / 64 % 4 = t.val / 64 % 4 from e)]; rfl

/-- The scaled score of a query row against a key of a device's own block. -/
def score (I : Ins Ideal) (b : Fin 2) (h : Fin 8) (r t : Fin 512) : EReal :=
  (∑ d : Fin 64, (∑ k : Fin 768, I.x (ix3 b r k) * I.wq (ix2 k (hCol h d))) * I.k (ix4 b t h d)) * eighth

/-- A head's weights: the exponentials of the admitted scores. -/
theorem gW_at (I : Ins Ideal) (g : Fin 16) (r t : Fin 512) :
    gW I g (ix2 r t) = expo (Near r) (score I (gB g) (gH g) r) t := by
  rw [gW, weights_at]
  simp only [qB_at, kB_at]
  rfl

/-- The partial weighted sums of one device. -/
theorem OA_at (I : Ins Ideal) (g : Fin 16) (r : Fin 512) (d : Fin 64) :
    OA I (ix3 g r d) = ∑ t : Fin 512, expo (Near r) (score I (gB g) (gH g) r) t * I.v (ix4 (gB g) t (gH g) d) := by
  show headO (gW I g) (vB I (gB g)) (gH g) (ValueIdx.ix2 r d) = _
  rw [← ix2_eq_valueIdx, headO_at]
  simp only [gW_at, vB_at]

/-- The partial weight sums of one device. -/
theorem SA_at (I : Ins Ideal) (r : Fin 512) (g : Fin 16) :
    SA I (ix2 r g) = ∑ t : Fin 512, expo (Near r) (score I (gB g) (gH g) r) t := by
  show headS (gW I g) (ValueIdx.ix1 r) = _
  rw [← ix1_eq_valueIdx, headS_at]
  simp only [gW_at]

/-- The row sums, written out. -/
theorem GA_at (I : Dev nD → Ins Ideal) (c : Dev nD) (i : S68x32x64.Idx) :
    GA I c i = ∑ m : Fin 4, PK (I (rowPeer (opp m) c)) (colOf (rowPeer (opp m) c) m) i := by
  rw [Fin.sum_univ_four, show rowPeer (opp 0) c = c by revert c; decide]
  rfl

/-- The column sums, written out. -/
theorem CS_rows (I : Dev nD → Ins Ideal) (c : Dev nD) (i : S17x32x64.Idx) :
    CS I c i = ∑ n : Fin 4, rows17 (GA I (colPeer (opp n) c)) (rowOf (colPeer (opp n) c) n) i := by
  rw [Fin.sum_univ_four, show colPeer (opp 0) c = c by revert c; decide]
  rfl

/-- The device whose partial sum reaches `c` by slot `n` of the column and slot `m` of the row reduction. -/
def src (c : Dev nD) (x : Fin 4 × Fin 4) : Dev nD := rowPeer (opp x.2) (colPeer (opp x.1) c)

/-- The devices that a device receives from, by phase slots, are all the devices, once each. -/
theorem src_bij (c : Dev nD) : Function.Bijective (src c) := by
  refine (Fintype.bijective_iff_injective_and_card _).2 ⟨?_, by decide⟩
  have h : ∀ (c : Fin 16) (a b a' b' : Fin 4), src c (a, b) = src c (a', b') → a = a' ∧ b = b' := by decide +kernel
  rintro ⟨a, b⟩ ⟨a', b'⟩ e
  obtain ⟨h₁, h₂⟩ := h c a b a' b' e
  rw [h₁, h₂]

/-- The column of such a device, seen by its slot, is the receiver's. -/
theorem colOf_src (c : Dev nD) (x : Fin 4 × Fin 4) : colOf (src c x) x.2 = ⟨c.val % 4, Nat.mod_lt _ (by decide)⟩ := by
  have h : ∀ (c : Fin 16) (a b : Fin 4), colOf (src c (a, b)) b = ⟨c.val % 4, Nat.mod_lt _ (by decide)⟩ := by decide +kernel
  exact h c x.1 x.2

/-- The row of such a device, seen by its slot, is the receiver's. -/
theorem rowOf_src (c : Dev nD) (n : Fin 4) : rowOf (colPeer (opp n) c) n = ⟨c.val / 4, by have : c.val < 16 := c.isLt; omega⟩ := by
  have h : ∀ (c : Fin 16) (a : Fin 4), (rowOf (colPeer (opp a) c) a).val = c.val / 4 := by decide +kernel
  exact Fin.ext (h c n)

/-- The full sums of a block of query rows: every device's packed block, added. -/
theorem CS_at (I : Dev nD → Ins Ideal) (c : Dev nD) (i : S17x32x64.Idx) :
    CS I c i = ∑ e : Dev nD, rows17 (PK (I e) ⟨c.val % 4, Nat.mod_lt _ (by decide)⟩) ⟨c.val / 4, by have : c.val < 16 := c.isLt; omega⟩ i := by
  rw [CS_rows, ← (src_bij c).sum_comp, Fintype.sum_prod_type]
  refine Finset.sum_congr rfl fun n _ => ?_
  rw [rowOf_src]
  show GA I (colPeer (opp n) c) _ = _
  rw [GA_at]
  refine Finset.sum_congr rfl fun m _ => ?_
  rw [show rowPeer (opp m) (colPeer (opp n) c) = src c (n, m) from rfl, colOf_src]
  rfl

/-- The query row `r` of the block of `c`. -/
def rowAt (c : Dev nD) (r : Fin 32) : Fin 512 := ⟨32 * c.val + r.val, by have : c.val < 16 := c.isLt; have := r.isLt; omega⟩

/-- A row of a quarter of the positions, as the sender counts and as the receiver counts. -/
theorem qRow_rowAt (c : Dev nD) (r : Fin 32) (q : ℕ) (hq : q = c.val / 4) :
    qRow q ⟨c.val % 4, Nat.mod_lt _ (by decide)⟩ r = rowAt c r := by
  have : c.val < 16 := c.isLt
  have := r.isLt
  apply Fin.ext
  show (32 * (4 * (q % 4) + c.val % 4) + r.val) % 512 = 32 * c.val + r.val
  omega

/-- The packed sums hold the weighted values, then -/
theorem PK_O (I : Ins Ideal) (c : Dev nD) (g : Fin 16) (r : Fin 32) (d : Fin 64) :
    rows17 (PK I ⟨c.val % 4, Nat.mod_lt _ (by decide)⟩) ⟨c.val / 4, by have : c.val < 16 := c.isLt; omega⟩
      (ValueIdx.ix3 ⟨g.val, by have := g.isLt; omega⟩ r d) = OA I (ix3 g (rowAt c r) d) := by
  have hc : c.val < 16 := c.isLt
  have hg := g.isLt
  have h : (17 * (c.val / 4) + g.val) % 17 < 16 := by omega
  show (if h : (17 * (c.val / 4) + g.val) % 17 < 16 then OA I (ValueIdx.ix3 ⟨(17 * (c.val / 4) + g.val) % 17, h⟩ (qRow ((17 * (c.val / 4) + g.val) / 17) _ r) d) else _) = _
  rw [dif_pos h, qRow_rowAt c r _ (by omega), ix3_eq_valueIdx]
  congr 2
  exact Fin.ext (by show (17 * (c.val / 4) + g.val) % 17 = g.val; omega)

/-- the sums of the weights. -/
theorem PK_S (I : Ins Ideal) (c : Dev nD) (g : Fin 16) (r : Fin 32) :
    rows17 (PK I ⟨c.val % 4, Nat.mod_lt _ (by decide)⟩) ⟨c.val / 4, by have : c.val < 16 := c.isLt; omega⟩
      (ValueIdx.ix3 16 r ⟨g.val, by have := g.isLt; omega⟩) = SA I (ix2 (rowAt c r) g) := by
  have hc : c.val < 16 := c.isLt
  have hg := g.isLt
  have h : ¬ (17 * (c.val / 4) + 16) % 17 < 16 := by omega
  show (if h : (17 * (c.val / 4) + 16) % 17 < 16 then _ else SA I (ValueIdx.ix2 (qRow ((17 * (c.val / 4) + 16) / 17) _ r) ⟨g.val % 16, _⟩)) = _
  rw [dif_neg h, qRow_rowAt c r _ (by omega), ix2_eq_valueIdx]
  congr 2
  exact Fin.ext (by show g.val % 16 = g.val; omega)

/-- The whole context: every device's weighted sums added, over every device's weight sums added. -/
theorem CF_at (I : Dev nD → Ins Ideal) (g : Fin 16) (s : Fin 512) (d : Fin 64) :
    CF I (ix3 g s d) = Ideal.div (∑ e, OA (I e) (ix3 g s d)) (∑ e, SA (I e) (ix2 s g)) := by
  have hs := s.isLt
  have e : rowAt ⟨s.val / 32, by show _ < 16; omega⟩ ⟨s.val % 32, Nat.mod_lt _ (by decide)⟩ = s :=
    Fin.ext (by show 32 * (s.val / 32) + s.val % 32 = s.val; omega)
  show Ideal.div (CS I ⟨s.val / 32, _⟩ (ValueIdx.ix3 ⟨g.val, _⟩ ⟨s.val % 32, _⟩ d)) (CS I ⟨s.val / 32, _⟩ (ValueIdx.ix3 16 ⟨s.val % 32, _⟩ ⟨g.val, _⟩)) = _
  rw [CS_at, CS_at]
  refine congrArg₂ Ideal.div (Finset.sum_congr rfl fun x _ => ?_) (Finset.sum_congr rfl fun x _ => ?_)
  · exact (PK_O (I x) ⟨s.val / 32, by show _ < 16; omega⟩ g ⟨s.val % 32, Nat.mod_lt _ (by decide)⟩ d).trans (by rw [e])
  · exact (PK_S (I x) ⟨s.val / 32, by show _ < 16; omega⟩ g ⟨s.val % 32, Nat.mod_lt _ (by decide)⟩).trans (by rw [e])

/-- One pair's context. -/
theorem ctxRow_at (X : Vec Ideal S16x512x64 .bf16) (g : Fin 16) (s : Fin 512) (d : Fin 64) :
    ctxRow X g (ix3 0 s d) = X (ix3 g s d) := by
  pointwise [ctxRow]

/-- The pair of a batch and a head. -/
def pair (b : Fin 2) (h : Fin 8) : Fin 16 := ⟨8 * b.val + h.val, by have := b.isLt; have := h.isLt; omega⟩

/-- The output of one batch at an entry: the heads' contexts against the output projection. -/
def outSum (wo : Vec Ideal S512x768 .f32) (X : Vec Ideal S16x512x64 .bf16) (b : Fin 2) (s : Fin 512) (n : Fin 768) : EReal :=
  ∑ h : Fin 8, ∑ d : Fin 64, X (ix3 (pair b h) s d) * wo (ix2 (hCol h d) n)

/-- The output of the first batch at an entry, -/
theorem out0_at (wo : Vec Ideal S512x768 .f32) (X : Vec Ideal S16x512x64 .bf16) (s : Fin 512) (n : Fin 768) :
    out0 wo X (ix3 0 s n) = outSum wo X 0 s n := by
  unfold out0
  pointwise [k0_pay170, k0_pay167, k0_pay168, k0_pay169]
  rw [outSum, Fin.sum_univ_eight]
  simp only [ctxRow_at, woAll_at]
  have e : ∀ x : Fin 64, (⟨x.val, by have := x.isLt; omega⟩ : Fin 512) = hCol 0 x := fun x =>
    Fin.ext (by show x.val = 64 * 0 + x.val; omega)
  simp only [e]
  rfl

/-- and of the second. -/
theorem out1_at (wo : Vec Ideal S512x768 .f32) (X : Vec Ideal S16x512x64 .bf16) (s : Fin 512) (n : Fin 768) :
    out1 wo X (ix3 0 s n) = outSum wo X 1 s n := by
  unfold out1
  pointwise [k0_pay174, k0_pay172, k0_pay171, k0_pay167, k0_pay173]
  rw [outSum, Fin.sum_univ_eight]
  simp only [ctxRow_at, woAll_at]
  have e : ∀ x : Fin 64, (⟨x.val, by have := x.isLt; omega⟩ : Fin 512) = hCol 0 x := fun x =>
    Fin.ext (by show x.val = 64 * 0 + x.val; omega)
  simp only [e]
  rfl

/-- The output at an entry. -/
theorem OUT_at (I : Dev nD → Ins Ideal) (c : Dev nD) (b : Fin 2) (s : Fin 512) (n : Fin 768) :
    OUT I c (ix3 b s n) = outSum (I c).wo (CF I) b s n := by
  rcases (by omega : b.val = 0 ∨ b.val = 1) with h | h
  · rw [show b = 0 from Fin.ext h, ← out0_at, ix3_eq_valueIdx 0 s n]
    rfl
  · rw [show b = 1 from Fin.ext h, ← out1_at, ix3_eq_valueIdx 0 s n]
    rfl

end Cert.KProof
-- ==== Proof.ValueR.lean ====
module
public import proofs.«01_k».proof.Proof.ValueK
public import proofs.«01_k».proof.Proof.Gen.ReferenceIdeal.Run
public import Idealize.ShloMosaic.Lib.Pointwise

/-! What the reference computes, stage by stage, and each stage at an entry. -/

@[expose] public section
noncomputable section
namespace Cert.KProof.Ref
open Cert.ReferenceIdeal Cert.ReferenceIdeal.Gen
open Idealize.ShloMosaic
open Idealize.ShloMosaic.TcCoe

/-- The block of sixty-four of each query position, -/
def rq : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))
/-- and of each key position. -/
def rk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))
/-- The query's blocks as a column, -/
def rq1 : IVec S512x1 32 := broadcastInDim S512x1 ![0] bcast_S512_S512x1_0 rq
/-- and the key's as a row. -/
def rk1 : IVec S1x8192 32 := broadcastInDim S1x8192 ![1] bcast_S8192_S1x8192_1 rk
/-- The query's blocks modulo four, -/
def rqm : IVec S512x1 32 :=
  select (andi (cmpi .ne (cmpi .slt (Host.remsi rq1 (broadcastInDim S512x1 ![] bcast_S_S512x1 (select (cmpi .eq (id (constantI S_ 32 4#32)) (constantI S_ 32 0#32)) (constantI S_ 32 1#32) (id (constantI S_ 32 4#32))))) (broadcastInDim S512x1 ![] bcast_S_S512x1 (constantI S_ 32 0#32))) (broadcastInDim S512x1 ![] bcast_S_S512x1 (cmpi .slt (select (cmpi .eq (id (constantI S_ 32 4#32)) (constantI S_ 32 0#32)) (constantI S_ 32 1#32) (id (constantI S_ 32 4#32))) (constantI S_ 32 0#32)))) (cmpi .ne (Host.remsi rq1 (broadcastInDim S512x1 ![] bcast_S_S512x1 (select (cmpi .eq (id (constantI S_ 32 4#32)) (constantI S_ 32 0#32)) (constantI S_ 32 1#32) (id (constantI S_ 32 4#32))))) (broadcastInDim S512x1 ![] bcast_S_S512x1 (constantI S_ 32 0#32))))
    (addi (Host.remsi rq1 (broadcastInDim S512x1 ![] bcast_S_S512x1 (select (cmpi .eq (id (constantI S_ 32 4#32)) (constantI S_ 32 0#32)) (constantI S_ 32 1#32) (id (constantI S_ 32 4#32))))) (broadcastInDim S512x1 ![] bcast_S_S512x1 (select (cmpi .eq (id (constantI S_ 32 4#32)) (constantI S_ 32 0#32)) (constantI S_ 32 1#32) (id (constantI S_ 32 4#32))))) (Host.remsi rq1 (broadcastInDim S512x1 ![] bcast_S_S512x1 (select (cmpi .eq (id (constantI S_ 32 4#32)) (constantI S_ 32 0#32)) (constantI S_ 32 1#32) (id (constantI S_ 32 4#32)))))
/-- and the key's. -/
def rkm : IVec S1x8192 32 :=
  select (andi (cmpi .ne (cmpi .slt (Host.remsi rk1 (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (constantI S_ 32 0#32))) (broadcastInDim S1x8192 ![] bcast_S_S1x8192 (cmpi .slt (select (cmpi .eq (id (constantI S_ 32 4#32)) (constantI S_ 32 0#32)) (constantI S_ 32 1#32) (id (constantI S_ 32 4#32))) (constantI S_ 32 0#32)))) (cmpi .ne (Host.remsi rk1 (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (constantI S_ 32 0#32))))
    (addi (Host.remsi rk1 (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (select (cmpi .eq (id (constantI S_ 32 4#32)) (constantI S_ 32 0#32)) (constantI S_ 32 1#32) (id (constantI S_ 32 4#32))))) (Host.remsi rk1 (broadcastInDim S1x8192 ![] bcast_S_S1x8192 (select (cmpi .eq (id (constantI S_ 32 4#32)) (constantI S_ 32 0#32)) (constantI S_ 32 1#32) (id (constantI S_ 32 4#32)))))
/-- The mask. -/
def rmask : IVec S512x8192 1 :=
  ori (cmpi .eq (broadcastInDim S512x8192 ![0, 1] bcast_S512x1_S512x8192_0_1 rq1) (broadcastInDim S512x8192 ![0, 1] bcast_S1x8192_S512x8192_0_1 rk1))
    (cmpi .eq (broadcastInDim S512x8192 ![0, 1] bcast_S1x8192_S512x8192_0_1 rkm) (broadcastInDim S512x8192 ![0, 1] bcast_S512x1_S512x8192_0_1 rqm))
/-- The queries. -/
def rQ (x : FVec Ideal S2x512x768 .f32) (wq : FVec Ideal S768x512 .f32) : FVec Ideal S2x512x8x64 .f32 :=
  shapeCast S2x512x8x64 (Host.dotGeneral dot_S2x512x768_S768x512_S2x512x512_2_0_01_1_n_n none x wq) shapeCasts_S2x512x512_S2x512x8x64
/-- The scaled scores. -/
def rS (x : FVec Ideal S2x512x768 .f32) (wq : FVec Ideal S768x512 .f32) (k : FVec Ideal S2x8192x8x64 .f32) : FVec Ideal S2x8x512x8192 .f32 :=
  mulf (Host.dotGeneral dot_S2x512x8x64_S2x8192x8x64_S2x8x512x8192_3_3_1_1_02_02 none (rQ x wq) k)
    (broadcastInDim S2x8x512x8192 ![] bcast_S_S2x8x512x8192 (constant S_ .f32 0x3E000000#32))
/-- The masked scores. -/
def rM (s : FVec Ideal S2x8x512x8192 .f32) : FVec Ideal S2x8x512x8192 .f32 :=
  select (broadcastInDim S2x8x512x8192 ![0, 1, 2, 3] bcast_S1x1x512x8192_S2x8x512x8192_0_1_2_3 (broadcastInDim S1x1x512x8192 ![2, 3] bcast_S512x8192_S1x1x512x8192_2_3 rmask))
    s (broadcastInDim S2x8x512x8192 ![] bcast_S_S2x8x512x8192 (id (constant S_ .f32 0xFF800000#32)))
/-- The largest score of each row. -/
def rX (s : FVec Ideal S2x8x512x8192 .f32) : FVec Ideal S2x8x512 .f32 :=
  Host.reduce FloatOps.maximumf (rM s) (constant S_ .f32 0xFF800000#32) reducesTo_S2x8x512x8192_S2x8x512_d3 h_S_
/-- The exponentials. -/
def rE (s : FVec Ideal S2x8x512x8192 .f32) : FVec Ideal S2x8x512x8192 .f32 :=
  Host.exp (subf (rM s) (broadcastInDim S2x8x512x8192 ![0, 1, 2, 3] bcast_S2x8x512x1_S2x8x512x8192_0_1_2_3
    (broadcastInDim S2x8x512x1 ![0, 1, 2] bcast_S2x8x512_S2x8x512x1_0_1_2 (rX s))))
/-- Which rows admit a key. -/
def rKeep : IVec S512 1 := Host.reduce IntOp.ori rmask (constantI S_ 1 0#1) reducesTo_S512x8192_S512_d1 h_S_
/-- The sums of the exponentials. -/
def rSum (s : FVec Ideal S2x8x512x8192 .f32) : FVec Ideal S2x8x512x1 .f32 :=
  select (broadcastInDim S2x8x512x1 ![0, 1, 2, 3] bcast_S1x1x512x1_S2x8x512x1_0_1_2_3 (broadcastInDim S1x1x512x1 ![2] bcast_S512_S1x1x512x1_2 rKeep))
    (broadcastInDim S2x8x512x1 ![0, 1, 2] bcast_S2x8x512_S2x8x512x1_0_1_2 (Host.reduceAdd (rE s) (constant S_ .f32 0x00000000#32) reducesTo_S2x8x512x8192_S2x8x512_d3 h_S_))
    (broadcastInDim S2x8x512x1 ![] bcast_S_S2x8x512x1 (id (constant S_ .f32 0x3F800000#32)))
/-- The weights. -/
def rW (s : FVec Ideal S2x8x512x8192 .f32) : FVec Ideal S2x8x512x8192 .f32 :=
  select (broadcastInDim S2x8x512x8192 ![0, 1, 2, 3] bcast_S1x1x512x1_S2x8x512x8192_0_1_2_3 (broadcastInDim S1x1x512x1 ![2] bcast_S512_S1x1x512x1_2 rKeep))
    (Host.divf (rE s) (broadcastInDim S2x8x512x8192 ![0, 1, 2, 3] bcast_S2x8x512x1_S2x8x512x8192_0_1_2_3 (rSum s)))
    (broadcastInDim S2x8x512x8192 ![] bcast_S_S2x8x512x8192 (id (constant S_ .f32 0x00000000#32)))
/-- The context. -/
def rC (v : FVec Ideal S2x8192x8x64 .f32) (w : FVec Ideal S2x8x512x8192 .f32) : FVec Ideal S2x512x512 .f32 :=
  shapeCast S2x512x512 (transpose S2x512x8x64 [0, 3, 1, 2] (Host.dotGeneral dot_S2x8192x8x64_S2x8x512x8192_S2x8x64x512_1_3_3_2_02_01 none v w)
    transposes_S2x8x64x512_S2x512x8x64_0_3_1_2) shapeCasts_S2x512x8x64_S2x512x512
/-- The reference's result. -/
def rO (x : FVec Ideal S2x512x768 .f32) (wq : FVec Ideal S768x512 .f32) (k v : FVec Ideal S2x8192x8x64 .f32) (wo : FVec Ideal S512x768 .f32) :
    FVec Ideal S2x512x768 .f32 :=
  Host.dotGeneral dot_S2x512x512_S512x768_S2x512x768_2_0_01_1_n_n none (rC v (rW (rS x wq k))) wo

/-- The run's result is the last stage. -/
theorem result_eq (m : (ℓ : Loc nD τ sig) → Buf (Elt Ideal) ℓ) (c : Dev nD) :
    Cert.ReferenceIdeal.Value.res_out0 m c
      = rO (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-- The sign of a word. -/
def wSign (x : BitVec 32) : BitVec 32 := if x = 0 then 0 else if x.msb = true then -1 else 1

/-- A word divided by sixty-four, rounded down, as the reference spells it. -/
def wFloor (x : BitVec 32) : BitVec 32 :=
  Scalar.select
    (IntOp.andi
      (IntOp.cmpi .ne (wSign x) (wSign 64#32))
      (IntOp.cmpi .ne (IntOp.remsi .host x 64#32) 0#32))
    (IntOp.subi (IntOp.divsi .host x 64#32) 1#32) (IntOp.divsi .host x 64#32)

/-- A word modulo another, with the other's sign, as the reference spells it. -/
def wRem (x y : BitVec 32) : BitVec 32 :=
  Scalar.select
    (IntOp.andi (IntOp.cmpi .ne (IntOp.cmpi .slt (IntOp.remsi .host x y) 0#32) (IntOp.cmpi .slt y 0#32)) (IntOp.cmpi .ne (IntOp.remsi .host x y) 0#32))
    (IntOp.addi (IntOp.remsi .host x y) y) (IntOp.remsi .host x y)

/-- The reference's division of a position by sixty-four is the division of numbers. -/
theorem wFloor_small (n : Fin 8192) : wFloor (BitVec.ofNat 32 n.val) = BitVec.ofNat 32 (n.val / 64) := by
  revert n
  decide +kernel

/-- The reference's remainder by four is the remainder of numbers. -/
theorem wRem_small (n : Fin 128) : wRem (BitVec.ofNat 32 n.val) 4#32 = BitVec.ofNat 32 (n.val % 4) := by
  revert n
  decide +kernel

/-- A query's block, -/
theorem rq_at (r : Fin 512) : rq (ix1 r) = BitVec.ofNat 32 (r.val / 64) := by
  have e : rq (ix1 r) = wFloor (BitVec.ofNat 32 r.val) := by
    pointwise [rq]
    rfl
  rw [e]
  exact wFloor_small ⟨r.val, by omega⟩

/-- a key's block, -/
theorem rk_at (t : Fin 8192) : rk (ix1 t) = BitVec.ofNat 32 (t.val / 64) := by
  have e : rk (ix1 t) = wFloor (BitVec.ofNat 32 t.val) := by
    pointwise [rk]
    rfl
  rw [e]
  exact wFloor_small t

/-- the query's as a column, -/
theorem rq1_at (r : Fin 512) : rq1 (ix2 r 0) = BitVec.ofNat 32 (r.val / 64) := by
  pointwise [rq1]
  exact rq_at r

/-- the key's as a row, -/
theorem rk1_at (t : Fin 8192) : rk1 (ix2 0 t) = BitVec.ofNat 32 (t.val / 64) := by
  pointwise [rk1]
  exact rk_at t

/-- the query's modulo four, -/
theorem rqm_at (r : Fin 512) : rqm (ix2 r 0) = BitVec.ofNat 32 (r.val / 64 % 4) := by
  have e : rqm (ix2 r 0) = wRem (rq1 (ix2 r 0)) 4#32 := by
    pointwise [rqm]
    rfl
  rw [e, rq1_at]
  exact wRem_small ⟨r.val / 64, by omega⟩

/-- and the key's. -/
theorem rkm_at (t : Fin 8192) : rkm (ix2 0 t) = BitVec.ofNat 32 (t.val / 64 % 4) := by
  have e : rkm (ix2 0 t) = wRem (rk1 (ix2 0 t)) 4#32 := by
    pointwise [rkm]
    rfl
  rw [e, rk1_at]
  exact wRem_small ⟨t.val / 64, by omega⟩

/-- A query row and a key row whose blocks of sixty-four positions agree modulo four. -/
def Far (r : Fin 512) (t : Fin 8192) : Prop := r.val / 64 % 4 = t.val / 64 % 4

instance (r : Fin 512) : DecidablePred (Far r) := fun t => inferInstanceAs (Decidable (r.val / 64 % 4 = t.val / 64 % 4))

/-- Equality of two small words. -/
theorem cmp_small (a b : Nat) (ha : a < 128) (hb : b < 128) :
    IntOp.cmpi .eq (BitVec.ofNat 32 a) (BitVec.ofNat 32 b) = if a = b then 1#1 else 0#1 := by
  have h : ∀ a b : Fin 128, IntOp.cmpi .eq (BitVec.ofNat 32 a.val) (BitVec.ofNat 32 b.val) = if a.val = b.val then 1#1 else 0#1 := by
    decide +kernel
  exact h ⟨a, ha⟩ ⟨b, hb⟩

/-- The mask admits exactly the keys that agree with the query modulo four. -/
theorem rmask_at (r : Fin 512) (t : Fin 8192) : rmask (ix2 r t) = if Far r t then 1#1 else 0#1 := by
  have e : rmask (ix2 r t) = IntOp.ori (IntOp.cmpi .eq (rq1 (ix2 r 0)) (rk1 (ix2 0 t))) (IntOp.cmpi .eq (rkm (ix2 0 t)) (rqm (ix2 r 0))) := by
    pointwise [rmask]
  rw [e, rq1_at, rk1_at, rqm_at, rkm_at, cmp_small _ _ (by omega) (by omega), cmp_small _ _ (by omega) (by omega)]
  by_cases h : Far r t
  · have h' : r.val / 64 % 4 = t.val / 64 % 4 := h
    rw [if_pos h, if_pos h'.symm]
    split <;> rfl
  · have h' : ¬ r.val / 64 % 4 = t.val / 64 % 4 := h
    rw [if_neg h, if_neg (fun x : r.val / 64 = t.val / 64 => h' (congrArg (· % 4) x)), if_neg (fun x : t.val / 64 % 4 = r.val / 64 % 4 => h' x.symm)]
    rfl

/-- A key of a row's own block is admitted. -/
theorem far_self (r : Fin 512) : Far r ⟨r.val, by omega⟩ := rfl

/-- Every row admits a key. -/
theorem rKeep_at (r : Fin 512) : rKeep (ix1 r) = 1#1 := by
  pointwise [rKeep]
  rw [← Finset.insert_erase (Finset.mem_univ (⟨r.val, by omega⟩ : Fin 8192)), Finset.fold_insert (Finset.notMem_erase _ _), rmask_at,
    if_pos (far_self r)]
  generalize Finset.fold IntOp.ori (0#1) _ _ = x
  revert x
  decide

/-- The masked scores are minus infinity where the mask does not admit. -/
theorem rM_at (s : FVec Ideal S2x8x512x8192 .f32) (b : Fin 2) (h : Fin 8) (r : Fin 512) (t : Fin 8192) :
    rM s (ix4 b h r t) = masked (Far r) (fun t => s (ix4 b h r t)) t := by
  pointwise [rM]
  rw [rmask_at, masked]
  by_cases e : Far r t
  · rw [if_pos e, if_pos e]; rfl
  · rw [if_neg e, if_neg e]
    show Ideal.ofBits .f32 0xFF800000#32 = ⊥
    simp [Ideal.ofBits, Ideal.ieee]

/-- The largest masked score of a row. -/
theorem rX_at (s : FVec Ideal S2x8x512x8192 .f32) (b : Fin 2) (h : Fin 8) (r : Fin 512)  :
    rX s (ix3 b h r) = Finset.univ.fold max (⊥ : EReal) (masked (Far r) (fun t => s (ix4 b h r t))) := by
  have z : Ideal.ofBits .f32 0xFF800000#32 = ⊥ := by simp [Ideal.ofBits, Ideal.ieee]
  pointwise [rX]
  rw [z]
  simp only [rM_at]

/-- The exponential of a score less the largest. -/
theorem rE_at (s : FVec Ideal S2x8x512x8192 .f32) (b : Fin 2) (h : Fin 8) (r : Fin 512) (t : Fin 8192) :
    rE s (ix4 b h r t) = Ideal.exp (rM s (ix4 b h r t) - rX s (ix3 b h r)) := by
  pointwise [rE]

/-- A row's sum of exponentials: each row is kept. -/
theorem rSum_at (s : FVec Ideal S2x8x512x8192 .f32) (b : Fin 2) (h : Fin 8) (r : Fin 512) :
    rSum s (ix4 b h r 0) = ∑ t, rE s (ix4 b h r t) := by
  pointwise [rSum]
  rw [rKeep_at]
  rfl

/-- A choice by the bit one. -/
theorem select_one {α : Type} (x y : α) : Scalar.select (1#1) x y = x := rfl

/-- The weights' operations at an entry, of any kept rows, exponentials and sums. -/
theorem weigh_at (keep : IVec S512 1) (E : FVec Ideal S2x8x512x8192 .f32) (D : FVec Ideal S2x8x512x1 .f32)
    (b : Fin 2) (h : Fin 8) (r : Fin 512) (t : Fin 8192) (hk : keep (ix1 r) = 1#1) :
    select (broadcastInDim S2x8x512x8192 ![0, 1, 2, 3] bcast_S1x1x512x1_S2x8x512x8192_0_1_2_3 (broadcastInDim S1x1x512x1 ![2] bcast_S512_S1x1x512x1_2 keep))
      (Host.divf E (broadcastInDim S2x8x512x8192 ![0, 1, 2, 3] bcast_S2x8x512x1_S2x8x512x8192_0_1_2_3 D))
      (broadcastInDim S2x8x512x8192 ![] bcast_S_S2x8x512x8192 (id (constant S_ .f32 0x00000000#32))) (ix4 b h r t)
      = Ideal.div (E (ix4 b h r t)) (D (ix4 b h r 0)) := by
  pointwise
  rw [hk]
  exact select_one _ _

/-- A weight: an exponential divided by the sum of its row. -/
theorem rW_at (s : FVec Ideal S2x8x512x8192 .f32) (b : Fin 2) (h : Fin 8) (r : Fin 512) (t : Fin 8192) :
    rW s (ix4 b h r t) = Ideal.div (rE s (ix4 b h r t)) (∑ t, rE s (ix4 b h r t)) := by
  rw [rW, weigh_at _ _ _ b h r t (rKeep_at r), rSum_at]

/-- The queries by head. -/
theorem rQ_at (x : FVec Ideal S2x512x768 .f32) (wq : FVec Ideal S768x512 .f32) (b : Fin 2) (r : Fin 512) (h : Fin 8) (d : Fin 64) :
    rQ x wq (ix4 b r h d) = ∑ k : Fin 768, x (ix3 b r k) * wq (ix2 k (hCol h d)) := by
  have e : ∀ p, (⟨h.val * 64 + d.val, p⟩ : Fin 512) = hCol h d := fun _ => Fin.ext (by show h.val * 64 + d.val = 64 * h.val + d.val; omega)
  pointwise [rQ]
  simp only [e]

/-- The scaled score of a query row against a key. -/
def rScore (x : FVec Ideal S2x512x768 .f32) (wq : FVec Ideal S768x512 .f32) (k : FVec Ideal S2x8192x8x64 .f32)
    (b : Fin 2) (h : Fin 8) (r : Fin 512) (t : Fin 8192) : EReal :=
  (∑ d : Fin 64, (∑ e : Fin 768, x (ix3 b r e) * wq (ix2 e (hCol h d))) * k (ix4 b t h d)) * eighth

/-- The scaled scores. -/
theorem rS_at (x : FVec Ideal S2x512x768 .f32) (wq : FVec Ideal S768x512 .f32) (k : FVec Ideal S2x8192x8x64 .f32)
    (b : Fin 2) (h : Fin 8) (r : Fin 512) (t : Fin 8192) : rS x wq k (ix4 b h r t) = rScore x wq k b h r t := by
  pointwise [rS]
  simp only [rQ_at]
  rfl

/-- The context: a head's values, weighted. -/
theorem rC_at (v : FVec Ideal S2x8192x8x64 .f32) (w : FVec Ideal S2x8x512x8192 .f32) (b : Fin 2) (r : Fin 512) (h : Fin 8) (d : Fin 64) :
    rC v w (ix3 b r (hCol h d)) = ∑ t, v (ix4 b t h d) * w (ix4 b h r t) := by
  have e1 : ∀ p, (⟨(hCol h d).val / 64, p⟩ : Fin 8) = h := fun _ => Fin.ext (by show (64 * h.val + d.val) / 64 = h.val; omega)
  have e2 : ∀ p, (⟨(hCol h d).val % 64, p⟩ : Fin 64) = d := fun _ => Fin.ext (by show (64 * h.val + d.val) % 64 = d.val; omega)
  pointwise [rC]
  simp only [e1, e2]

/-- The output projection. -/
theorem rO_dot (c : FVec Ideal S2x512x512 .f32) (wo : FVec Ideal S512x768 .f32) (b : Fin 2) (r : Fin 512) (n : Fin 768) :
    Host.dotGeneral dot_S2x512x512_S512x768_S2x512x768_2_0_01_1_n_n none c wo (ix3 b r n) = ∑ u : Fin 512, c (ix3 b r u) * wo (ix2 u n) := by
  pointwise

/-- A sum over the columns, by head and coordinate. -/
theorem sum_cols (f : Fin 512 → EReal) : ∑ u, f u = ∑ h : Fin 8, ∑ d : Fin 64, f (hCol h d) := by
  rw [← Fintype.sum_prod_type' (f := fun h d => f (hCol h d))]
  refine (Fintype.sum_equiv (finProdFinEquiv (m := 8) (n := 64)) _ _ fun p => ?_).symm
  congr 1
  exact Fin.ext (by show 64 * p.1.val + p.2.val = p.2.val + 64 * p.1.val; omega)

/-- The reference's result at an entry, when the scores are real: each head's weighted mean of the value rows of the admitted keys, projected. -/
theorem rO_at (x : FVec Ideal S2x512x768 .f32) (wq : FVec Ideal S768x512 .f32) (k v : FVec Ideal S2x8192x8x64 .f32) (wo : FVec Ideal S512x768 .f32)
    (s : Fin 2 → Fin 8 → Fin 512 → Fin 8192 → ℝ) (hs : ∀ b h r t, rScore x wq k b h r t = (s b h r t : EReal))
    (b : Fin 2) (r : Fin 512) (n : Fin 768) :
    rO x wq k v wo (ix3 b r n) = ∑ h : Fin 8, ∑ d : Fin 64,
      Ideal.div (∑ t, expo (Far r) (fun t => (s b h r t : EReal)) t * v (ix4 b t h d)) (∑ t, expo (Far r) (fun t => (s b h r t : EReal)) t)
        * wo (ix2 (hCol h d) n) := by
  rw [rO, rO_dot, sum_cols]
  refine Finset.sum_congr rfl fun h _ => Finset.sum_congr rfl fun d _ => ?_
  have e : (fun t => rS x wq k (ix4 b h r t)) = fun t => (s b h r t : EReal) := funext fun t => by rw [rS_at, hs]
  rw [softmax_mean (Far r) (s b h r) (fun t => v (ix4 b t h d)) ⟨_, far_self r⟩, rC_at]
  simp only [rW_at, rE_at, rX_at, rM_at, e]

end Cert.KProof.Ref
-- ==== Proof.Agree.lean ====
module
public import proofs.«01_k».proof.Proof.ValueR
public import Idealize.ShloMosaic.Lib.Layout
public import Idealize.ShloMosaic.Lib.ReduceAll

/-! The kernel's value on blocks of the keys and the values is the reference's value on the whole arrays. -/

@[expose] public section
noncomputable section
namespace Cert.KProof
open Cert.ReferenceIdeal Cert.ReferenceIdeal.Gen
open Idealize.ShloMosaic
open Idealize.ShloMosaic.TcCoe

/-- The position, in the whole sequence, of a position of a device's block. -/
def far (e : Fin 16) (t : Fin 512) : Fin 8192 := ⟨512 * e.val + t.val, by have := e.isLt; have := t.isLt; omega⟩

/-- A sum over the whole sequence, by device and position. -/
theorem sum_far (f : Fin 8192 → EReal) : ∑ t, f t = ∑ e : Fin 16, ∑ t : Fin 512, f (far e t) := by
  rw [← Fintype.sum_prod_type' (f := fun e t => f (far e t))]
  refine (Fintype.sum_equiv (finProdFinEquiv (m := 16) (n := 512)) _ _ fun p => ?_).symm
  congr 1
  exact Fin.ext (by show 512 * p.1.val + p.2.val = p.2.val + 512 * p.1.val; omega)

/-- A device's block is a whole number of periods of the mask. -/
theorem near_iff (r : Fin 512) (e : Fin 16) (t : Fin 512) : Near r t ↔ Ref.Far r (far e t) := by
  show r.val / 64 % 4 = t.val / 64 % 4 ↔ r.val / 64 % 4 = (512 * e.val + t.val) / 64 % 4
  omega

/-- What the devices hold: copies of the input, the weights, and a block each of the keys and the values. -/
structure Holds (I : Fin 16 → Ins Ideal) (x : FVec Ideal S2x512x768 .f32) (wq : FVec Ideal S768x512 .f32) (k v : FVec Ideal S2x8192x8x64 .f32)
    (wo : FVec Ideal S512x768 .f32) : Prop where
  x : ∀ e, (I e).x = x
  wq : ∀ e, (I e).wq = wq
  k : ∀ e b t h d, (I e).k (ix4 b t h d) = k (ix4 b (far e t) h d)
  v : ∀ e b t h d, (I e).v (ix4 b t h d) = v (ix4 b (far e t) h d)
  wo : ∀ e, (I e).wo = wo

variable {I : Fin 16 → Ins Ideal} {x : FVec Ideal S2x512x768 .f32} {wq : FVec Ideal S768x512 .f32} {k v : FVec Ideal S2x8192x8x64 .f32}
  {wo : FVec Ideal S512x768 .f32}

/-- A device's score of its own key is the whole sequence's. -/
theorem score_eq (H : Holds I x wq k v wo) (e : Fin 16) (b : Fin 2) (h : Fin 8) (r t : Fin 512) :
    score (I e) b h r t = Ref.rScore x wq k b h r (far e t) := by
  simp only [score, Ref.rScore, H.x, H.wq, H.k]

/-- A device's weight of a key is the whole sequence's. -/
theorem expo_eq (H : Holds I x wq k v wo) (e : Fin 16) (b : Fin 2) (h : Fin 8) (r t : Fin 512) :
    expo (Near r) (score (I e) b h r) t = expo (Ref.Far r) (Ref.rScore x wq k b h r) (far e t) := by
  unfold expo
  rw [score_eq H]
  exact if_congr (near_iff r e t) rfl rfl

/-- The batch of a batch and a head. -/
theorem gB_pair (b : Fin 2) (h : Fin 8) : gB (pair b h) = b := Fin.ext (by show (8 * b.val + h.val) / 8 = b.val; omega)
/-- The head of a batch and a head. -/
theorem gH_pair (b : Fin 2) (h : Fin 8) : gH (pair b h) = h := Fin.ext (by show (8 * b.val + h.val) % 8 = h.val; omega)

/-- The combined context of a row is the weighted mean over the whole sequence. -/
theorem ctx_eq (H : Holds I x wq k v wo) (b : Fin 2) (h : Fin 8) (r : Fin 512) (d : Fin 64) :
    CF I (ix3 (pair b h) r d)
      = Ideal.div (∑ t, expo (Ref.Far r) (Ref.rScore x wq k b h r) t * v (ix4 b t h d)) (∑ t, expo (Ref.Far r) (Ref.rScore x wq k b h r) t) := by
  rw [CF_at, sum_far, sum_far]
  simp only [OA_at, SA_at, gB_pair, gH_pair, expo_eq H, H.v]

/-- The kernel's output is the reference's, when the scores are real. -/
theorem out_eq (H : Holds I x wq k v wo) (s : Fin 2 → Fin 8 → Fin 512 → Fin 8192 → ℝ)
    (hs : ∀ b h r t, Ref.rScore x wq k b h r t = (s b h r t : EReal)) (c : Fin 16) : OUT I c = Ref.rO x wq k v wo := by
  funext i
  obtain ⟨b, r, n, rfl⟩ : ∃ (b : Fin 2) (r : Fin 512) (n : Fin 768), i = ix3 b r n := ⟨_, _, _, eq_ix3 i⟩
  rw [OUT_at, Ref.rO_at x wq k v wo s hs, outSum]
  refine Finset.sum_congr rfl fun h _ => Finset.sum_congr rfl fun d _ => ?_
  have e : Ref.rScore x wq k b h r = fun t => (s b h r t : EReal) := funext fun t => hs b h r t
  rw [ctx_eq H, e, H.wo]

/-- Scores of real queries and keys are real. -/
theorem score_real (x' : S2x512x768.Idx → ℝ) (wq' : S768x512.Idx → ℝ) (k' : S2x8192x8x64.Idx → ℝ) (hx : ∀ i, x i = (x' i : EReal))
    (hwq : ∀ i, wq i = (wq' i : EReal)) (hk : ∀ i, k i = (k' i : EReal)) :
    ∃ s : Fin 2 → Fin 8 → Fin 512 → Fin 8192 → ℝ, ∀ b h r t, Ref.rScore x wq k b h r t = (s b h r t : EReal) := by
  obtain ⟨c, hc⟩ := eighth_real
  refine ⟨fun b h r t => (∑ d : Fin 64, (∑ e : Fin 768, x' (ix3 b r e) * wq' (ix2 e (hCol h d))) * k' (ix4 b t h d)) * c, fun b h r t => ?_⟩
  simp only [Ref.rScore, hx, hwq, hk, hc, EReal.coe_mul, coe_sum]

/-- An extended real whose absolute value is below infinity is real. -/
theorem real_of_abs (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have z : Ideal.ofBits .f32 0x7F800000#32 = ⊤ := by simp [Ideal.ofBits, Ideal.ieee]
  rw [z] at h
  induction x with
  | bot => exact absurd h (by decide)
  | coe r => exact ⟨r, rfl⟩
  | top => exact absurd h (by decide)

end Cert.KProof
-- ==== Proof.ValueC.lean ====
module
public import proofs.«01_k».proof.Proof.Both
public import proofs.«01_k».proof.Proof.ValueR
public import Idealize.ShloMosaic.Lib.Pipeline.ValueKit.Geometry

/-! The arrays of the launch and of the end of the run, as the kernel's value reads them. -/

@[expose] public section
noncomputable section
namespace Cert.KProof
open Cert.KernelIdeal Cert.KernelIdeal.Gen
open Idealize.ShloMosaic Idealize.SL.Sem
open Idealize.ShloMosaic.TcCoe
open Idealize.ShloMosaic.Pipeline
variable {F : FTy → Type} [FloatOps F]
variable (m : (ℓ : Loc nD τ sig) → Buf (Elt F) ℓ) (ρ : Dev nD → PrngReg)

/-! Each window's block is the whole array. -/

/-- The whole array of the input. -/
theorem ins_x (c : Dev nD) : (ins m c).x = m ((c : Thread nD τ).loc main_arg0) := by
  funext i
  show m ((c : Thread nD τ).loc main_arg0) ((win0_0.blk (0 : Fin 1)).view.emb i) = _
  congr 1
  funext a
  apply Fin.ext
  blk_simp
  have h : ∀ a, win0_0.index (0 : Fin 1) a = 0 := by decide
  rw [h a, Nat.zero_mul, Nat.zero_add]

/-- The whole array of the query's weights. -/
theorem ins_wq (c : Dev nD) : (ins m c).wq = m ((c : Thread nD τ).loc main_arg1) := by
  funext i
  show m ((c : Thread nD τ).loc main_arg1) ((win0_1.blk (0 : Fin 1)).view.emb i) = _
  congr 1
  funext a
  apply Fin.ext
  blk_simp
  have h : ∀ a, win0_1.index (0 : Fin 1) a = 0 := by decide
  rw [h a, Nat.zero_mul, Nat.zero_add]

/-- The whole array of the keys. -/
theorem ins_k (c : Dev nD) : (ins m c).k = m ((c : Thread nD τ).loc main_arg2) := by
  funext i
  show m ((c : Thread nD τ).loc main_arg2) ((win0_2.blk (0 : Fin 1)).view.emb i) = _
  congr 1
  funext a
  apply Fin.ext
  blk_simp
  have h : ∀ a, win0_2.index (0 : Fin 1) a = 0 := by decide
  rw [h a, Nat.zero_mul, Nat.zero_add]

/-- The whole array of the values. -/
theorem ins_v (c : Dev nD) : (ins m c).v = m ((c : Thread nD τ).loc main_arg3) := by
  funext i
  show m ((c : Thread nD τ).loc main_arg3) ((win0_3.blk (0 : Fin 1)).view.emb i) = _
  congr 1
  funext a
  apply Fin.ext
  blk_simp
  have h : ∀ a, win0_3.index (0 : Fin 1) a = 0 := by decide
  rw [h a, Nat.zero_mul, Nat.zero_add]

/-- The whole array of the output's weights. -/
theorem ins_wo (c : Dev nD) : (ins m c).wo = m ((c : Thread nD τ).loc main_arg4) := by
  funext i
  show m ((c : Thread nD τ).loc main_arg4) ((win0_4.blk (0 : Fin 1)).view.emb i) = _
  congr 1
  funext a
  apply Fin.ext
  blk_simp
  have h : ∀ a, win0_4.index (0 : Fin 1) a = 0 := by decide
  rw [h a, Nat.zero_mul, Nat.zero_add]

/-- The grid's one point. -/
def pt0 : Fin cfg0.N := ⟨0, by decide⟩

/-- The result array ends holding the computed output. -/
theorem final_out (c : Dev nD) : finalA m ρ c 5 = OUT (ins m) c :=
  (dats m ρ 0 c).arrAt_eq_of_after_last 5 pt0 (by decide +kernel) _ (fun _ => rfl)

end Cert.KProof
-- ==== Proof.Algebraic.lean ====
module
public import proofs.«01_k».proof.Proof.Agree
public import proofs.«01_k».proof.Proof.ValueC

/-! The value claim: on every device the kernel's result is the reference's. -/

@[expose] public section
noncomputable section
namespace Cert.KProof
open Idealize.ShloMosaic Idealize.SL.Sem
open Idealize.ShloMosaic.TcCoe

/-- The shape relations that the precondition states of one device's arrays, -/
theorem preFacts : Cert.Pre_finite_scores_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x8x64 := by decide
  reducesTo_S2x512x8x64_S_d0_1_2_3 := by decide

/-- and of the whole arrays. -/
theorem preFactsWhole : Cert.Pre_finite_scores_ReferenceIdeal.Facts where
  bcast_S_S2x512x768 := by decide
  reducesTo_S2x512x768_S_d0_1_2 := by decide
  h_S_ := by decide
  bcast_S_S768x512 := by decide
  reducesTo_S768x512_S_d0_1 := by decide
  bcast_S_S2x8192x8x64 := by decide
  reducesTo_S2x8192x8x64_S_d0_1_2_3 := by decide

instance : Subsingleton Cert.Pre_finite_scores_KernelIdeal.S_.Idx := ⟨fun a b => funext fun i => i.elim0⟩

/-- Two conditions whose conjunction is one are one. -/
theorem and_one : ∀ a b : BitVec 1, IntOp.andi a b = 1#1 → a = 1#1 ∧ b = 1#1 := by decide

/-- Where the precondition holds, the input, the query's weights and the keys are real. -/
theorem pre_real (x : FVec Ideal Cert.Pre_finite_scores_KernelIdeal.S2x512x768 .f32) (wq : FVec Ideal Cert.Pre_finite_scores_KernelIdeal.S768x512 .f32)
    (k v : FVec Ideal Cert.Pre_finite_scores_KernelIdeal.S2x512x8x64 .f32) (wo : FVec Ideal Cert.Pre_finite_scores_KernelIdeal.S512x768 .f32)
    (h : @Cert.Pre_finite_scores_KernelIdeal.fn preFacts Ideal _ x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h ix0
  obtain ⟨h1, hk⟩ := and_one _ _ h0
  obtain ⟨hx, hw⟩ := and_one _ _ h1
  exact ⟨fun i => real_of_abs _ (Host.reduce_andi_all _ _ _ _ _ hx i), fun i => real_of_abs _ (Host.reduce_andi_all _ _ _ _ _ hw i),
    fun i => real_of_abs _ (Host.reduce_andi_all _ _ _ _ _ hk i)⟩

/-- A device's block of an array whose second axis is dealt out to sixteen devices, at an entry. -/
theorem block_at (X : FVec Ideal Cert.ReferenceIdeal.S2x8192x8x64 .f32) (c : Fin 16) (b : Fin 2) (t : Fin 512) (h : Fin 8) (d : Fin 64) :
    Layout.block ⟨4, ![2, 512, 8, 64]⟩ ⟨4, ![2, 8192, 8, 64]⟩ 1 16 c X (by decide) (ix4 b t h d) = X (ix4 b (far c t) h d) := by
  rw [Layout.block_apply]
  congr 1
  funext a
  apply Fin.ext
  rw [Layout.Tiles.idx_val]
  fin_cases a
  · rfl
  · show c.val * 512 + t.val = 512 * c.val + t.val
    omega
  · rfl
  · rfl

/-- Every position of the whole sequence is a position of some device's block. -/
theorem exists_far (t : Fin 8192) : ∃ e t', t = far e t' :=
  ⟨⟨t.val / 512, by omega⟩, ⟨t.val % 512, by omega⟩, Fin.ext (by show t.val = 512 * (t.val / 512) + t.val % 512; omega)⟩

/-- On every device the kernel's result over the reals is the reference's, where the input, the query's weights and the keys are real. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preFacts) := by
  intro m g m' g' hpre hm
  refine ⟨Cert.ReferenceIdeal.Value.res_out0 m' 0, ?_, ?_⟩
  · have H : Holds (ins m) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)) :=
      { x := fun e => (ins_x m e).trans (hm e).1
        wq := fun e => (ins_wq m e).trans (hm e).2.1
        k := fun e b t h d => (congrFun ((ins_k m e).trans (hm e).2.2.1) (ix4 b t h d)).trans (block_at _ e b t h d)
        v := fun e b t h d => (congrFun ((ins_v m e).trans (hm e).2.2.2.1) (ix4 b t h d)).trans (block_at _ e b t h d)
        wo := fun e => (ins_wo m e).trans (hm e).2.2.2.2 }
    have hx := fun i => (pre_real _ _ _ _ _ (hpre 0)).1 i
    have hw := fun i => (pre_real _ _ _ _ _ (hpre 0)).2.1 i
    have hk := fun e i => (pre_real _ _ _ _ _ (hpre e)).2.2 i
    rw [(hm 0).1] at hx
    rw [(hm 0).2.1] at hw
    have hk' : ∀ i, ∃ r : ℝ, (m' (((0 : Dev Cert.ReferenceIdeal.nD).tc : Thread Cert.ReferenceIdeal.nD Cert.ReferenceIdeal.τ).loc Cert.ReferenceIdeal.main_arg2) :
        FVec Ideal Cert.ReferenceIdeal.S2x8192x8x64 .f32) i = (r : EReal) := by
      intro i
      obtain ⟨b, t, h, d, rfl⟩ : ∃ (b : Fin 2) (t : Fin 8192) (h : Fin 8) (d : Fin 64), i = ix4 b t h d := ⟨_, _, _, _, eq_ix4 i⟩
      obtain ⟨e, t', rfl⟩ := exists_far t
      rw [← H.k e b t' h d, ins_k]
      exact hk e _
    choose x' hx' using hx
    choose w' hw' using hw
    choose k' hk'' using hk'
    obtain ⟨s, hs⟩ := score_real x' w' k' hx' hw' hk''
    refine (θ_run Cert.KernelIdeal.defs _ _).mono (fun r h c => ⟨?_, ?_⟩) (run_main m g)
    · rw [Ref.result_eq, ← out_eq H s hs c]
      exact (h.1 c 5).trans (final_out m g c)
    · exact ⟨(h.1 c 0).trans ((dats m g 0 c).arrAt_in 0 rfl _), (h.1 c 1).trans ((dats m g 0 c).arrAt_in 1 rfl _),
        (h.1 c 2).trans ((dats m g 0 c).arrAt_in 2 rfl _), (h.1 c 3).trans ((dats m g 0 c).arrAt_in 3 rfl _),
        (h.1 c 4).trans ((dats m g 0 c).arrAt_in 4 rfl _)⟩
  · exact (θ_run Cert.ReferenceIdeal.defs _ _).mono (fun r h => h 0) (Cert.ReferenceIdeal.Value.run m' g')

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Both
public import proofs.«01_k».proof.Proof.Algebraic
public import Idealize.ShloMosaic.Adequacy
public import Idealize.ShloMosaic.Init
public import Idealize.ShloMosaic.Lib.Quiescent

/-! The claims, put together: the kernel's frames from Both, the reference's from its generated run, the
value claim from Algebraic. -/

@[expose] public section

noncomputable section

namespace Cert.Proof

open Idealize.ShloMosaic Idealize.SL.Sem

/-- The reference ends with its arguments unchanged and every semaphore at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run m ρ)

/-- Every claim of the certificate. The frames hold of every memory, so also where the precondition does. -/
theorem claim : Cert.Claim :=
  ⟨Cert.Kernel.Gen.facts, Cert.KernelIdeal.Gen.facts, Cert.ReferenceIdeal.Gen.facts, KProof.preFacts, KProof.preFactsWhole,
    KProof.frame_kernel, KProof.frame_ideal, fun m g _ => KProof.frame_ideal m g trivial, frame_reference,
    fun m g _ => frame_reference m g trivial, trivial, KProof.algebraic⟩

end Cert.Proof

end
